-- ==== Defs.lean ====
def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_forget_open [hPre_forget_open : Cert.Pre_forget_open.Facts] (m : (ℓ : Loc Cert.SampleIdeal.nD Cert.SampleIdeal.τ Cert.SampleIdeal.sig) → Buf (Elt Ideal) ℓ) : Prop :=
  ∀ c : Dev Cert.SampleIdeal.nD,
    (Cert.Pre_forget_open.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10))) = (fun _ => 1#1)

def Pre_SampleRefIdeal (m : (ℓ : Loc Cert.SampleRefIdeal.nD Cert.SampleRefIdeal.τ Cert.SampleRefIdeal.sig) → Buf (Elt Ideal) ℓ) : Prop :=
  True

def Pre_SampleRefIdeal_forget_open [hPre_forget_open : Cert.Pre_forget_open.Facts] (m : (ℓ : Loc Cert.SampleRefIdeal.nD Cert.SampleRefIdeal.τ Cert.SampleRefIdeal.sig) → Buf (Elt Ideal) ℓ) : Prop :=
  ∀ c : Dev Cert.SampleRefIdeal.nD,
    (Cert.Pre_forget_open.fn (F := Ideal) (m ((c.tc : Thread Cert.SampleRefIdeal.nD Cert.SampleRefIdeal.τ).loc Cert.SampleRefIdeal.main_arg0)) (m ((c.tc : Thread Cert.SampleRefIdeal.nD Cert.SampleRefIdeal.τ).loc Cert.SampleRefIdeal.main_arg1)) (m ((c.tc : Thread Cert.SampleRefIdeal.nD Cert.SampleRefIdeal.τ).loc Cert.SampleRefIdeal.main_arg2)) (m ((c.tc : Thread Cert.SampleRefIdeal.nD Cert.SampleRefIdeal.τ).loc Cert.SampleRefIdeal.main_arg3)) (m ((c.tc : Thread Cert.SampleRefIdeal.nD Cert.SampleRefIdeal.τ).loc Cert.SampleRefIdeal.main_arg4)) (m ((c.tc : Thread Cert.SampleRefIdeal.nD Cert.SampleRefIdeal.τ).loc Cert.SampleRefIdeal.main_arg5)) (m ((c.tc : Thread Cert.SampleRefIdeal.nD Cert.SampleRefIdeal.τ).loc Cert.SampleRefIdeal.main_arg6)) (m ((c.tc : Thread Cert.SampleRefIdeal.nD Cert.SampleRefIdeal.τ).loc Cert.SampleRefIdeal.main_arg7)) (m ((c.tc : Thread Cert.SampleRefIdeal.nD Cert.SampleRefIdeal.τ).loc Cert.SampleRefIdeal.main_arg8)) (m ((c.tc : Thread Cert.SampleRefIdeal.nD Cert.SampleRefIdeal.τ).loc Cert.SampleRefIdeal.main_arg9)) (m ((c.tc : Thread Cert.SampleRefIdeal.nD Cert.SampleRefIdeal.τ).loc Cert.SampleRefIdeal.main_arg10))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleIdeal_pre_forget_open [hSampleIdeal : Cert.SampleIdeal.Facts] [hPre_forget_open : Cert.Pre_forget_open.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_forget_open m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def quiescent_SampleRefIdeal_pre_forget_open [hSampleRefIdeal : Cert.SampleRefIdeal.Facts] [hPre_forget_open : Cert.Pre_forget_open.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal_forget_open m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9)
      ∧ r.2.mem ((c.tc : Thread Cert.SampleRefIdeal.nD Cert.SampleRefIdeal.τ).loc Cert.SampleRefIdeal.main_arg10) = m ((c.tc : Thread Cert.SampleRefIdeal.nD Cert.SampleRefIdeal.τ).loc Cert.SampleRefIdeal.main_arg10))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def preserves_Sample_SampleIdeal : Prop :=
  IdealRules.named_const.Statement Cert.SampleIdeal.κ "log2e" .f32 0x3FB8AA3B#32 (((Real.log 2)⁻¹ : ℝ) : EReal)

def algebraic_SampleIdeal_SampleRefIdeal_pre_forget_open [hSampleIdeal : Cert.SampleIdeal.Facts] [hSampleRefIdeal : Cert.SampleRefIdeal.Facts] [hPre_forget_open : Cert.Pre_forget_open.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal_forget_open m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)
      ∧ m' ((c.tc : Thread Cert.SampleRefIdeal.nD Cert.SampleRefIdeal.τ).loc Cert.SampleRefIdeal.main_arg10) = m ((c.tc : Thread Cert.SampleIdeal.nD Cert.SampleIdeal.τ).loc Cert.SampleIdeal.main_arg10)) →
    ∃ (v0 : (c : Dev Cert.SampleIdeal.nD) → Buf (Elt Ideal) ((c.tc : Thread Cert.SampleIdeal.nD Cert.SampleIdeal.τ).loc Cert.SampleIdeal.main_v71_0)) (v1 : (c : Dev Cert.SampleIdeal.nD) → Buf (Elt Ideal) ((c.tc : Thread Cert.SampleIdeal.nD Cert.SampleIdeal.τ).loc Cert.SampleIdeal.main_v71_1)) (v2 : (c : Dev Cert.SampleIdeal.nD) → Buf (Elt Ideal) ((c.tc : Thread Cert.SampleIdeal.nD Cert.SampleIdeal.τ).loc Cert.SampleIdeal.main_v73)) (v3 : (c : Dev Cert.SampleIdeal.nD) → Buf (Elt Ideal) ((c.tc : Thread Cert.SampleIdeal.nD Cert.SampleIdeal.τ).loc Cert.SampleIdeal.main_v75)) (v4 : (c : Dev Cert.SampleIdeal.nD) → Buf (Elt Ideal) ((c.tc : Thread Cert.SampleIdeal.nD Cert.SampleIdeal.τ).loc Cert.SampleIdeal.main_v71_3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v71_0) = v0 c
          ∧ r.2.mem ((c.tc : Thread Cert.SampleIdeal.nD Cert.SampleIdeal.τ).loc Cert.SampleIdeal.main_v71_1) = v1 c
          ∧ r.2.mem ((c.tc : Thread Cert.SampleIdeal.nD Cert.SampleIdeal.τ).loc Cert.SampleIdeal.main_v73) = v2 c
          ∧ r.2.mem ((c.tc : Thread Cert.SampleIdeal.nD Cert.SampleIdeal.τ).loc Cert.SampleIdeal.main_v75) = v3 c
          ∧ r.2.mem ((c.tc : Thread Cert.SampleIdeal.nD Cert.SampleIdeal.τ).loc Cert.SampleIdeal.main_v71_3) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v220) = v0 c
          ∧ r.2.mem ((c.tc : Thread Cert.SampleRefIdeal.nD Cert.SampleRefIdeal.τ).loc Cert.SampleRefIdeal.main_v92) = v1 c
          ∧ r.2.mem ((c.tc : Thread Cert.SampleRefIdeal.nD Cert.SampleRefIdeal.τ).loc Cert.SampleRefIdeal.main_v97) = v2 c
          ∧ r.2.mem ((c.tc : Thread Cert.SampleRefIdeal.nD Cert.SampleRefIdeal.τ).loc Cert.SampleRefIdeal.main_v71) = v3 c
          ∧ r.2.mem ((c.tc : Thread Cert.SampleRefIdeal.nD Cert.SampleRefIdeal.τ).loc Cert.SampleRefIdeal.main_v167) = v4 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9)
          ∧ r.2.mem ((c.tc : Thread Cert.SampleRefIdeal.nD Cert.SampleRefIdeal.τ).loc Cert.SampleRefIdeal.main_arg10) = m' ((c.tc : Thread Cert.SampleRefIdeal.nD Cert.SampleRefIdeal.τ).loc Cert.SampleRefIdeal.main_arg10))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v62_0)) (v1 : (c : Dev Cert.ProjIdeal.nD) → Buf (Elt Ideal) ((c.tc : Thread Cert.ProjIdeal.nD Cert.ProjIdeal.τ).loc Cert.ProjIdeal.main_v62_1)) (v2 : (c : Dev Cert.ProjIdeal.nD) → Buf (Elt Ideal) ((c.tc : Thread Cert.ProjIdeal.nD Cert.ProjIdeal.τ).loc Cert.ProjIdeal.main_v62_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v62_0) = v0 c
          ∧ r.2.mem ((c.tc : Thread Cert.ProjIdeal.nD Cert.ProjIdeal.τ).loc Cert.ProjIdeal.main_v62_1) = v1 c
          ∧ r.2.mem ((c.tc : Thread Cert.ProjIdeal.nD Cert.ProjIdeal.τ).loc Cert.ProjIdeal.main_v62_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v120) = v0 c
          ∧ r.2.mem ((c.tc : Thread Cert.ProjRefIdeal.nD Cert.ProjRefIdeal.τ).loc Cert.ProjRefIdeal.main_v123) = v1 c
          ∧ r.2.mem ((c.tc : Thread Cert.ProjRefIdeal.nD Cert.ProjRefIdeal.τ).loc Cert.ProjRefIdeal.main_v127) = v2 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v12_0)) (v1 : (c : Dev Cert.NormIdeal.nD) → Buf (Elt Ideal) ((c.tc : Thread Cert.NormIdeal.nD Cert.NormIdeal.τ).loc Cert.NormIdeal.main_v12_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v12_0) = v0 c
          ∧ r.2.mem ((c.tc : Thread Cert.NormIdeal.nD Cert.NormIdeal.τ).loc Cert.NormIdeal.main_v12_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v22) = v0 c
          ∧ r.2.mem ((c.tc : Thread Cert.NormRefIdeal.nD Cert.NormRefIdeal.τ).loc Cert.NormRefIdeal.main_v21) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def Claim : Prop :=
  ∃ (hSample : Cert.Sample.Facts) (hSampleIdeal : Cert.SampleIdeal.Facts) (hSampleRefIdeal : Cert.SampleRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hPre_forget_open : Cert.Pre_forget_open.Facts),
    quiescent_Sample (hSample := hSample)
    ∧ quiescent_SampleIdeal (hSampleIdeal := hSampleIdeal)
    ∧ quiescent_SampleIdeal_pre_forget_open (hSampleIdeal := hSampleIdeal) (hPre_forget_open := hPre_forget_open)
    ∧ quiescent_SampleRefIdeal (hSampleRefIdeal := hSampleRefIdeal)
    ∧ quiescent_SampleRefIdeal_pre_forget_open (hSampleRefIdeal := hSampleRefIdeal) (hPre_forget_open := hPre_forget_open)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ preserves_Sample_SampleIdeal
    ∧ algebraic_SampleIdeal_SampleRefIdeal_pre_forget_open (hSampleIdeal := hSampleIdeal) (hSampleRefIdeal := hSampleRefIdeal) (hPre_forget_open := hPre_forget_open)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
-- ==== Pre_forget_open.lean ====
abbrev S17664x14336 : Shape := ⟨2, ![17664, 14336]⟩
abbrev S8x512x17664 : Shape := ⟨3, ![8, 512, 17664]⟩
abbrev S17664x256 : Shape := ⟨2, ![17664, 256]⟩
abbrev S8 : Shape := ⟨1, ![8]⟩
abbrev S2048 : Shape := ⟨1, ![2048]⟩
abbrev S16x8x256x256 : Shape := ⟨4, ![16, 8, 256, 256]⟩
abbrev S16x8x256 : Shape := ⟨3, ![16, 8, 256]⟩
abbrev S16x8 : Shape := ⟨2, ![16, 8]⟩
abbrev S1024x8 : Shape := ⟨2, ![1024, 8]⟩
abbrev S1x8 : Shape := ⟨2, ![1, 8]⟩
abbrev S_ : Shape := ⟨0, ![]⟩

class Facts : Prop where
  slices_S17664x256_S1024x8_16384_128 : S17664x256.Slices ![16384, 128] S1024x8
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  reducesTo_S1024x8_S_d0_1 : S1024x8.ReducesTo [0, 1] S_
  h_S_ : 0 < S_.numel

variable [Facts]

def fn {F : FTy → Type} [FloatOps F] (main_arg0 : FVec F S17664x14336 .bf16) (main_arg1 : FVec F S8x512x17664 .bf16) (main_arg2 : FVec F S17664x256 .f32) (main_arg3 : FVec F S8 .f32) (main_arg4 : FVec F S8 .f32) (main_arg5 : FVec F S2048 .f32) (main_arg6 : FVec F S2048 .f32) (main_arg7 : FVec F S16x8x256x256 .f32) (main_arg8 : FVec F S16x8x256 .f32) (main_arg9 : FVec F S16x8 .f32) (main_arg10 : FVec F S16x8x256x256 .f32) : IVec S_ 1 :=
  let main_v0 : FVec F S1024x8 .f32 := (extractStridedSlice S1024x8 ![16384, 128] · slices_S17664x256_S1024x8_16384_128) main_arg2
  let main_v1 : FVec F S1x8 .f32 := broadcastInDim S1x8 ![1] bcast_S8_S1x8_1 main_arg4
  let main_v2 : FVec F S1024x8 .f32 := broadcastInDim S1024x8 ![0, 1] bcast_S1x8_S1024x8_0_1 main_v1
  let main_v3 : FVec F S1024x8 .f32 := addf main_v0 main_v2
  let main_cst : FVec F S_ .f32 := constant S_ .f32 0xFF800000#32
  let main_v4 : FVec F S1024x8 .f32 := broadcastInDim S1024x8 ![] bcast_S_S1024x8 main_cst
  let main_v5 : IVec S1024x8 1 := cmpf .ogt main_v3 main_v4
  let main_c : IVec S_ 1 := constantI S_ 1 1#1
  let main_v6 : IVec S_ 1 := (fun x v => Host.reduce IntOp.andi x v reducesTo_S1024x8_S_d0_1 h_S_) main_v5 main_c
  main_v6
-- ==== Sample.lean ====
abbrev S17664x14336 : Shape := ⟨2, ![17664, 14336]⟩
abbrev S8x512x17664 : Shape := ⟨3, ![8, 512, 17664]⟩
abbrev S17664x256 : Shape := ⟨2, ![17664, 256]⟩
abbrev S8 : Shape := ⟨1, ![8]⟩
abbrev S2048 : Shape := ⟨1, ![2048]⟩
abbrev S16x8x256x256 : Shape := ⟨4, ![16, 8, 256, 256]⟩
abbrev S16x8x256 : Shape := ⟨3, ![16, 8, 256]⟩
abbrev S16x8 : Shape := ⟨2, ![16, 8]⟩
abbrev S_ : Shape := ⟨0, ![]⟩
abbrev S1x128 : Shape := ⟨2, ![1, 128]⟩
abbrev S1 : Shape := ⟨1, ![1]⟩
abbrev S2 : Shape := ⟨1, ![2]⟩
abbrev S8x1x256 : Shape := ⟨3, ![8, 1, 256]⟩
abbrev S8x512x1024 : Shape := ⟨3, ![8, 512, 1024]⟩
abbrev S8x512x16x64 : Shape := ⟨4, ![8, 512, 16, 64]⟩
abbrev S16x8x512x64 : Shape := ⟨4, ![16, 8, 512, 64]⟩
abbrev S16x8x256x1 : Shape := ⟨4, ![16, 8, 256, 1]⟩
abbrev S16x8x256x128 : Shape := ⟨4, ![16, 8, 256, 128]⟩
abbrev S16x1x128 : Shape := ⟨3, ![16, 1, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S8x64x128 : Shape := ⟨3, ![8, 64, 128]⟩
abbrev S8x1x64 : Shape := ⟨3, ![8, 1, 64]⟩
abbrev S8x1x128 : Shape := ⟨3, ![8, 1, 128]⟩
abbrev S1024x384 : Shape := ⟨2, ![1024, 384]⟩
abbrev S16x8x1x64 : Shape := ⟨4, ![16, 8, 1, 64]⟩
abbrev S64x256 : Shape := ⟨2, ![64, 256]⟩
abbrev S1x1x128 : Shape := ⟨3, ![1, 1, 128]⟩
abbrev S64x384 : Shape := ⟨2, ![64, 384]⟩
abbrev S1x8x1x64 : Shape := ⟨4, ![1, 8, 1, 64]⟩
abbrev S64x128 : Shape := ⟨2, ![64, 128]⟩
abbrev S128x128 : Shape := ⟨2, ![128, 128]⟩
abbrev S1x1x1x64 : Shape := ⟨4, ![1, 1, 1, 64]⟩
abbrev S1024x4096 : Shape := ⟨2, ![1024, 4096]⟩
abbrev S64x14336 : Shape := ⟨2, ![64, 14336]⟩
abbrev S1x8x512x64 : Shape := ⟨4, ![1, 8, 512, 64]⟩
abbrev S1x8x256x256 : Shape := ⟨4, ![1, 8, 256, 256]⟩
abbrev S1x8x256x128 : Shape := ⟨4, ![1, 8, 256, 128]⟩
abbrev S64x4096 : Shape := ⟨2, ![64, 4096]⟩
abbrev S8x256x256 : Shape := ⟨3, ![8, 256, 256]⟩
abbrev S8x256x128 : Shape := ⟨3, ![8, 256, 128]⟩
abbrev S1x1x256x64 : Shape := ⟨4, ![1, 1, 256, 64]⟩
abbrev S256x64 : Shape := ⟨2, ![256, 64]⟩
abbrev S1x256x256 : Shape := ⟨3, ![1, 256, 256]⟩
abbrev S256x256 : Shape := ⟨2, ![256, 256]⟩
abbrev S1x256x128 : Shape := ⟨3, ![1, 256, 128]⟩
abbrev S256x128 : Shape := ⟨2, ![256, 128]⟩
abbrev S1x1 : Shape := ⟨2, ![1, 1]⟩
abbrev S1x1x64 : Shape := ⟨3, ![1, 1, 64]⟩
abbrev S1x1x256 : Shape := ⟨3, ![1, 1, 256]⟩
abbrev S1x256 : Shape := ⟨2, ![1, 256]⟩
abbrev S1x64x128 : Shape := ⟨3, ![1, 64, 128]⟩
abbrev S1x1x256x256 : Shape := ⟨4, ![1, 1, 256, 256]⟩
abbrev S1x1x256x128 : Shape := ⟨4, ![1, 1, 256, 128]⟩
abbrev S16x1x8 : Shape := ⟨3, ![16, 1, 8]⟩

abbrev nBuf : Space → Nat
  | .hbm => 112
  | .vmem => 44
  | .smem => 0
  | _ => 0

abbrev bufTy : (tb : Table) → Fin (tcTables nBuf tb) → BufTy
  | .hbm, ⟨0, _⟩ => ⟨S17664x14336, .bf16⟩
  | .hbm, ⟨1, _⟩ => ⟨S8x512x17664, .bf16⟩
  | .hbm, ⟨2, _⟩ => ⟨S17664x256, .f32⟩
  | .hbm, ⟨3, _⟩ => ⟨S8, .f32⟩
  | .hbm, ⟨4, _⟩ => ⟨S8, .f32⟩
  | .hbm, ⟨5, _⟩ => ⟨S2048, .f32⟩
  | .hbm, ⟨6, _⟩ => ⟨S2048, .f32⟩
  | .hbm, ⟨7, _⟩ => ⟨S16x8x256x256, .f32⟩
  | .hbm, ⟨8, _⟩ => ⟨S16x8x256, .f32⟩
  | .hbm, ⟨9, _⟩ => ⟨S16x8, .f32⟩
  | .hbm, ⟨10, _⟩ => ⟨S16x8x256x256, .f32⟩
  | .hbm, ⟨11, _⟩ => ⟨S_, .f32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S1x128, .f32⟩
  | .hbm, ⟨27, _⟩ => ⟨S8x1x256, .f32⟩
  | .hbm, ⟨28, _⟩ => ⟨S8x1x256, .f32⟩
  | .hbm, ⟨29, _⟩ => ⟨S8x512x1024, .bf16⟩
  | .hbm, ⟨30, _⟩ => ⟨S8x512x16x64, .bf16⟩
  | .hbm, ⟨31, _⟩ => ⟨S16x8x512x64, .bf16⟩
  | .hbm, ⟨32, _⟩ => ⟨S16x8x256x1, .f32⟩
  | .hbm, ⟨33, _⟩ => ⟨S16x8x256x128, .f32⟩
  | .hbm, ⟨34, _⟩ => ⟨S_, .f32⟩
  | .hbm, ⟨35, _⟩ => ⟨S16x1x128, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S16x1x128, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8, .f32⟩
  | .hbm, ⟨50, _⟩ => ⟨S8, .f32⟩
  | .hbm, ⟨51, _⟩ => ⟨S64, .f32⟩
  | .hbm, ⟨52, _⟩ => ⟨S64x1, .f32⟩
  | .hbm, ⟨53, _⟩ => ⟨S1x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .i1⟩
  | .hbm, ⟨60, _⟩ => ⟨S8x1x1, .f32⟩
  | .hbm, ⟨61, _⟩ => ⟨S_, .f32⟩
  | .hbm, ⟨62, _⟩ => ⟨S64x64, .f32⟩
  | .hbm, ⟨63, _⟩ => ⟨S64x64, .f32⟩
  | .hbm, ⟨64, _⟩ => ⟨S1x64x64, .f32⟩
  | .hbm, ⟨65, _⟩ => ⟨S8x64x64, .f32⟩
  | .hbm, ⟨66, _⟩ => ⟨S8x64x64, .f32⟩
  | .hbm, ⟨67, _⟩ => ⟨S8x64x64, .f32⟩
  | .hbm, ⟨68, _⟩ => ⟨S8x64x64, .f32⟩
  | .hbm, ⟨69, _⟩ => ⟨S_, .f32⟩
  | .hbm, ⟨70, _⟩ => ⟨S_, .f32⟩
  | .hbm, ⟨71, _⟩ => ⟨S8x64x64, .i1⟩
  | .hbm, ⟨72, _⟩ => ⟨S8x64x64, .f32⟩
  | .hbm, ⟨73, _⟩ => ⟨S8x64x64, .f32⟩
  | .hbm, ⟨74, _⟩ => ⟨S8x1, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S8x64, .f32⟩
  | .hbm, ⟨80, _⟩ => ⟨S8x64, .f32⟩
  | .hbm, ⟨81, _⟩ => ⟨S8x64, .f32⟩
  | .hbm, ⟨82, _⟩ => ⟨S8x64, .f32⟩
  | .hbm, ⟨83, _⟩ => ⟨S8x64x1, .f32⟩
  | .hbm, ⟨84, _⟩ => ⟨S8x64x128, .f32⟩
  | .hbm, ⟨85, _⟩ => ⟨S8x1, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S8x64, .f32⟩
  | .hbm, ⟨91, _⟩ => ⟨S8x64, .f32⟩
  | .hbm, ⟨92, _⟩ => ⟨S8x64, .f32⟩
  | .hbm, ⟨93, _⟩ => ⟨S8x64, .f32⟩
  | .hbm, ⟨94, _⟩ => ⟨S8x1x64, .f32⟩
  | .hbm, ⟨95, _⟩ => ⟨S_, .f32⟩
  | .hbm, ⟨96, _⟩ => ⟨S8, .f32⟩
  | .hbm, ⟨97, _⟩ => ⟨S8, .f32⟩
  | .hbm, ⟨98, _⟩ => ⟨S8, .f32⟩
  | .hbm, ⟨99, _⟩ => ⟨S8x1x1, .f32⟩
  | .hbm, ⟨100, _⟩ => ⟨S8x1x128, .f32⟩
  | .hbm, ⟨101, _⟩ => ⟨S1024x384, .f32⟩
  | .hbm, ⟨102, _⟩ => ⟨S16x8x1x64, .f32⟩
  | .hbm, ⟨103, _⟩ => ⟨S16x1x128, .f32⟩
  | .hbm, ⟨104, _⟩ => ⟨S1024x4096, .bf16⟩
  | .hbm, ⟨105, _⟩ => ⟨S16x8x256x256, .f32⟩
  | .hbm, ⟨106, _⟩ => ⟨S16x8x256x128, .f32⟩
  | .hbm, ⟨107, _⟩ => ⟨S16x8x256x256, .f32⟩
  | .hbm, ⟨108, _⟩ => ⟨S16x8x256x1, .f32⟩
  | .hbm, ⟨109, _⟩ => ⟨S16x8x256, .f32⟩
  | .hbm, ⟨110, _⟩ => ⟨S16x1x8, .f32⟩
  | .hbm, ⟨111, _⟩ => ⟨S16x8, .f32⟩
  | .local _ .vmem, ⟨0, _⟩ => ⟨S64x256, .f32⟩
  | .local _ .vmem, ⟨1, _⟩ => ⟨S64x256, .f32⟩
  | .local _ .vmem, ⟨2, _⟩ => ⟨S1x128, .f32⟩
  | .local _ .vmem, ⟨3, _⟩ => ⟨S1x128, .f32⟩
  | .local _ .vmem, ⟨4, _⟩ => ⟨S1x1x128, .f32⟩
  | .local _ .vmem, ⟨5, _⟩ => ⟨S1x1x128, .f32⟩
  | .local _ .vmem, ⟨6, _⟩ => ⟨S64x384, .f32⟩
  | .local _ .vmem, ⟨7, _⟩ => ⟨S64x384, .f32⟩
  | .local _ .vmem, ⟨8, _⟩ => ⟨S1x8x1x64, .f32⟩
  | .local _ .vmem, ⟨9, _⟩ => ⟨S1x8x1x64, .f32⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | .local _ .vmem, ⟨13, _⟩ => ⟨S64x14336, .bf16⟩
  | .local _ .vmem, ⟨14, _⟩ => ⟨S64x14336, .bf16⟩
  | .local _ .vmem, ⟨15, _⟩ => ⟨S1x8x512x64, .bf16⟩
  | .local _ .vmem, ⟨16, _⟩ => ⟨S1x8x512x64, .bf16⟩
  | .local _ .vmem, ⟨17, _⟩ => ⟨S64x384, .f32⟩
  | .local _ .vmem, ⟨18, _⟩ => ⟨S64x384, .f32⟩
  | .local _ .vmem, ⟨19, _⟩ => ⟨S1x8x1x64, .f32⟩
  | .local _ .vmem, ⟨20, _⟩ => ⟨S1x8x1x64, .f32⟩
  | .local _ .vmem, ⟨21, _⟩ => ⟨S8x64x64, .f32⟩
  | .local _ .vmem, ⟨22, _⟩ => ⟨S8x64x128, .f32⟩
  | .local _ .vmem, ⟨23, _⟩ => ⟨S8x1x64, .f32⟩
  | .local _ .vmem, ⟨24, _⟩ => ⟨S8x1x128, .f32⟩
  | .local _ .vmem, ⟨25, _⟩ => ⟨S8x1x256, .f32⟩
  | .local _ .vmem, ⟨26, _⟩ => ⟨S8x1x256, .f32⟩
  | .local _ .vmem, ⟨27, _⟩ => ⟨S1x8x256x256, .f32⟩
  | .local _ .vmem, ⟨28, _⟩ => ⟨S1x8x256x256, .f32⟩
  | .local _ .vmem, ⟨29, _⟩ => ⟨S1x8x256x128, .f32⟩
  | .local _ .vmem, ⟨30, _⟩ => ⟨S1x8x256x128, .f32⟩
  | .local _ .vmem, ⟨31, _⟩ => ⟨S1x8x256x256, .f32⟩
  | .local _ .vmem, ⟨32, _⟩ => ⟨S1x8x256x256, .f32⟩
  | .local _ .vmem, ⟨33, _⟩ => ⟨S64x4096, .bf16⟩
  | .local _ .vmem, ⟨34, _⟩ => ⟨S64x4096, .bf16⟩
  | .local _ .vmem, ⟨35, _⟩ => ⟨S1x8x256x256, .f32⟩
  | .local _ .vmem, ⟨36, _⟩ => ⟨S1x8x256x256, .f32⟩
  | .local _ .vmem, ⟨37, _⟩ => ⟨S1x8x256x128, .f32⟩
  | .local _ .vmem, ⟨38, _⟩ => ⟨S1x8x256x128, .f32⟩
  | .local _ .vmem, ⟨39, _⟩ => ⟨S1x8x256x256, .f32⟩
  | .local _ .vmem, ⟨40, _⟩ => ⟨S1x8x256x256, .f32⟩
  | .local _ .vmem, ⟨41, _⟩ => ⟨S8x256x256, .f32⟩
  | .local _ .vmem, ⟨42, _⟩ => ⟨S8x256x128, .f32⟩
  | .local _ .vmem, ⟨43, _⟩ => ⟨S8x256x256, .f32⟩
  | _, _ => ⟨S17664x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_c_3 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_c_5 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_7 : Ref sig .tc := ⟨.hbm, 43, rfl⟩
abbrev main_v23 : Ref sig .tc := ⟨.hbm, 44, rfl⟩
abbrev main_v24 : Ref sig .tc := ⟨.hbm, 45, rfl⟩
abbrev main_cst_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70_0 : Ref sig .tc := ⟨.hbm, 101, rfl⟩
abbrev main_v70_1 : Ref sig .tc := ⟨.hbm, 102, rfl⟩
abbrev main_v70_2 : Ref sig .tc := ⟨.hbm, 103, rfl⟩
abbrev main_v71_0 : Ref sig .tc := ⟨.hbm, 104, rfl⟩
abbrev main_v71_1 : Ref sig .tc := ⟨.hbm, 105, rfl⟩
abbrev main_v71_2 : Ref sig .tc := ⟨.hbm, 106, rfl⟩
abbrev main_v71_3 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg10_1 : Ref sig .tc := ⟨.vmem, 28, rfl⟩
abbrev cc1_stg11_0 : Ref sig .tc := ⟨.vmem, 29, rfl⟩
abbrev cc1_stg11_1 : Ref sig .tc := ⟨.vmem, 30, rfl⟩
abbrev cc1_stg12_0 : Ref sig .tc := ⟨.vmem, 31, rfl⟩
abbrev cc1_stg12_1 : Ref sig .tc := ⟨.vmem, 32, rfl⟩
abbrev cc1_stg13_0 : Ref sig .tc := ⟨.vmem, 33, rfl⟩
abbrev cc1_stg13_1 : Ref sig .tc := ⟨.vmem, 34, rfl⟩
abbrev cc1_stg14_0 : Ref sig .tc := ⟨.vmem, 35, rfl⟩
abbrev cc1_stg14_1 : Ref sig .tc := ⟨.vmem, 36, rfl⟩
abbrev cc1_stg15_0 : Ref sig .tc := ⟨.vmem, 37, rfl⟩
abbrev cc1_stg15_1 : Ref sig .tc := ⟨.vmem, 38, rfl⟩
abbrev cc1_stg16_0 : Ref sig .tc := ⟨.vmem, 39, rfl⟩
abbrev cc1_stg16_1 : Ref sig .tc := ⟨.vmem, 40, rfl⟩
abbrev cc1_scratch0 : Ref sig .tc := ⟨.vmem, 41, rfl⟩
abbrev cc1_scratch1 : Ref sig .tc := ⟨.vmem, 42, rfl⟩
abbrev cc1_scratch2 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc1_sem11_0 : DmaSem sig := 28
abbrev cc1_sem11_1 : DmaSem sig := 29
abbrev cc1_sem12_0 : DmaSem sig := 30
abbrev cc1_sem12_1 : DmaSem sig := 31
abbrev cc1_sem13_0 : DmaSem sig := 32
abbrev cc1_sem13_1 : DmaSem sig := 33
abbrev cc1_sem14_0 : DmaSem sig := 34
abbrev cc1_sem14_1 : DmaSem sig := 35
abbrev cc1_sem15_0 : DmaSem sig := 36
abbrev cc1_sem15_1 : DmaSem sig := 37
abbrev cc1_sem16_0 : DmaSem sig := 38
abbrev cc1_sem16_1 : DmaSem sig := 39

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S64x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨3, ![16, 1, 1], ![false, false, false]⟩

def k1_cond2 (i : grid1.Coords) : BitVec 1 :=
  let arg2 : BitVec 32 := BitVec.ofNat 32 (i 2).val
  let c0_i32_1 : BitVec 32 := 0#32
  let v8 : BitVec 1 := Scalar.cmpi .eq arg2 c0_i32_1
  let v1175 : BitVec 32 := Scalar.extui v8
  let c0_i32_670 : BitVec 32 := 0#32
  let v1176 : BitVec 1 := Scalar.cmpi .ne v1175 c0_i32_670
  v1176

def k1_cond3 (i : grid1.Coords) : BitVec 1 :=
  let arg2 : BitVec 32 := BitVec.ofNat 32 (i 2).val
  let c0_i32_1 : BitVec 32 := 0#32
  let v8 : BitVec 1 := Scalar.cmpi .eq arg2 c0_i32_1
  let v1199 : BitVec 32 := Scalar.extui v8
  let c0_i32_683 : BitVec 32 := 0#32
  let v1200 : BitVec 1 := Scalar.cmpi .ne v1199 c0_i32_683
  v1200

def k1_cond4 (i : grid1.Coords) : BitVec 1 :=
  let arg2 : BitVec 32 := BitVec.ofNat 32 (i 2).val
  let c0_i32_1 : BitVec 32 := 0#32
  let v8 : BitVec 1 := Scalar.cmpi .eq arg2 c0_i32_1
  let v1223 : BitVec 32 := Scalar.extui v8
  let c0_i32_696 : BitVec 32 := 0#32
  let v1224 : BitVec 1 := Scalar.cmpi .ne v1223 c0_i32_696
  v1224

def k1_cond5 (i : grid1.Coords) : BitVec 1 :=
  let arg2 : BitVec 32 := BitVec.ofNat 32 (i 2).val
  let c0_i32_1 : BitVec 32 := 0#32
  let v8 : BitVec 1 := Scalar.cmpi .eq arg2 c0_i32_1
  let v1247 : BitVec 32 := Scalar.extui v8
  let c0_i32_709 : BitVec 32 := 0#32
  let v1248 : BitVec 1 := Scalar.cmpi .ne v1247 c0_i32_709
  v1248

def k1_cond6 (i : grid1.Coords) : BitVec 1 :=
  let arg2 : BitVec 32 := BitVec.ofNat 32 (i 2).val
  let c0_i32_1 : BitVec 32 := 0#32
  let v8 : BitVec 1 := Scalar.cmpi .eq arg2 c0_i32_1
  let v1271 : BitVec 32 := Scalar.extui v8
  let c0_i32_722 : BitVec 32 := 0#32
  let v1272 : BitVec 1 := Scalar.cmpi .ne v1271 c0_i32_722
  v1272

def k1_cond7 (i : grid1.Coords) : BitVec 1 :=
  let arg2 : BitVec 32 := BitVec.ofNat 32 (i 2).val
  let c0_i32_1 : BitVec 32 := 0#32
  let v8 : BitVec 1 := Scalar.cmpi .eq arg2 c0_i32_1
  let v1295 : BitVec 32 := Scalar.extui v8
  let c0_i32_735 : BitVec 32 := 0#32
  let v1296 : BitVec 1 := Scalar.cmpi .ne v1295 c0_i32_735
  v1296

def k1_cond8 (i : grid1.Coords) : BitVec 1 :=
  let arg2 : BitVec 32 := BitVec.ofNat 32 (i 2).val
  let c0_i32_1 : BitVec 32 := 0#32
  let v8 : BitVec 1 := Scalar.cmpi .eq arg2 c0_i32_1
  let v1319 : BitVec 32 := Scalar.extui v8
  let c0_i32_748 : BitVec 32 := 0#32
  let v1320 : BitVec 1 := Scalar.cmpi .ne v1319 c0_i32_748
  v1320

def k1_cond9 (i : grid1.Coords) : BitVec 1 :=
  let arg2 : BitVec 32 := BitVec.ofNat 32 (i 2).val
  let c0_i32_1 : BitVec 32 := 0#32
  let v8 : BitVec 1 := Scalar.cmpi .eq arg2 c0_i32_1
  let v1343 : BitVec 32 := Scalar.extui v8
  let c0_i32_761 : BitVec 32 := 0#32
  let v1344 : BitVec 1 := Scalar.cmpi .ne v1343 c0_i32_761
  v1344

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_10 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc1_transform_14 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_15 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_16 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S64x14336 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x8x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S64x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x8x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S8x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, true, false]

abbrev stage1_5 : Fin 1 → Memref sig .tc .vmem S8x64x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, true, false]

abbrev stage1_6 : Fin 1 → Memref sig .tc .vmem S8x1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, true, false]

abbrev stage1_7 : Fin 1 → Memref sig .tc .vmem S8x1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, true, false]

abbrev stage1_8 : Fin 1 → Memref sig .tc .vmem S8x1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, true, false]

abbrev stage1_9 : Fin 1 → Memref sig .tc .vmem S8x1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, true, false]

abbrev stage1_10 : Fin 2 → Memref sig .tc .vmem S1x8x256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, false]

abbrev stage1_11 : Fin 2 → Memref sig .tc .vmem S1x8x256x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true, false]

abbrev stage1_12 : Fin 2 → Memref sig .tc .vmem S1x8x256x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, false]

abbrev stage1_13 : Fin 2 → Memref sig .tc .vmem S64x4096 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]

abbrev stage1_14 : Fin 2 → Memref sig .tc .vmem S1x8x256x256 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true, false]

abbrev stage1_15 : Fin 2 → Memref sig .tc .vmem S1x8x256x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true, false]

abbrev stage1_16 : Fin 2 → Memref sig .tc .vmem S1x8x256x256 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true, false]
-- ==== SampleIdeal.lean ====
variable {F : FTy → Type} [FloatOps F] [Named F]
def κ : String → Option EReal := fun
  | "log2e" => some (((Real.log 2)⁻¹ : ℝ) : EReal)
  | _ => none
-- ==== SampleRefIdeal.lean ====
abbrev S17664x14336 : Shape := ⟨2, ![17664, 14336]⟩
abbrev S8x512x17664 : Shape := ⟨3, ![8, 512, 17664]⟩
abbrev S17664x256 : Shape := ⟨2, ![17664, 256]⟩
abbrev S8 : Shape := ⟨1, ![8]⟩
abbrev S2048 : Shape := ⟨1, ![2048]⟩
abbrev S16x8x256x256 : Shape := ⟨4, ![16, 8, 256, 256]⟩
abbrev S16x8x256 : Shape := ⟨3, ![16, 8, 256]⟩
abbrev S16x8 : Shape := ⟨2, ![16, 8]⟩
abbrev S1024x14336 : Shape := ⟨2, ![1024, 14336]⟩
abbrev S16x64x8x7x256 : Shape := ⟨5, ![16, 64, 8, 7, 256]⟩
abbrev S8x512x1024 : Shape := ⟨3, ![8, 512, 1024]⟩
abbrev S8x2x256x16x64 : Shape := ⟨5, ![8, 2, 256, 16, 64]⟩
abbrev S1024x256 : Shape := ⟨2, ![1024, 256]⟩
abbrev S16x64x256 : Shape := ⟨3, ![16, 64, 256]⟩
abbrev S16x64x8 : Shape := ⟨3, ![16, 64, 8]⟩
abbrev S1x1x8 : Shape := ⟨3, ![1, 1, 8]⟩
abbrev S16x8x64 : Shape := ⟨3, ![16, 8, 64]⟩
abbrev S_ : Shape := ⟨0, ![]⟩
abbrev S16x64x8x1x256 : Shape := ⟨5, ![16, 64, 8, 1, 256]⟩
abbrev S16x64x8x256 : Shape := ⟨4, ![16, 64, 8, 256]⟩
abbrev S16x8x64x256 : Shape := ⟨4, ![16, 8, 64, 256]⟩
abbrev S8x1x256x16x64 : Shape := ⟨5, ![8, 1, 256, 16, 64]⟩
abbrev S8x256x16x64 : Shape := ⟨4, ![8, 256, 16, 64]⟩
abbrev S64x64 : Shape := ⟨2, ![64, 64]⟩
abbrev S16x8x64x1 : Shape := ⟨4, ![16, 8, 64, 1]⟩
abbrev S16x8x1x64 : Shape := ⟨4, ![16, 8, 1, 64]⟩
abbrev S16x8x64x64 : Shape := ⟨4, ![16, 8, 64, 64]⟩
abbrev S16x8x1 : Shape := ⟨3, ![16, 8, 1]⟩
abbrev S16x8x1x1 : Shape := ⟨4, ![16, 8, 1, 1]⟩
abbrev S64 : Shape := ⟨1, ![64]⟩
abbrev S64x1 : Shape := ⟨2, ![64, 1]⟩
abbrev S1x64 : Shape := ⟨2, ![1, 64]⟩
abbrev S8x1x1 : Shape := ⟨3, ![8, 1, 1]⟩
abbrev S1x64x64 : Shape := ⟨3, ![1, 64, 64]⟩
abbrev S8x64x64 : Shape := ⟨3, ![8, 64, 64]⟩
abbrev S1x8x64x64 : Shape := ⟨4, ![1, 8, 64, 64]⟩
abbrev S8x1 : Shape := ⟨2, ![8, 1]⟩
abbrev S8x64 : Shape := ⟨2, ![8, 64]⟩
abbrev S1x8x64x1 : Shape := ⟨4, ![1, 8, 64, 1]⟩
abbrev S1x8x1x1 : Shape := ⟨4, ![1, 8, 1, 1]⟩
abbrev S16x64x2048 : Shape := ⟨3, ![16, 64, 2048]⟩
abbrev S16x64x8x1 : Shape := ⟨4, ![16, 64, 8, 1]⟩
abbrev S1x1x2048 : Shape := ⟨3, ![1, 1, 2048]⟩
abbrev S16x64x8x2x256 : Shape := ⟨5, ![16, 64, 8, 2, 256]⟩
abbrev S1024x4096 : Shape := ⟨2, ![1024, 4096]⟩

abbrev nBuf : Space → Nat
  | .hbm => 281
  | .vmem => 0
  | .smem => 0
  | _ => 0

abbrev hbmTy0_0 (i : Nat) : BufTy := match i % 128 with
  | 0 => ⟨S17664x14336, .bf16⟩
  | 1 => ⟨S8x512x17664, .bf16⟩
  | 2 => ⟨S17664x256, .f32⟩
  | 3 => ⟨S8, .f32⟩
  | 4 => ⟨S8, .f32⟩
  | 5 => ⟨S2048, .f32⟩
  | 6 => ⟨S2048, .f32⟩
  | 7 => ⟨S16x8x256x256, .f32⟩
  | 8 => ⟨S16x8x256, .f32⟩
  | 9 => ⟨S16x8, .f32⟩
  | 10 => ⟨S16x8x256x256, .f32⟩
  | 11 => ⟨S1024x14336, .bf16⟩
  | 12 => ⟨S1024x14336, .f32⟩
  | 13 => ⟨S16x64x8x7x256, .f32⟩
  | 14 => ⟨S8x512x1024, .bf16⟩
  | 15 => ⟨S8x512x1024, .f32⟩
  | 16 => ⟨S8x2x256x16x64, .f32⟩
  | 17 => ⟨S1024x256, .f32⟩
  | 18 => ⟨S16x64x256, .f32⟩
  | 19 => ⟨S16x64x8, .f32⟩
  | 20 => ⟨S1x1x8, .f32⟩
  | 21 => ⟨S16x64x8, .f32⟩
  | 22 => ⟨S16x64x8, .f32⟩
  | 23 => ⟨S16x8x64, .f32⟩
  | 24 => ⟨S16x64x8, .f32⟩
  | 25 => ⟨S1x1x8, .f32⟩
  | 26 => ⟨S16x64x8, .f32⟩
  | 27 => ⟨S16x64x8, .f32⟩
  | 28 => ⟨S16x64x8, .f32⟩
  | 29 => ⟨S_, .f32⟩
  | 30 => ⟨S16x64x8, .f32⟩
  | 31 => ⟨S16x64x8, .f32⟩
  | 32 => ⟨S16x64x8, .f32⟩
  | 33 => ⟨S16x64x8, .f32⟩
  | 34 => ⟨S16x64x8, .i1⟩
  | 35 => ⟨S16x64x8, .f32⟩
  | 36 => ⟨S16x64x8, .f32⟩
  | 37 => ⟨S16x64x8, .f32⟩
  | 38 => ⟨S16x64x8, .f32⟩
  | 39 => ⟨S16x64x8, .f32⟩
  | 40 => ⟨S16x64x8, .f32⟩
  | 41 => ⟨S16x64x8, .f32⟩
  | 42 => ⟨S16x64x8, .f32⟩
  | 43 => ⟨S16x64x8, .f32⟩
  | 44 => ⟨S16x8x64, .f32⟩
  | 45 => ⟨S16x64x8x1x256, .f32⟩
  | 46 => ⟨S16x64x8x256, .f32⟩
  | 47 => ⟨S16x8x64x256, .f32⟩
  | 48 => ⟨S8x1x256x16x64, .f32⟩
  | 49 => ⟨S8x256x16x64, .f32⟩
  | 50 => ⟨S16x8x64x256, .f32⟩
  | 51 => ⟨S16x64x8x1x256, .f32⟩
  | 52 => ⟨S16x64x8x256, .f32⟩
  | 53 => ⟨S16x8x64x256, .f32⟩
  | 54 => ⟨S_, .f32⟩
  | 55 => ⟨S_, .f32⟩
  | 56 => ⟨S16x8x64, .f32⟩
  | 57 => ⟨S_, .i1⟩
  | 58 => ⟨S64x64, .i1⟩
  | 59 => ⟨S64x64, .i32⟩
  | 60 => ⟨S_, .i32⟩
  | 61 => ⟨S64x64, .i32⟩
  | 62 => ⟨S64x64, .i32⟩
  | 63 => ⟨S64x64, .i32⟩
  | 64 => ⟨S64x64, .i1⟩
  | 65 => ⟨S_, .i1⟩
  | 66 => ⟨S64x64, .i1⟩
  | 67 => ⟨S64x64, .i1⟩
  | 68 => ⟨S16x8x64x1, .f32⟩
  | 69 => ⟨S16x8x1x64, .f32⟩
  | 70 => ⟨S16x8x64x64, .f32⟩
  | 71 => ⟨S16x8x64x64, .f32⟩
  | 72 => ⟨S16x8x64x64, .f32⟩
  | 73 => ⟨S16x8x1x64, .f32⟩
  | 74 => ⟨S16x8x64x64, .f32⟩
  | 75 => ⟨S16x8x64x64, .f32⟩
  | 76 => ⟨S_, .f32⟩
  | 77 => ⟨S_, .f32⟩
  | 78 => ⟨S16x8x64x64, .i1⟩
  | 79 => ⟨S16x8x64x64, .f32⟩
  | 80 => ⟨S16x8x64x64, .f32⟩
  | 81 => ⟨S16x8x1, .f32⟩
  | 82 => ⟨S16x8x64, .f32⟩
  | 83 => ⟨S16x8x64, .f32⟩
  | 84 => ⟨S_, .f32⟩
  | 85 => ⟨S16x8x64, .f32⟩
  | 86 => ⟨S16x8x64, .f32⟩
  | 87 => ⟨S16x8x64x1, .f32⟩
  | 88 => ⟨S16x8x64x64, .f32⟩
  | 89 => ⟨S16x8x64x64, .f32⟩
  | 90 => ⟨S16x8x64x64, .f32⟩
  | 91 => ⟨S16x8x64, .f32⟩
  | 92 => ⟨S16x8x64, .f32⟩
  | 93 => ⟨S16x8x64x64, .f32⟩
  | 94 => ⟨S16x8x64x64, .f32⟩
  | 95 => ⟨S16x8x64x1, .f32⟩
  | 96 => ⟨S16x8x64x256, .f32⟩
  | 97 => ⟨S16x8x64x256, .f32⟩
  | 98 => ⟨S16x8x64x256, .f32⟩
  | 99 => ⟨S16x8x64x256, .f32⟩
  | 100 => ⟨S16x8x64x256, .f32⟩
  | 101 => ⟨S16x8x64, .f32⟩
  | 102 => ⟨S16x8x64, .f32⟩
  | 103 => ⟨S_, .f32⟩
  | 104 => ⟨S16x8x64, .f32⟩
  | 105 => ⟨S16x8x64, .f32⟩
  | 106 => ⟨S16x8x64, .f32⟩
  | 107 => ⟨S16x8x64, .f32⟩
  | 108 => ⟨S16x8x64, .f32⟩
  | 109 => ⟨S16x8x64, .f32⟩
  | 110 => ⟨S16x8x64x1, .f32⟩
  | 111 => ⟨S16x8x64x256, .f32⟩
  | 112 => ⟨S16x8x64x256, .f32⟩
  | 113 => ⟨S16x8x1, .f32⟩
  | 114 => ⟨S16x8, .f32⟩
  | 115 => ⟨S16x8x1, .f32⟩
  | 116 => ⟨S16x8x64, .f32⟩
  | 117 => ⟨S16x8x64, .f32⟩
  | 118 => ⟨S16x8x64, .f32⟩
  | 119 => ⟨S16x8x1, .f32⟩
  | 120 => ⟨S16x8x64, .f32⟩
  | 121 => ⟨S16x8x64, .f32⟩
  | 122 => ⟨S16x8x64, .f32⟩
  | 123 => ⟨S16x8x1, .f32⟩
  | 124 => ⟨S16x8, .f32⟩
  | 125 => ⟨S16x8, .f32⟩
  | 126 => ⟨S16x8, .f32⟩
  | 127 => ⟨S16x8, .f32⟩
  | _ => ⟨S17664x14336, .bf16⟩

abbrev hbmTy0_1 (i : Nat) : BufTy := match i % 128 with
  | 0 => ⟨S16x8x1x1, .f32⟩
  | 1 => ⟨S16x8x256x256, .f32⟩
  | 2 => ⟨S16x8x256x256, .f32⟩
  | 3 => ⟨S16x8x64x1, .f32⟩
  | 4 => ⟨S16x8x64x256, .f32⟩
  | 5 => ⟨S16x8x64x256, .f32⟩
  | 6 => ⟨S16x8x256x256, .f32⟩
  | 7 => ⟨S16x8x256x256, .f32⟩
  | 8 => ⟨S16x8x1, .f32⟩
  | 9 => ⟨S16x8x256, .f32⟩
  | 10 => ⟨S16x8x256, .f32⟩
  | 11 => ⟨S16x8x256, .f32⟩
  | 12 => ⟨S16x8x256, .f32⟩
  | 13 => ⟨S16x64x8x1x256, .f32⟩
  | 14 => ⟨S16x64x8x256, .f32⟩
  | 15 => ⟨S16x8x64x256, .f32⟩
  | 16 => ⟨S8x1x256x16x64, .f32⟩
  | 17 => ⟨S8x256x16x64, .f32⟩
  | 18 => ⟨S16x8x64x256, .f32⟩
  | 19 => ⟨S16x64x8x1x256, .f32⟩
  | 20 => ⟨S16x64x8x256, .f32⟩
  | 21 => ⟨S16x8x64x256, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S8, .f32⟩
  | 30 => ⟨S8, .f32⟩
  | 31 => ⟨S64, .f32⟩
  | 32 => ⟨S64x1, .f32⟩
  | 33 => ⟨S1x64, .f32⟩
  | 34 => ⟨S64x64, .f32⟩
  | 35 => ⟨S64x64, .f32⟩
  | 36 => ⟨S64x64, .f32⟩
  | 37 => ⟨S_, .f32⟩
  | 38 => ⟨S64x64, .f32⟩
  | 39 => ⟨S64x64, .i1⟩
  | 40 => ⟨S8x1x1, .f32⟩
  | 41 => ⟨S_, .f32⟩
  | 42 => ⟨S64x64, .f32⟩
  | 43 => ⟨S64x64, .f32⟩
  | 44 => ⟨S1x64x64, .f32⟩
  | 45 => ⟨S8x64x64, .f32⟩
  | 46 => ⟨S8x64x64, .f32⟩
  | 47 => ⟨S8x64x64, .f32⟩
  | 48 => ⟨S8x64x64, .f32⟩
  | 49 => ⟨S_, .f32⟩
  | 50 => ⟨S_, .f32⟩
  | 51 => ⟨S8x64x64, .i1⟩
  | 52 => ⟨S8x64x64, .f32⟩
  | 53 => ⟨S8x64x64, .f32⟩
  | 54 => ⟨S16x8x64x64, .f32⟩
  | 55 => ⟨S1x8x64x64, .f32⟩
  | 56 => ⟨S16x8x64x64, .f32⟩
  | 57 => ⟨S16x8x64x64, .f32⟩
  | 58 => ⟨S8x1, .f32⟩
  | 59 => ⟨S_, .f32⟩
  | 60 => ⟨S64, .f32⟩
  | 61 => ⟨S64, .f32⟩
  | 62 => ⟨S1x64, .f32⟩
  | 63 => ⟨S8x64, .f32⟩
  | 64 => ⟨S8x64, .f32⟩
  | 65 => ⟨S8x64, .f32⟩
  | 66 => ⟨S8x64, .f32⟩
  | 67 => ⟨S16x8x64x256, .f32⟩
  | 68 => ⟨S1x8x64x1, .f32⟩
  | 69 => ⟨S16x8x64x256, .f32⟩
  | 70 => ⟨S16x8x64x256, .f32⟩
  | 71 => ⟨S16x8x64x256, .f32⟩
  | 72 => ⟨S16x8x64x256, .f32⟩
  | 73 => ⟨S8x1, .f32⟩
  | 74 => ⟨S_, .f32⟩
  | 75 => ⟨S64, .f32⟩
  | 76 => ⟨S64, .f32⟩
  | 77 => ⟨S1x64, .f32⟩
  | 78 => ⟨S8x64, .f32⟩
  | 79 => ⟨S8x64, .f32⟩
  | 80 => ⟨S8x64, .f32⟩
  | 81 => ⟨S8x64, .f32⟩
  | 82 => ⟨S_, .f32⟩
  | 83 => ⟨S8, .f32⟩
  | 84 => ⟨S8, .f32⟩
  | 85 => ⟨S8, .f32⟩
  | 86 => ⟨S1x8x1x1, .f32⟩
  | 87 => ⟨S16x8x256x256, .f32⟩
  | 88 => ⟨S16x8x256x256, .f32⟩
  | 89 => ⟨S1x8x64x1, .f32⟩
  | 90 => ⟨S16x8x64x256, .f32⟩
  | 91 => ⟨S16x8x64x256, .f32⟩
  | 92 => ⟨S16x8x256x256, .f32⟩
  | 93 => ⟨S16x8x256x256, .f32⟩
  | 94 => ⟨S16x64x8x1x256, .f32⟩
  | 95 => ⟨S16x64x8x256, .f32⟩
  | 96 => ⟨S16x64x2048, .f32⟩
  | 97 => ⟨S16x64x8x256, .f32⟩
  | 98 => ⟨S16x64x2048, .f32⟩
  | 99 => ⟨S16x64x2048, .f32⟩
  | 100 => ⟨S16x64x8x256, .f32⟩
  | 101 => ⟨S16x64x8x256, .f32⟩
  | 102 => ⟨S_, .f32⟩
  | 103 => ⟨S16x64x8, .f32⟩
  | 104 => ⟨S16x64x8x1, .f32⟩
  | 105 => ⟨S_, .f32⟩
  | 106 => ⟨S16x64x8x1, .f32⟩
  | 107 => ⟨S16x64x8x1, .f32⟩
  | 108 => ⟨S_, .f32⟩
  | 109 => ⟨S16x64x8x1, .f32⟩
  | 110 => ⟨S16x64x8x1, .f32⟩
  | 111 => ⟨S16x64x8x1, .f32⟩
  | 112 => ⟨S16x64x8x256, .f32⟩
  | 113 => ⟨S16x64x8x256, .f32⟩
  | 114 => ⟨S16x64x2048, .f32⟩
  | 115 => ⟨S1x1x2048, .f32⟩
  | 116 => ⟨S16x64x2048, .f32⟩
  | 117 => ⟨S16x64x2048, .f32⟩
  | 118 => ⟨S16x64x8x1x256, .f32⟩
  | 119 => ⟨S16x64x8x256, .f32⟩
  | 120 => ⟨S16x64x2048, .f32⟩
  | 121 => ⟨S16x64x2048, .f32⟩
  | 122 => ⟨S16x64x8x256, .f32⟩
  | 123 => ⟨S16x64x2048, .f32⟩
  | 124 => ⟨S16x64x8x256, .f32⟩
  | 125 => ⟨S16x64x8x256, .f32⟩
  | 126 => ⟨S_, .f32⟩
  | 127 => ⟨S16x64x8, .f32⟩
  | _ => ⟨S17664x14336, .bf16⟩

abbrev hbmTy0_2 (i : Nat) : BufTy := match i % 128 with
  | 0 => ⟨S16x64x8x1, .f32⟩
  | 1 => ⟨S_, .f32⟩
  | 2 => ⟨S16x64x8x1, .f32⟩
  | 3 => ⟨S16x64x8x1, .f32⟩
  | 4 => ⟨S_, .f32⟩
  | 5 => ⟨S16x64x8x1, .f32⟩
  | 6 => ⟨S16x64x8x1, .f32⟩
  | 7 => ⟨S16x64x8x1, .f32⟩
  | 8 => ⟨S16x64x8x256, .f32⟩
  | 9 => ⟨S16x64x8x256, .f32⟩
  | 10 => ⟨S16x64x2048, .f32⟩
  | 11 => ⟨S1x1x2048, .f32⟩
  | 12 => ⟨S16x64x2048, .f32⟩
  | 13 => ⟨S16x64x2048, .f32⟩
  | 14 => ⟨S16x64x8x1x256, .f32⟩
  | 15 => ⟨S16x64x8x256, .f32⟩
  | 16 => ⟨S16x64x2048, .f32⟩
  | 17 => ⟨S16x64x2048, .f32⟩
  | 18 => ⟨S16x64x8x256, .f32⟩
  | 19 => ⟨S16x64x8x256, .f32⟩
  | 20 => ⟨S16x64x8x1x256, .f32⟩
  | 21 => ⟨S16x64x8x1x256, .f32⟩
  | 22 => ⟨S16x64x8x2x256, .f32⟩
  | 23 => ⟨S16x64x8x2x256, .bf16⟩
  | 24 => ⟨S1024x4096, .bf16⟩
  | _ => ⟨S17664x14336, .bf16⟩

abbrev hbmTy (i : Nat) : BufTy := match i / 128 with
  | 0 => hbmTy0_0 i
  | 1 => hbmTy0_1 i
  | 2 => hbmTy0_2 i
  | _ => ⟨S17664x14336, .bf16⟩

abbrev bufTy : (tb : Table) → Fin (tcTables nBuf tb) → BufTy
  | .hbm, ⟨i, _⟩ => hbmTy i
  | _, _ => ⟨S17664x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_call1_call0_cst : Ref sig .tc := ⟨.hbm, 54, rfl⟩
abbrev main_call1_call0_v0 : Ref sig .tc := ⟨.hbm, 55, rfl⟩
abbrev main_v28 : Ref sig .tc := ⟨.hbm, 56, rfl⟩
abbrev main_c : Ref sig .tc := ⟨.hbm, 57, rfl⟩
abbrev main_v29 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_0 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_1 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_2 : Ref sig .tc := ⟨.hbm, 151, rfl⟩
abbrev main_v108 : Ref sig .tc := ⟨.hbm, 152, rfl⟩
abbrev main_v109 : Ref sig .tc := ⟨.hbm, 153, rfl⟩
abbrev main_cst_3 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_4 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_5 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_6 : Ref sig .tc := ⟨.hbm, 177, rfl⟩
abbrev main_call4_v0 : Ref sig .tc := ⟨.hbm, 178, rfl⟩
abbrev main_call4_v1 : Ref sig .tc := ⟨.hbm, 179, rfl⟩
abbrev main_call4_v2 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_7 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_8 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_cst_9 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_10 : Ref sig .tc := ⟨.hbm, 230, rfl⟩
abbrev main_v176 : Ref sig .tc := ⟨.hbm, 231, rfl⟩
abbrev main_v177 : Ref sig .tc := ⟨.hbm, 232, rfl⟩
abbrev main_cst_11 : Ref sig .tc := ⟨.hbm, 233, rfl⟩
abbrev main_v178 : Ref sig .tc := ⟨.hbm, 234, rfl⟩
abbrev main_v179 : Ref sig .tc := ⟨.hbm, 235, rfl⟩
abbrev main_cst_12 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_cst_13 : Ref sig .tc := ⟨.hbm, 254, rfl⟩
abbrev main_v197 : Ref sig .tc := ⟨.hbm, 255, rfl⟩
abbrev main_v198 : Ref sig .tc := ⟨.hbm, 256, rfl⟩
abbrev main_cst_14 : Ref sig .tc := ⟨.hbm, 257, rfl⟩
abbrev main_v199 : Ref sig .tc := ⟨.hbm, 258, rfl⟩
abbrev main_v200 : Ref sig .tc := ⟨.hbm, 259, rfl⟩
abbrev main_cst_15 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩

abbrev nD : Nat := 1
abbrev τ : Topo := Topo.v7x

variable {F : FTy → Type} [FloatOps F]
-- ==== Proj.lean ====
abbrev S17664x4096 : Shape := ⟨2, ![17664, 4096]⟩
abbrev S4096x18448 : Shape := ⟨2, ![4096, 18448]⟩
abbrev S4096x4096 : Shape := ⟨2, ![4096, 4096]⟩
abbrev S18448x4096 : Shape := ⟨2, ![18448, 4096]⟩
abbrev S276 : Shape := ⟨1, ![276]⟩
abbrev S_ : Shape := ⟨0, ![]⟩
abbrev S64 : Shape := ⟨1, ![64]⟩
abbrev S128 : Shape := ⟨1, ![128]⟩
abbrev S276x1 : Shape := ⟨2, ![276, 1]⟩
abbrev S1x128 : Shape := ⟨2, ![1, 128]⟩
abbrev S276x128 : Shape := ⟨2, ![276, 128]⟩
abbrev S64x1 : Shape := ⟨2, ![64, 1]⟩
abbrev S64x128 : Shape := ⟨2, ![64, 128]⟩
abbrev S276x1x128 : Shape := ⟨3, ![276, 1, 128]⟩
abbrev S1x64x128 : Shape := ⟨3, ![1, 64, 128]⟩
abbrev S276x64x128 : Shape := ⟨3, ![276, 64, 128]⟩
abbrev S17664x128 : Shape := ⟨2, ![17664, 128]⟩
abbrev S128x17664 : Shape := ⟨2, ![128, 17664]⟩
abbrev S17664x14336 : Shape := ⟨2, ![17664, 14336]⟩
abbrev S8x512x17664 : Shape := ⟨3, ![8, 512, 17664]⟩
abbrev S768x4096 : Shape := ⟨2, ![768, 4096]⟩
abbrev S256x4096 : Shape := ⟨2, ![256, 4096]⟩
abbrev S768x128 : Shape := ⟨2, ![768, 128]⟩
abbrev S128x768 : Shape := ⟨2, ![128, 768]⟩
abbrev S32x4096 : Shape := ⟨2, ![32, 4096]⟩
abbrev S768x1792 : Shape := ⟨2, ![768, 1792]⟩
abbrev S1x512x768 : Shape := ⟨3, ![1, 512, 768]⟩
abbrev S768x256 : Shape := ⟨2, ![768, 256]⟩
abbrev S256x768 : Shape := ⟨2, ![256, 768]⟩
abbrev S1x256x768 : Shape := ⟨3, ![1, 256, 768]⟩
abbrev S1x128x768 : Shape := ⟨3, ![1, 128, 768]⟩

abbrev nBuf : Space → Nat
  | .hbm => 81
  | .vmem => 30
  | .smem => 0
  | _ => 0

abbrev bufTy : (tb : Table) → Fin (tcTables nBuf tb) → BufTy
  | .hbm, ⟨0, _⟩ => ⟨S17664x4096, .bf16⟩
  | .hbm, ⟨1, _⟩ => ⟨S4096x18448, .f32⟩
  | .hbm, ⟨2, _⟩ => ⟨S4096x4096, .f32⟩
  | .hbm, ⟨3, _⟩ => ⟨S18448x4096, .f32⟩
  | .hbm, ⟨4, _⟩ => ⟨S18448x4096, .bf16⟩
  | .hbm, ⟨5, _⟩ => ⟨S276, .i32⟩
  | .hbm, ⟨6, _⟩ => ⟨S_, .i32⟩
  | .hbm, ⟨7, _⟩ => ⟨S276, .i32⟩
  | .hbm, ⟨8, _⟩ => ⟨S276, .i1⟩
  | .hbm, ⟨9, _⟩ => ⟨S_, .i32⟩
  | .hbm, ⟨10, _⟩ => ⟨S276, .i32⟩
  | .hbm, ⟨11, _⟩ => ⟨S276, .i32⟩
  | .hbm, ⟨12, _⟩ => ⟨S_, .i32⟩
  | .hbm, ⟨13, _⟩ => ⟨S276, .i32⟩
  | .hbm, ⟨14, _⟩ => ⟨S276, .i32⟩
  | .hbm, ⟨15, _⟩ => ⟨S_, .i32⟩
  | .hbm, ⟨16, _⟩ => ⟨S276, .i32⟩
  | .hbm, ⟨17, _⟩ => ⟨S276, .i1⟩
  | .hbm, ⟨18, _⟩ => ⟨S_, .i32⟩
  | .hbm, ⟨19, _⟩ => ⟨S_, .i32⟩
  | .hbm, ⟨20, _⟩ => ⟨S276, .i32⟩
  | .hbm, ⟨21, _⟩ => ⟨S276, .i32⟩
  | .hbm, ⟨22, _⟩ => ⟨S276, .i32⟩
  | .hbm, ⟨23, _⟩ => ⟨S276, .i32⟩
  | .hbm, ⟨24, _⟩ => ⟨S276, .i32⟩
  | .hbm, ⟨25, _⟩ => ⟨S64, .i32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S276, .f32⟩
  | .hbm, ⟨41, _⟩ => ⟨S276x1, .f32⟩
  | .hbm, ⟨42, _⟩ => ⟨S1x128, .f32⟩
  | .hbm, ⟨43, _⟩ => ⟨S276x128, .f32⟩
  | .hbm, ⟨44, _⟩ => ⟨S276x128, .f32⟩
  | .hbm, ⟨45, _⟩ => ⟨S276x128, .f32⟩
  | .hbm, ⟨46, _⟩ => ⟨S64, .f32⟩
  | .hbm, ⟨47, _⟩ => ⟨S64x1, .f32⟩
  | .hbm, ⟨48, _⟩ => ⟨S1x128, .f32⟩
  | .hbm, ⟨49, _⟩ => ⟨S64x128, .f32⟩
  | .hbm, ⟨50, _⟩ => ⟨S64x128, .f32⟩
  | .hbm, ⟨51, _⟩ => ⟨S64x128, .f32⟩
  | .hbm, ⟨52, _⟩ => ⟨S276x128, .f32⟩
  | .hbm, ⟨53, _⟩ => ⟨S276x1x128, .f32⟩
  | .hbm, ⟨54, _⟩ => ⟨S276x128, .f32⟩
  | .hbm, ⟨55, _⟩ => ⟨S276x1x128, .f32⟩
  | .hbm, ⟨56, _⟩ => ⟨S64x128, .f32⟩
  | .hbm, ⟨57, _⟩ => ⟨S1x64x128, .f32⟩
  | .hbm, ⟨58, _⟩ => ⟨S64x128, .f32⟩
  | .hbm, ⟨59, _⟩ => ⟨S1x64x128, .f32⟩
  | .hbm, ⟨60, _⟩ => ⟨S276x64x128, .f32⟩
  | .hbm, ⟨61, _⟩ => ⟨S276x64x128, .f32⟩
  | .hbm, ⟨62, _⟩ => ⟨S276x64x128, .f32⟩
  | .hbm, ⟨63, _⟩ => ⟨S276x64x128, .f32⟩
  | .hbm, ⟨64, _⟩ => ⟨S276x64x128, .f32⟩
  | .hbm, ⟨65, _⟩ => ⟨S276x64x128, .f32⟩
  | .hbm, ⟨66, _⟩ => ⟨S276x64x128, .f32⟩
  | .hbm, ⟨67, _⟩ => ⟨S17664x128, .f32⟩
  | .hbm, ⟨68, _⟩ => ⟨S276x64x128, .f32⟩
  | .hbm, ⟨69, _⟩ => ⟨S276x64x128, .f32⟩
  | .hbm, ⟨70, _⟩ => ⟨S276x64x128, .f32⟩
  | .hbm, ⟨71, _⟩ => ⟨S276x64x128, .f32⟩
  | .hbm, ⟨72, _⟩ => ⟨S276x64x128, .f32⟩
  | .hbm, ⟨73, _⟩ => ⟨S276x64x128, .f32⟩
  | .hbm, ⟨74, _⟩ => ⟨S276x64x128, .f32⟩
  | .hbm, ⟨75, _⟩ => ⟨S17664x128, .f32⟩
  | .hbm, ⟨76, _⟩ => ⟨S128x17664, .f32⟩
  | .hbm, ⟨77, _⟩ => ⟨S128x17664, .f32⟩
  | .hbm, ⟨78, _⟩ => ⟨S17664x14336, .bf16⟩
  | .hbm, ⟨79, _⟩ => ⟨S8x512x17664, .bf16⟩
  | .hbm, ⟨80, _⟩ => ⟨S4096x4096, .bf16⟩
  | .local _ .vmem, ⟨0, _⟩ => ⟨S768x4096, .bf16⟩
  | .local _ .vmem, ⟨1, _⟩ => ⟨S768x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S768x128, .f32⟩
  | .local _ .vmem, ⟨9, _⟩ => ⟨S768x128, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S768x128, .f32⟩
  | .local _ .vmem, ⟨17, _⟩ => ⟨S768x128, .f32⟩
  | .local _ .vmem, ⟨18, _⟩ => ⟨S128x768, .f32⟩
  | .local _ .vmem, ⟨19, _⟩ => ⟨S128x768, .f32⟩
  | .local _ .vmem, ⟨20, _⟩ => ⟨S128x768, .f32⟩
  | .local _ .vmem, ⟨21, _⟩ => ⟨S128x768, .f32⟩
  | .local _ .vmem, ⟨22, _⟩ => ⟨S32x4096, .f32⟩
  | .local _ .vmem, ⟨23, _⟩ => ⟨S32x4096, .f32⟩
  | .local _ .vmem, ⟨24, _⟩ => ⟨S768x1792, .bf16⟩
  | .local _ .vmem, ⟨25, _⟩ => ⟨S768x1792, .bf16⟩
  | .local _ .vmem, ⟨26, _⟩ => ⟨S1x512x768, .bf16⟩
  | .local _ .vmem, ⟨27, _⟩ => ⟨S1x512x768, .bf16⟩
  | .local _ .vmem, ⟨28, _⟩ => ⟨S32x4096, .bf16⟩
  | .local _ .vmem, ⟨29, _⟩ => ⟨S32x4096, .bf16⟩
  | _, _ => ⟨S17664x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_c_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![8, 23], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c23_i32 : BitVec 32 := 23#32
  let v0 : BitVec 32 := Scalar.muli arg0 c23_i32
  let v1 : BitVec 32 := Scalar.addi v0 arg1
  let c127_i32 : BitVec 32 := 127#32
  let v2 : BitVec 32 := Scalar.minsi v1 c127_i32
  let c64_i32 : BitVec 32 := 64#32
  let v3 : BitVec 32 := Scalar.divsi v2 c64_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c64_i32 c0_i32_1
  let v10 : BitVec 32 := Scalar.extui v9
  let c0_i32_2 : BitVec 32 := 0#32
  let v11 : BitVec 1 := Scalar.cmpi .slt c64_i32 c0_i32_2
  let v12 : BitVec 32 := Scalar.extui v11
  let v13 : BitVec 32 := Scalar.subi v10 v12
  let v14 : BitVec 1 := Scalar.cmpi .ne v8 v13
  let v15 : BitVec 32 := Scalar.remsi v2 c64_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c64_i32_4 : BitVec 32 := 64#32
  let c0_i32_5 : BitVec 32 := 0#32
  let v20 : BitVec 1 := Scalar.cmpi .eq c64_i32_4 c0_i32_5
  let c1_i32_6 : BitVec 32 := 1#32
  let v21 : BitVec 32 := Scalar.select v20 c1_i32_6 c64_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c8_i32 : BitVec 32 := 8#32
  let v30 : BitVec 32 := Scalar.divsi v29 c8_i32
  let c0_i32_10 : BitVec 32 := 0#32
  let v31 : BitVec 1 := Scalar.cmpi .sgt v29 c0_i32_10
  let v32 : BitVec 32 := Scalar.extui v31
  let c0_i32_11 : BitVec 32 := 0#32
  let v33 : BitVec 1 := Scalar.cmpi .slt v29 c0_i32_11
  let v34 : BitVec 32 := Scalar.extui v33
  let v35 : BitVec 32 := Scalar.subi v32 v34
  let c0_i32_12 : BitVec 32 := 0#32
  let v36 : BitVec 1 := Scalar.cmpi .sgt c8_i32 c0_i32_12
  let v37 : BitVec 32 := Scalar.extui v36
  let c0_i32_13 : BitVec 32 := 0#32
  let v38 : BitVec 1 := Scalar.cmpi .slt c8_i32 c0_i32_13
  let v39 : BitVec 32 := Scalar.extui v38
  let v40 : BitVec 32 := Scalar.subi v37 v39
  let v41 : BitVec 1 := Scalar.cmpi .ne v35 v40
  let v42 : BitVec 32 := Scalar.remsi v29 c8_i32
  let c0_i32_14 : BitVec 32 := 0#32
  let v43 : BitVec 1 := Scalar.cmpi .ne v42 c0_i32_14
  let v44 : BitVec 1 := Scalar.andi v41 v43
  let c1_i32_15 : BitVec 32 := 1#32
  let v45 : BitVec 32 := Scalar.subi v30 c1_i32_15
  let v46 : BitVec 32 := Scalar.select v44 v45 v30
  let c8_i32_16 : BitVec 32 := 8#32
  let c0_i32_17 : BitVec 32 := 0#32
  let v47 : BitVec 1 := Scalar.cmpi .eq c8_i32_16 c0_i32_17
  let c1_i32_18 : BitVec 32 := 1#32
  let v48 : BitVec 32 := Scalar.select v47 c1_i32_18 c8_i32_16
  let v49 : BitVec 32 := Scalar.remsi v2 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c2_i32 : BitVec 32 := 2#32
  let v57 : BitVec 32 := Scalar.muli v46 c2_i32
  let v58 : BitVec 32 := Scalar.addi v57 v19
  let c8_i32_22 : BitVec 32 := 8#32
  let v59 : BitVec 32 := Scalar.muli v58 c8_i32_22
  let v60 : BitVec 32 := Scalar.addi v59 v56
  let c0_i32_23 : BitVec 32 := 0#32
  let c0_i32_24 : BitVec 32 := 0#32
  ![v60.toNat, c0_i32_23.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S256x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S256x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S256x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S256x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S768x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S128x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S128x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S32x4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S768x1792 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x768 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x4096 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjRefIdeal.lean ====
abbrev S17664x4096 : Shape := ⟨2, ![17664, 4096]⟩
abbrev S4096x18448 : Shape := ⟨2, ![4096, 18448]⟩
abbrev S4096x4096 : Shape := ⟨2, ![4096, 4096]⟩
abbrev S16384 : Shape := ⟨1, ![16384]⟩
abbrev S_ : Shape := ⟨0, ![]⟩
abbrev S64 : Shape := ⟨1, ![64]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S17664 : Shape := ⟨1, ![17664]⟩
abbrev S17664x18448 : Shape := ⟨2, ![17664, 18448]⟩
abbrev S17664x2048 : Shape := ⟨2, ![17664, 2048]⟩
abbrev S17664x8x256 : Shape := ⟨3, ![17664, 8, 256]⟩
abbrev S128 : Shape := ⟨1, ![128]⟩
abbrev S17664x1 : Shape := ⟨2, ![17664, 1]⟩
abbrev S1x128 : Shape := ⟨2, ![1, 128]⟩
abbrev S17664x128 : Shape := ⟨2, ![17664, 128]⟩
abbrev S17664x1x128 : Shape := ⟨3, ![17664, 1, 128]⟩
abbrev S17664x8x128 : Shape := ⟨3, ![17664, 8, 128]⟩
abbrev S17664x8x1x256 : Shape := ⟨4, ![17664, 8, 1, 256]⟩
abbrev S17664x8x7x256 : Shape := ⟨4, ![17664, 8, 7, 256]⟩
abbrev S17664x8x2x256 : Shape := ⟨4, ![17664, 8, 2, 256]⟩
abbrev S17664x14336 : Shape := ⟨2, ![17664, 14336]⟩
abbrev S17664x8x512 : Shape := ⟨3, ![17664, 8, 512]⟩
abbrev S8x512x17664 : Shape := ⟨3, ![8, 512, 17664]⟩
abbrev S2x8x256x4096 : Shape := ⟨4, ![2, 8, 256, 4096]⟩
abbrev S8x2x256x4096 : Shape := ⟨4, ![8, 2, 256, 4096]⟩

abbrev nBuf : Space → Nat
  | .hbm => 161
  | .vmem => 0
  | .smem => 0
  | _ => 0

abbrev hbmTy0_0 (i : Nat) : BufTy := match i % 128 with
  | 0 => ⟨S17664x4096, .bf16⟩
  | 1 => ⟨S4096x18448, .f32⟩
  | 2 => ⟨S4096x4096, .f32⟩
  | 3 => ⟨S16384, .f32⟩
  | 4 => ⟨S_, .f32⟩
  | 5 => ⟨S16384, .f32⟩
  | 6 => ⟨S16384, .f32⟩
  | 7 => ⟨S64, .f32⟩
  | 8 => ⟨S_, .f32⟩
  | 9 => ⟨S64, .f32⟩
  | 10 => ⟨S64, .f32⟩
  | 11 => ⟨S64, .f32⟩
  | 12 => ⟨S16x64, .f32⟩
  | 13 => ⟨S1024, .f32⟩
  | 14 => ⟨S4x64, .f32⟩
  | 15 => ⟨S256, .f32⟩
  | 16 => ⟨S17664, .f32⟩
  | 17 => ⟨S17664x4096, .f32⟩
  | 18 => ⟨S17664x18448, .f32⟩
  | 19 => ⟨S17664x2048, .f32⟩
  | 20 => ⟨S17664x8x256, .f32⟩
  | 21 => ⟨S17664x2048, .f32⟩
  | 22 => ⟨S17664x8x256, .f32⟩
  | 23 => ⟨S17664x2048, .f32⟩
  | 24 => ⟨S17664x8x256, .f32⟩
  | 25 => ⟨S17664x2048, .f32⟩
  | 26 => ⟨S17664x8x256, .f32⟩
  | 27 => ⟨S17664x2048, .f32⟩
  | 28 => ⟨S17664x8x256, .f32⟩
  | 29 => ⟨S17664x2048, .f32⟩
  | 30 => ⟨S17664x8x256, .f32⟩
  | 31 => ⟨S17664x2048, .f32⟩
  | 32 => ⟨S17664x8x256, .f32⟩
  | 33 => ⟨S17664x2048, .f32⟩
  | 34 => ⟨S17664x8x256, .f32⟩
  | 35 => ⟨S17664x2048, .f32⟩
  | 36 => ⟨S17664x8x256, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S17664x1, .f32⟩
  | 52 => ⟨S1x128, .f32⟩
  | 53 => ⟨S17664x128, .f32⟩
  | 54 => ⟨S17664x128, .f32⟩
  | 55 => ⟨S17664x128, .f32⟩
  | 56 => ⟨S17664x128, .f32⟩
  | 57 => ⟨S17664x1x128, .f32⟩
  | 58 => ⟨S17664x128, .f32⟩
  | 59 => ⟨S17664x1x128, .f32⟩
  | 60 => ⟨S17664x8x128, .f32⟩
  | 61 => ⟨S17664x8x128, .f32⟩
  | 62 => ⟨S17664x8x128, .f32⟩
  | 63 => ⟨S17664x8x128, .f32⟩
  | 64 => ⟨S17664x8x128, .f32⟩
  | 65 => ⟨S17664x8x128, .f32⟩
  | 66 => ⟨S17664x8x128, .f32⟩
  | 67 => ⟨S17664x8x128, .f32⟩
  | 68 => ⟨S17664x8x128, .f32⟩
  | 69 => ⟨S17664x8x128, .f32⟩
  | 70 => ⟨S17664x8x128, .f32⟩
  | 71 => ⟨S17664x8x128, .f32⟩
  | 72 => ⟨S17664x8x256, .f32⟩
  | 73 => ⟨S128, .f32⟩
  | 74 => ⟨S_, .f32⟩
  | 75 => ⟨S128, .f32⟩
  | 76 => ⟨S128, .f32⟩
  | 77 => ⟨S_, .f32⟩
  | 78 => ⟨S128, .f32⟩
  | 79 => ⟨S128, .f32⟩
  | 80 => ⟨S128, .f32⟩
  | 81 => ⟨S_, .f32⟩
  | 82 => ⟨S128, .f32⟩
  | 83 => ⟨S128, .f32⟩
  | 84 => ⟨S_, .f32⟩
  | 85 => ⟨S128, .f32⟩
  | 86 => ⟨S128, .f32⟩
  | 87 => ⟨S17664x1, .f32⟩
  | 88 => ⟨S1x128, .f32⟩
  | 89 => ⟨S17664x128, .f32⟩
  | 90 => ⟨S17664x128, .f32⟩
  | 91 => ⟨S17664x128, .f32⟩
  | 92 => ⟨S17664x128, .f32⟩
  | 93 => ⟨S17664x1x128, .f32⟩
  | 94 => ⟨S17664x128, .f32⟩
  | 95 => ⟨S17664x1x128, .f32⟩
  | 96 => ⟨S17664x8x128, .f32⟩
  | 97 => ⟨S17664x8x128, .f32⟩
  | 98 => ⟨S17664x8x128, .f32⟩
  | 99 => ⟨S17664x8x128, .f32⟩
  | 100 => ⟨S17664x8x128, .f32⟩
  | 101 => ⟨S17664x8x128, .f32⟩
  | 102 => ⟨S17664x8x128, .f32⟩
  | 103 => ⟨S17664x8x128, .f32⟩
  | 104 => ⟨S17664x8x128, .f32⟩
  | 105 => ⟨S17664x8x128, .f32⟩
  | 106 => ⟨S17664x8x128, .f32⟩
  | 107 => ⟨S17664x8x128, .f32⟩
  | 108 => ⟨S17664x8x256, .f32⟩
  | 109 => ⟨S_, .f32⟩
  | 110 => ⟨S17664x8x256, .f32⟩
  | 111 => ⟨S17664x8x256, .f32⟩
  | 112 => ⟨S17664x8x256, .f32⟩
  | 113 => ⟨S17664x8x256, .f32⟩
  | 114 => ⟨S_, .f32⟩
  | 115 => ⟨S17664x8x256, .f32⟩
  | 116 => ⟨S17664x8x256, .f32⟩
  | 117 => ⟨S_, .f32⟩
  | 118 => ⟨S17664x8x256, .f32⟩
  | 119 => ⟨S17664x8x256, .f32⟩
  | 120 => ⟨S17664x8x256, .f32⟩
  | 121 => ⟨S17664x8x256, .f32⟩
  | 122 => ⟨S_, .f32⟩
  | 123 => ⟨S17664x8x256, .f32⟩
  | 124 => ⟨S17664x8x256, .f32⟩
  | 125 => ⟨S_, .f32⟩
  | 126 => ⟨S17664x8x256, .f32⟩
  | 127 => ⟨S17664x8x256, .f32⟩
  | _ => ⟨S17664x4096, .bf16⟩

abbrev hbmTy0_1 (i : Nat) : BufTy := match i % 128 with
  | 0 => ⟨S17664x8x256, .f32⟩
  | 1 => ⟨S17664x8x256, .f32⟩
  | 2 => ⟨S17664x8x256, .f32⟩
  | 3 => ⟨S_, .f32⟩
  | 4 => ⟨S17664x8x256, .f32⟩
  | 5 => ⟨S17664x8x256, .f32⟩
  | 6 => ⟨S_, .f32⟩
  | 7 => ⟨S17664x8x256, .f32⟩
  | 8 => ⟨S17664x8x256, .f32⟩
  | 9 => ⟨S17664x8x256, .f32⟩
  | 10 => ⟨S17664x8x1x256, .f32⟩
  | 11 => ⟨S17664x8x1x256, .f32⟩
  | 12 => ⟨S17664x8x1x256, .f32⟩
  | 13 => ⟨S17664x8x1x256, .f32⟩
  | 14 => ⟨S17664x8x1x256, .f32⟩
  | 15 => ⟨S17664x8x1x256, .f32⟩
  | 16 => ⟨S17664x8x1x256, .f32⟩
  | 17 => ⟨S17664x8x7x256, .f32⟩
  | 18 => ⟨S_, .f32⟩
  | 19 => ⟨S17664x8x256, .f32⟩
  | 20 => ⟨S17664x8x256, .f32⟩
  | 21 => ⟨S17664x8x1x256, .f32⟩
  | 22 => ⟨S17664x8x1x256, .f32⟩
  | 23 => ⟨S17664x8x2x256, .f32⟩
  | 24 => ⟨S17664x8x7x256, .bf16⟩
  | 25 => ⟨S17664x14336, .bf16⟩
  | 26 => ⟨S17664x8x2x256, .bf16⟩
  | 27 => ⟨S17664x8x512, .bf16⟩
  | 28 => ⟨S8x512x17664, .bf16⟩
  | 29 => ⟨S2x8x256x4096, .f32⟩
  | 30 => ⟨S8x2x256x4096, .f32⟩
  | 31 => ⟨S4096x4096, .f32⟩
  | 32 => ⟨S4096x4096, .bf16⟩
  | _ => ⟨S17664x4096, .bf16⟩

abbrev hbmTy (i : Nat) : BufTy := match i / 128 with
  | 0 => hbmTy0_0 i
  | 1 => hbmTy0_1 i
  | _ => ⟨S17664x4096, .bf16⟩

abbrev bufTy : (tb : Table) → Fin (tcTables nBuf tb) → BufTy
  | .hbm, ⟨i, _⟩ => hbmTy i
  | _, _ => ⟨S17664x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_cst_6 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_cst_7 : Ref sig .tc := ⟨.hbm, 81, rfl⟩
abbrev main_v70 : Ref sig .tc := ⟨.hbm, 82, rfl⟩
abbrev main_v71 : Ref sig .tc := ⟨.hbm, 83, rfl⟩
abbrev main_cst_8 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_cst_9 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_cst_10 : Ref sig .tc := ⟨.hbm, 114, rfl⟩
abbrev main_v100 : Ref sig .tc := ⟨.hbm, 115, rfl⟩
abbrev main_v101 : Ref sig .tc := ⟨.hbm, 116, rfl⟩
abbrev main_cst_11 : Ref sig .tc := ⟨.hbm, 117, rfl⟩
abbrev main_v102 : Ref sig .tc := ⟨.hbm, 118, rfl⟩
abbrev main_v103 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v104 : Ref sig .tc := ⟨.hbm, 128, rfl⟩
abbrev main_call1_v0 : Ref sig .tc := ⟨.hbm, 129, rfl⟩
abbrev main_call1_v1 : Ref sig .tc := ⟨.hbm, 130, rfl⟩
abbrev main_call1_cst : Ref sig .tc := ⟨.hbm, 131, rfl⟩
abbrev main_call1_v2 : Ref sig .tc := ⟨.hbm, 132, rfl⟩
abbrev main_call1_v3 : Ref sig .tc := ⟨.hbm, 133, rfl⟩
abbrev main_call1_cst_0 : Ref sig .tc := ⟨.hbm, 134, rfl⟩
abbrev main_call1_v4 : Ref sig .tc := ⟨.hbm, 135, rfl⟩
abbrev main_call1_v5 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_cst_12 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩

abbrev nD : Nat := 1
abbrev τ : Topo := Topo.v7x

variable {F : FTy → Type} [FloatOps F]
-- ==== Out.lean ====
abbrev S1024x4096 : Shape := ⟨2, ![1024, 4096]⟩
abbrev S4096x4096 : Shape := ⟨2, ![4096, 4096]⟩
abbrev S16x64x4096 : Shape := ⟨3, ![16, 64, 4096]⟩
abbrev S4096 : Shape := ⟨1, ![4096]⟩
abbrev S1x4096 : Shape := ⟨2, ![1, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S16x64x4096, .f32⟩
  | .hbm, ⟨3, _⟩ => ⟨S4096, .f32⟩
  | .hbm, ⟨4, _⟩ => ⟨S1024x4096, .f32⟩
  | .hbm, ⟨5, _⟩ => ⟨S1x4096, .f32⟩
  | .hbm, ⟨6, _⟩ => ⟨S1024x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c0_i32_3 : BitVec 32 := 0#32
  let v6 : BitVec 1 := Scalar.cmpi .eq arg1 c0_i32_3
  let v7 : BitVec 32 := Scalar.extui v6
  let c0_i32_4 : BitVec 32 := 0#32
  let v8 : BitVec 1 := Scalar.cmpi .ne v7 c0_i32_4
  v8

def k0_cond4 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_5 : BitVec 32 := 0#32
  let v11 : BitVec 1 := Scalar.cmpi .ne v10 c0_i32_5
  v11

def k0_cond5 (i : grid0.Coords) : BitVec 1 :=
  let arg1 : BitVec 32 := BitVec.ofNat 32 (i 1).val
  let c2_i32 : BitVec 32 := 2#32
  let v12 : BitVec 1 := Scalar.cmpi .eq arg1 c2_i32
  let v13 : BitVec 32 := Scalar.extui v12
  let c0_i32_6 : BitVec 32 := 0#32
  let v14 : BitVec 1 := Scalar.cmpi .ne v13 c0_i32_6
  v14

def k0_cond6 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_7 : BitVec 32 := 0#32
  let v17 : BitVec 1 := Scalar.cmpi .ne v16 c0_i32_7
  v17

def k0_cond7 (i : grid0.Coords) : BitVec 1 :=
  let arg1 : BitVec 32 := BitVec.ofNat 32 (i 1).val
  let c3_i32_8 : BitVec 32 := 3#32
  let v18 : BitVec 1 := Scalar.cmpi .eq arg1 c3_i32_8
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OutRefIdeal.lean ====
abbrev S1024x4096 : Shape := ⟨2, ![1024, 4096]⟩
abbrev S4096x4096 : Shape := ⟨2, ![4096, 4096]⟩
abbrev S16x64x4096 : Shape := ⟨3, ![16, 64, 4096]⟩
abbrev S4096 : Shape := ⟨1, ![4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S16x64x4096, .f32⟩
  | .hbm, ⟨3, _⟩ => ⟨S4096, .f32⟩
  | .hbm, ⟨4, _⟩ => ⟨S1024x4096, .f32⟩
  | .hbm, ⟨5, _⟩ => ⟨S1024x4096, .f32⟩
  | .hbm, ⟨6, _⟩ => ⟨S4096x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x4096, .f32⟩
  | .hbm, ⟨21, _⟩ => ⟨S1024x4096, .f32⟩
  | .hbm, ⟨22, _⟩ => ⟨S1x4096, .f32⟩
  | .hbm, ⟨23, _⟩ => ⟨S1024x4096, .f32⟩
  | .hbm, ⟨24, _⟩ => ⟨S1024x4096, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S16384x4096 : Shape := ⟨2, ![16384, 4096]⟩
abbrev S16x64x4096 : Shape := ⟨3, ![16, 64, 4096]⟩
abbrev S16x4096 : Shape := ⟨2, ![16, 4096]⟩
abbrev S4096 : Shape := ⟨1, ![4096]⟩
abbrev S4096x18448 : Shape := ⟨2, ![4096, 18448]⟩
abbrev S18448x4096 : Shape := ⟨2, ![18448, 4096]⟩
abbrev S_ : Shape := ⟨0, ![]⟩
abbrev S256x4096 : Shape := ⟨2, ![256, 4096]⟩
abbrev S8x4096 : Shape := ⟨2, ![8, 4096]⟩
abbrev S1 : Shape := ⟨1, ![1]⟩
abbrev S1x4096 : Shape := ⟨2, ![1, 4096]⟩
abbrev S1024x4096 : Shape := ⟨2, ![1024, 4096]⟩
abbrev S17664x4096 : Shape := ⟨2, ![17664, 4096]⟩
abbrev S17664x256 : Shape := ⟨2, ![17664, 256]⟩
abbrev S256x256 : Shape := ⟨2, ![256, 256]⟩
abbrev S256 : Shape := ⟨1, ![256]⟩
abbrev S256x1 : Shape := ⟨2, ![256, 1]⟩

abbrev nBuf : Space → Nat
  | .hbm => 24
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16x64x4096, .f32⟩
  | .hbm, ⟨2, _⟩ => ⟨S16x4096, .f32⟩
  | .hbm, ⟨3, _⟩ => ⟨S4096, .f32⟩
  | .hbm, ⟨4, _⟩ => ⟨S4096x18448, .f32⟩
  | .hbm, ⟨5, _⟩ => ⟨S18448x4096, .f32⟩
  | .hbm, ⟨6, _⟩ => ⟨S_, .f32⟩
  | .hbm, ⟨7, _⟩ => ⟨S256x4096, .f32⟩
  | .hbm, ⟨8, _⟩ => ⟨S8x4096, .f32⟩
  | .hbm, ⟨9, _⟩ => ⟨S_, .i32⟩
  | .hbm, ⟨10, _⟩ => ⟨S1, .i32⟩
  | .hbm, ⟨11, _⟩ => ⟨S256x4096, .f32⟩
  | .hbm, ⟨12, _⟩ => ⟨S8x4096, .f32⟩
  | .hbm, ⟨13, _⟩ => ⟨S_, .i32⟩
  | .hbm, ⟨14, _⟩ => ⟨S1, .i32⟩
  | .hbm, ⟨15, _⟩ => ⟨S256x4096, .f32⟩
  | .hbm, ⟨16, _⟩ => ⟨S256x4096, .bf16⟩
  | .hbm, ⟨17, _⟩ => ⟨S1x4096, .f32⟩
  | .hbm, ⟨18, _⟩ => ⟨S1024x4096, .f32⟩
  | .hbm, ⟨19, _⟩ => ⟨S_, .i32⟩
  | .hbm, ⟨20, _⟩ => ⟨S_, .f32⟩
  | .hbm, ⟨21, _⟩ => ⟨S256x4096, .f32⟩
  | .hbm, ⟨22, _⟩ => ⟨S17664x4096, .bf16⟩
  | .hbm, ⟨23, _⟩ => ⟨S17664x256, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S256x256, .f32⟩
  | .local _ .vmem, ⟨11, _⟩ => ⟨S256x256, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call0_v0 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![69], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c64_i32 : BitVec 32 := 64#32
  let v1 : BitVec 1 := Scalar.cmpi .slt arg0 c64_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c64_i32_1 : BitVec 32 := 64#32
  let v5 : BitVec 1 := Scalar.cmpi .sge arg0 c64_i32_1
  let c68_i32 : BitVec 32 := 68#32
  let v6 : BitVec 1 := Scalar.cmpi .slt arg0 c68_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c68_i32_3 : BitVec 32 := 68#32
  let v10 : BitVec 1 := Scalar.cmpi .sge arg0 c68_i32_3
  let c69_i32 : BitVec 32 := 69#32
  let v11 : BitVec 1 := Scalar.cmpi .slt arg0 c69_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c68_i32 : BitVec 32 := 68#32
  let v0 : BitVec 32 := Scalar.subi arg0 c68_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S16384x4096 : Shape := ⟨2, ![16384, 4096]⟩
abbrev S16x64x4096 : Shape := ⟨3, ![16, 64, 4096]⟩
abbrev S16x4096 : Shape := ⟨2, ![16, 4096]⟩
abbrev S4096 : Shape := ⟨1, ![4096]⟩
abbrev S4096x18448 : Shape := ⟨2, ![4096, 18448]⟩
abbrev S1024x4096 : Shape := ⟨2, ![1024, 4096]⟩
abbrev S_ : Shape := ⟨0, ![]⟩
abbrev S240x4096 : Shape := ⟨2, ![240, 4096]⟩
abbrev S17664x4096 : Shape := ⟨2, ![17664, 4096]⟩
abbrev S17664 : Shape := ⟨1, ![17664]⟩
abbrev S17664x1 : Shape := ⟨2, ![17664, 1]⟩
abbrev S1x4096 : Shape := ⟨2, ![1, 4096]⟩
abbrev S4096x16 : Shape := ⟨2, ![4096, 16]⟩
abbrev S17664x16 : Shape := ⟨2, ![17664, 16]⟩
abbrev S17664x120 : Shape := ⟨2, ![17664, 120]⟩
abbrev S17664x8 : Shape := ⟨2, ![17664, 8]⟩
abbrev S17664x256 : Shape := ⟨2, ![17664, 256]⟩

abbrev nBuf : Space → Nat
  | .hbm => 33
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16x64x4096, .f32⟩
  | .hbm, ⟨2, _⟩ => ⟨S16x4096, .f32⟩
  | .hbm, ⟨3, _⟩ => ⟨S4096, .f32⟩
  | .hbm, ⟨4, _⟩ => ⟨S4096x18448, .f32⟩
  | .hbm, ⟨5, _⟩ => ⟨S1024x4096, .f32⟩
  | .hbm, ⟨6, _⟩ => ⟨S_, .f32⟩
  | .hbm, ⟨7, _⟩ => ⟨S240x4096, .f32⟩
  | .hbm, ⟨8, _⟩ => ⟨S17664x4096, .f32⟩
  | .hbm, ⟨9, _⟩ => ⟨S17664x4096, .f32⟩
  | .hbm, ⟨10, _⟩ => ⟨S_, .f32⟩
  | .hbm, ⟨11, _⟩ => ⟨S17664, .f32⟩
  | .hbm, ⟨12, _⟩ => ⟨S17664x1, .f32⟩
  | .hbm, ⟨13, _⟩ => ⟨S_, .f32⟩
  | .hbm, ⟨14, _⟩ => ⟨S17664x1, .f32⟩
  | .hbm, ⟨15, _⟩ => ⟨S17664x1, .f32⟩
  | .hbm, ⟨16, _⟩ => ⟨S_, .f32⟩
  | .hbm, ⟨17, _⟩ => ⟨S17664x1, .f32⟩
  | .hbm, ⟨18, _⟩ => ⟨S17664x1, .f32⟩
  | .hbm, ⟨19, _⟩ => ⟨S17664x1, .f32⟩
  | .hbm, ⟨20, _⟩ => ⟨S17664x4096, .f32⟩
  | .hbm, ⟨21, _⟩ => ⟨S17664x4096, .f32⟩
  | .hbm, ⟨22, _⟩ => ⟨S1x4096, .f32⟩
  | .hbm, ⟨23, _⟩ => ⟨S17664x4096, .f32⟩
  | .hbm, ⟨24, _⟩ => ⟨S17664x4096, .f32⟩
  | .hbm, ⟨25, _⟩ => ⟨S4096x16, .f32⟩
  | .hbm, ⟨26, _⟩ => ⟨S17664x16, .f32⟩
  | .hbm, ⟨27, _⟩ => ⟨S_, .f32⟩
  | .hbm, ⟨28, _⟩ => ⟨S17664x120, .f32⟩
  | .hbm, ⟨29, _⟩ => ⟨S17664x8, .f32⟩
  | .hbm, ⟨30, _⟩ => ⟨S17664x8, .f32⟩
  | .hbm, ⟨31, _⟩ => ⟨S17664x256, .f32⟩
  | .hbm, ⟨32, _⟩ => ⟨S17664x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.RowMath.lean ====
module

public import Idealize.ShloMosaic.PureOps.Ideal
public import Mathlib.Data.EReal.Operations

/-! Facts about extended reals that the gate, weight and normalisation lines rest on. -/

@[expose] public section

noncomputable section

namespace Cert.RowMath

open Idealize.ShloMosaic

/-- The reciprocal of the natural logarithm of two. -/
abbrev ell : EReal := (((Real.log 2)⁻¹ : ℝ) : EReal)

theorem log_two_pos : (0 : ℝ) < Real.log 2 := Real.log_pos (by norm_num)

/-- A power of two at a multiple of `ell` is a power of `e`. -/
theorem exp2_mul_ell (x : EReal) : Ideal.exp2 (x * ell) = Ideal.exp x := by
  have hl : (0 : ℝ) < (Real.log 2)⁻¹ := inv_pos.mpr log_two_pos
  induction x with
  | bot => rw [EReal.bot_mul_coe_of_pos hl]; rfl
  | top => rw [EReal.top_mul_coe_of_pos hl]; rfl
  | coe r =>
    rw [← EReal.coe_mul, Ideal.exp2_coe, Ideal.exp_coe]
    congr 1
    show (2 : ℝ) ^ (r * (Real.log 2)⁻¹) = _
    rw [Real.rpow_def_of_pos (by norm_num)]
    congr 1
    field_simp [log_two_pos.ne']

theorem add_mul_ell (x y : EReal) : x * ell + y * ell = (x + y) * ell := by
  have hl : (0 : ℝ) < (Real.log 2)⁻¹ := inv_pos.mpr log_two_pos
  induction x with
  | bot => rw [EReal.bot_mul_coe_of_pos hl, EReal.bot_add, EReal.bot_add, EReal.bot_mul_coe_of_pos hl]
  | top =>
    induction y with
    | bot => rw [EReal.bot_mul_coe_of_pos hl, EReal.add_bot, EReal.add_bot, EReal.bot_mul_coe_of_pos hl]
    | top => rw [EReal.top_mul_coe_of_pos hl, EReal.top_add_top, EReal.top_mul_coe_of_pos hl]
    | coe s => rw [EReal.top_mul_coe_of_pos hl, ← EReal.coe_mul, EReal.top_add_coe, EReal.top_add_coe, EReal.top_mul_coe_of_pos hl]
  | coe r =>
    induction y with
    | bot => rw [EReal.bot_mul_coe_of_pos hl, EReal.add_bot, EReal.add_bot, EReal.bot_mul_coe_of_pos hl]
    | top => rw [EReal.top_mul_coe_of_pos hl, ← EReal.coe_mul, EReal.coe_add_top, EReal.coe_add_top, EReal.top_mul_coe_of_pos hl]
    | coe s => norm_cast; ring

/-- The weight of source `s` at row `t`: the row's running sum of the forget gates cancels. -/
theorem shift_sub (bt bs : ℝ) (ig mm : EReal) :
    (0 - mm) + (ig - bs) = ((bt : EReal) - bs + ig) - (bt + mm) := by
  induction mm with
  | bot =>
    induction ig with
    | bot => simp
    | top => simp [sub_eq_add_neg, ← EReal.coe_neg, ← EReal.coe_add]
    | coe r => simp [sub_eq_add_neg, ← EReal.coe_neg, ← EReal.coe_add]
  | top => simp [sub_eq_add_neg]
  | coe q =>
    induction ig with
    | bot => simp [sub_eq_add_neg]
    | top =>
      simp only [sub_eq_add_neg, zero_add, ← EReal.coe_neg, EReal.top_add_coe, EReal.coe_add_top, ← EReal.coe_add]
    | coe r => norm_cast; ring

theorem weight_eq (bt bs : ℝ) (ig mm : EReal) :
    Ideal.exp2 ((0 - mm) * ell + (ig - bs) * ell) = Ideal.exp (((bt : EReal) - bs + ig) - (bt + mm)) := by
  rw [add_mul_ell, exp2_mul_ell, shift_sub bt]

theorem shift_cancel (bt : ℝ) (m mm : EReal) : m - mm = ((bt : EReal) + m) - (bt + mm) := by
  induction mm with
  | bot =>
    induction m with
    | bot => simp
    | top => simp [sub_eq_add_neg]
    | coe r => simp [sub_eq_add_neg, ← EReal.coe_add]
  | top => simp [sub_eq_add_neg]
  | coe q =>
    induction m with
    | bot => simp [sub_eq_add_neg]
    | top => simp only [sub_eq_add_neg, ← EReal.coe_neg, EReal.top_add_coe, EReal.coe_add_top, ← EReal.coe_add]
    | coe r => norm_cast; ring

theorem coe_max (x y : ℝ) : ((max x y : ℝ) : EReal) = max (x : EReal) y := EReal.coe_strictMono.monotone.map_max
theorem coe_min (x y : ℝ) : ((min x y : ℝ) : EReal) = min (x : EReal) y := EReal.coe_strictMono.monotone.map_min

/-- The forget gate's logarithm, the kernel's way. -/
def lsig (z : EReal) : EReal := min z 0 - Ideal.log1p (Ideal.exp (0 - max z (-z)))

/-- The forget gate's logarithm, the reference's way. -/
def lsigR (z : EReal) : EReal := -(max (-z) 0 + Ideal.log1p (Ideal.exp (-(max (-z - 0) (-(-z - 0))))))

theorem lsig_coe (r : ℝ) : lsig r = ((min r 0 - Real.log (1 + Real.exp (-|r|)) : ℝ) : EReal) := by
  have h1 : max (r : EReal) (-(r : EReal)) = ((|r| : ℝ) : EReal) := by
    rw [← EReal.coe_neg, ← coe_max]; rfl
  have hp : ¬ (1 + Real.exp (-|r|)) ≤ 0 := not_le.mpr (by positivity)
  have h0 : (0 : EReal) - ((|r| : ℝ) : EReal) = ((-|r| : ℝ) : EReal) := by
    rw [sub_eq_add_neg, zero_add, EReal.coe_neg]
  rw [lsig, h1, h0, Ideal.exp_coe, Ideal.log1p, ← EReal.coe_one, ← EReal.coe_add, Ideal.log_coe, if_neg hp,
    ← EReal.coe_zero, ← coe_min, ← EReal.coe_sub]

theorem log1p_zero : Ideal.log1p 0 = 0 := by
  rw [Ideal.log1p, add_zero, ← EReal.coe_one, Ideal.log_coe, if_neg (by norm_num)]; simp

theorem lsig_top : lsig ⊤ = 0 := by
  rw [lsig]
  simp [sub_eq_add_neg, log1p_zero]

theorem lsig_eq {z : EReal} (h : z ≠ ⊥) : lsigR z = lsig z := by
  induction z with
  | bot => exact absurd rfl h
  | top => rw [lsig_top, lsigR]; simp [sub_eq_add_neg, log1p_zero]
  | coe r =>
    have h1 : max (-(r : EReal) - 0) (-(-(r : EReal) - 0)) = ((|r| : ℝ) : EReal) := by
      rw [sub_zero, neg_neg, max_comm, ← EReal.coe_neg, ← coe_max]; rfl
    have hp : ¬ (1 + Real.exp (-|r|)) ≤ 0 := not_le.mpr (by positivity)
    rw [lsig_coe, lsigR, h1, ← EReal.coe_neg, ← EReal.coe_neg, Ideal.exp_coe, Ideal.log1p, ← EReal.coe_one, ← EReal.coe_add,
      Ideal.log_coe, if_neg hp, ← EReal.coe_zero, ← coe_max, ← EReal.coe_add, ← EReal.coe_neg]
    congr 1
    rcases le_total r 0 with h | h
    · rw [max_eq_left (by linarith), min_eq_left h]; ring
    · rw [max_eq_right (by linarith), min_eq_right h]; ring

/-- An open gate's logarithm is a real number. -/
theorem lsig_real {z : EReal} (h : z ≠ ⊥) : ∃ r : ℝ, lsig z = r := by
  induction z with
  | bot => exact absurd rfl h
  | top => exact ⟨0, by rw [lsig_top]; rfl⟩
  | coe r => exact ⟨_, lsig_coe r⟩

/-! ### Running sums and maxima by doubling -/

/-- The sum of the last `d` terms up to `t`. -/
def wsum (f : ℕ → EReal) (d t : ℕ) : EReal := ∑ s ∈ (Finset.range (t + 1)).filter (fun s => t < s + d), f s

theorem wsum_one (f : ℕ → EReal) (t : ℕ) : wsum f 1 t = f t := by
  have : (Finset.range (t + 1)).filter (fun s => t < s + 1) = {t} := by
    ext s; simp only [Finset.mem_filter, Finset.mem_range, Finset.mem_singleton]; omega
  rw [wsum, this, Finset.sum_singleton]

theorem win_split (d t : ℕ) (h : d ≤ t) : (Finset.range (t + 1)).filter (fun s => t < s + 2 * d)
    = (Finset.range (t + 1)).filter (fun s => t < s + d) ∪ (Finset.range (t - d + 1)).filter (fun s => t - d < s + d) := by
  ext s; simp only [Finset.mem_filter, Finset.mem_range, Finset.mem_union]; omega

theorem win_small (d t : ℕ) (h : ¬ d ≤ t) : (Finset.range (t + 1)).filter (fun s => t < s + 2 * d)
    = (Finset.range (t + 1)).filter (fun s => t < s + d) := by
  ext s; simp only [Finset.mem_filter, Finset.mem_range]; omega

theorem wsum_double (f : ℕ → EReal) (d t : ℕ) :
    wsum f d t + (if d ≤ t then wsum f d (t - d) else 0) = wsum f (2 * d) t := by
  by_cases h : d ≤ t
  · rw [if_pos h, wsum, wsum, wsum, win_split d t h, Finset.sum_union]
    rw [Finset.disjoint_left]; intro s; simp only [Finset.mem_filter, Finset.mem_range]; omega
  · rw [if_neg h, add_zero, wsum, wsum, win_small d t h]

theorem wsum_all (f : ℕ → EReal) (d t : ℕ) (h : t < d) : wsum f d t = ∑ s ∈ Finset.range (t + 1), f s := by
  rw [wsum, Finset.filter_true_of_mem]; intro s _; omega

/-- The largest of the last `d` terms up to `t`. -/
def wsup (f : ℕ → EReal) (d t : ℕ) : EReal := ((Finset.range (t + 1)).filter (fun s => t < s + d)).sup f

theorem wsup_one (f : ℕ → EReal) (t : ℕ) : wsup f 1 t = f t := by
  have : (Finset.range (t + 1)).filter (fun s => t < s + 1) = {t} := by
    ext s; simp only [Finset.mem_filter, Finset.mem_range, Finset.mem_singleton]; omega
  rw [wsup, this, Finset.sup_singleton]

theorem wsup_double (f : ℕ → EReal) (d t : ℕ) :
    max (wsup f d t) (if d ≤ t then wsup f d (t - d) else ⊥) = wsup f (2 * d) t := by
  by_cases h : d ≤ t
  · rw [if_pos h, wsup, wsup, wsup, win_split d t h, Finset.sup_union]
  · rw [if_neg h, max_bot_right, wsup, wsup, win_small d t h]

theorem wsup_all (f : ℕ → EReal) (d t : ℕ) (h : t < d) : wsup f d t = (Finset.range (t + 1)).sup f := by
  rw [wsup, Finset.filter_true_of_mem]; intro s _; omega

theorem coe_add_max (b : ℝ) (x y : EReal) : (b : EReal) + max x y = max (b + x) (b + y) := by
  rcases le_total x y with h | h
  · rw [max_eq_right h, max_eq_right (by gcongr)]
  · rw [max_eq_left h, max_eq_left (by gcongr)]

theorem coe_add_sup {ι : Type*} (b : ℝ) (s : Finset ι) (f : ι → EReal) :
    (b : EReal) + s.sup f = s.sup fun i => b + f i := by
  classical
  induction s using Finset.induction with
  | empty => simp
  | insert a s _ ih => rw [Finset.sup_insert, Finset.sup_insert, ← ih]; exact coe_add_max _ _ _

theorem sum_real (f : ℕ → EReal) (n : ℕ) (h : ∀ s < n, ∃ r : ℝ, f s = r) : ∃ r : ℝ, ∑ s ∈ Finset.range n, f s = r := by
  induction n with
  | zero => exact ⟨0, by simp⟩
  | succ n ih =>
    obtain ⟨r, hr⟩ := ih fun s hs => h s (by omega)
    obtain ⟨q, hq⟩ := h n (by omega)
    exact ⟨r + q, by rw [Finset.sum_range_succ, hr, hq, EReal.coe_add]⟩

/-! ### Division by the stabilised denominator, and the head norm after it -/

theorem div_ne {x y : EReal} (h : y ≠ 0) : Ideal.div x y = x * Ideal.div 1 y := by
  rw [Ideal.div, if_neg h, Ideal.div, if_neg h, one_mul]

/-- Zero or infinite. -/
def Flat (x : EReal) : Prop := x = 0 ∨ x = ⊤ ∨ x = ⊥

theorem flat_mul (o : EReal) {x : EReal} (h : Flat x) : Flat (o * x) := by
  rcases h with rfl | rfl | rfl
  · exact .inl (mul_zero _)
  · rcases lt_trichotomy 0 o with h | h | h
    · exact .inr (.inl (EReal.mul_top_of_pos h))
    · subst h; exact .inl (zero_mul _)
    · exact .inr (.inr (EReal.mul_top_of_neg h))
  · rcases lt_trichotomy 0 o with h | h | h
    · exact .inr (.inr (EReal.mul_bot_of_pos h))
    · subst h; exact .inl (zero_mul _)
    · exact .inr (.inl (EReal.mul_bot_of_neg h))

theorem flat_top (o : EReal) : Flat (o * ⊤) := flat_mul o (.inr (.inl rfl))

theorem flat_div_zero (x : EReal) : Flat (Ideal.div x 0) := by
  rw [Ideal.div, if_pos rfl]; split
  · exact .inr (.inl rfl)
  · exact .inr (.inr rfl)

theorem flat_sq {x : EReal} (h : Flat x) : x * x = 0 ∨ x * x = ⊤ := by
  rcases h with rfl | rfl | rfl
  · exact .inl (mul_zero _)
  · exact .inr EReal.top_mul_top
  · exact .inr EReal.bot_mul_bot

/-- A row of zeros and infinities is normalised to zeros. -/
theorem flat_norm {n : ℕ} (x : Fin n → EReal) (hx : ∀ i, Flat (x i)) (c e : ℝ) (hc : 0 < c) (i : Fin n) :
    x i * Ideal.rsqrt (Ideal.div (∑ k, x k * x k) c + e) = 0 := by
  by_cases h : x i = 0
  · rw [h, zero_mul]
  have hi : x i * x i = ⊤ := by
    rcases hx i with h0 | h1 | h1
    · exact absurd h0 h
    · rw [h1, EReal.top_mul_top]
    · rw [h1, EReal.bot_mul_bot]
  have hs : ∑ k, x k * x k = ⊤ := by
    have hle : x i * x i ≤ ∑ k, x k * x k := by
      refine Finset.single_le_sum (f := fun k => x k * x k) (fun k _ => ?_) (Finset.mem_univ i)
      rcases flat_sq (hx k) with h | h <;> rw [h]; exact le_top
    rw [hi] at hle
    exact top_le_iff.mp hle
  rw [hs, Ideal.div_coe hc.ne', EReal.top_mul_coe_of_pos (by positivity), EReal.top_add_coe, Ideal.rsqrt_top, mul_zero]

/-- The two ways of dividing by the denominator agree after the head norm. -/
theorem norm_quot {n : ℕ} (o num : Fin n → EReal) (M : EReal) (c e : ℝ) (hc : 0 < c) (i : Fin n) :
    o i * (num i * Ideal.div 1 M) * Ideal.rsqrt (Ideal.div (∑ k, o k * (num k * Ideal.div 1 M) * (o k * (num k * Ideal.div 1 M))) c + e)
    = o i * Ideal.div (num i) M * Ideal.rsqrt (Ideal.div (∑ k, o k * Ideal.div (num k) M * (o k * Ideal.div (num k) M)) c + e) := by
  by_cases hM : M = 0
  · subst hM
    rw [flat_norm (fun k => o k * (num k * Ideal.div 1 0)) (fun k => flat_mul _ ?_) c e hc i,
      flat_norm (fun k => o k * Ideal.div (num k) 0) (fun k => flat_mul _ (flat_div_zero _)) c e hc i]
    exact flat_mul _ (flat_div_zero _)
  · have h : ∀ x, Ideal.div x M = x * Ideal.div 1 M := fun x => div_ne hM
    generalize Ideal.div 1 M = r at h
    simp only [h]

end Cert.RowMath

end
-- ==== Proof.Cum.lean ====
module

public import Idealize.ShloMosaic.Lib.Pointwise
public import proofs.«01_k».proof.Proof.Gen.SampleRefIdeal.Read
public import proofs.«01_k».proof.Proof.RowMath

/-! The reference's running sum and its row maximum, read at an index. -/

@[expose] public section

set_option maxRecDepth 100000

noncomputable section

namespace Cert.RefAt

open Idealize.ShloMosaic Cert.SampleRefIdeal Cert.SampleRefIdeal.Read

/-- A left fold that adds is the start plus the sum. -/
theorem foldl_add {ι : Type*} (l : List ι) (g : ι → EReal) (step : EReal → ι → EReal) (h : ∀ r n, step r n = r + g n) (z : EReal) :
    l.foldl step z = z + (l.map g).sum := by
  induction l generalizing z with
  | nil => simp
  | cons a l ih => rw [List.foldl_cons, ih, h, List.map_cons, List.sum_cons, add_assoc]

/-- The window that ends at `t`, padded below by zeros, sums the entries up to `t`. -/
theorem sum_window (f : ℕ → EReal) (t : ℕ) (ht : t < 64) :
    (∑ w : Fin 64, if 63 ≤ t + w.val then f (t + w.val - 63) else 0) = ∑ s ∈ Finset.range (t + 1), f s := by
  rw [Fin.sum_univ_eq_sum_range (fun w => if 63 ≤ t + w then f (t + w - 63) else 0) 64,
    show 64 = (63 - t) + (t + 1) by omega, Finset.sum_range_add, Finset.sum_eq_zero, zero_add]
  · refine Finset.sum_congr rfl fun i hi => ?_
    have := Finset.mem_range.1 hi
    rw [if_pos (by omega)]
    congr 1; omega
  · intro w hw
    have := Finset.mem_range.1 hw
    rw [if_neg (by omega)]

abbrev Wd : Shape := ⟨3, ![1, 1, 64]⟩

theorem numelWd : Wd.numel = 64 := by decide +kernel

theorem symmWd (n : Fin Wd.numel) : (Wd.rowMajor.symm n 2).val = n.val := by
  have h := Shape.rowMajor_val_three (Wd.rowMajor.symm n)
  rw [Equiv.apply_symm_apply] at h
  have h0 : (Wd.rowMajor.symm n 0).val < 1 := (Wd.rowMajor.symm n 0).isLt
  have h1 : (Wd.rowMajor.symm n 1).val < 1 := (Wd.rowMajor.symm n 1).isLt
  have e0 : (Wd.rowMajor.symm n 0).val = 0 := by omega
  have e1 : (Wd.rowMajor.symm n 1).val = 0 := by omega
  rw [e0, e1] at h
  simpa using h.symm

theorem symmWd0 (n : Fin Wd.numel) : (Wd.rowMajor.symm n 0).val = 0 := by
  have h0 : (Wd.rowMajor.symm n 0).val < 1 := (Wd.rowMajor.symm n 0).isLt
  omega
theorem symmWd1 (n : Fin Wd.numel) : (Wd.rowMajor.symm n 1).val = 0 := by
  have h0 : (Wd.rowMajor.symm n 1).val < 1 := (Wd.rowMajor.symm n 1).isLt
  omega

/-- The reference's running sum over 64 rows. -/
theorem cumsum_at (x : FVec Ideal S16x8x64 .f32) (init : EReal) (hi : init = 0)
    (h : S16x8x64.ReduceWindows ![1, 1, 64] ![1, 1, 1] ![0, 0, 63] ![0, 0, 0] S16x8x64)
    (s : Fin 16) (hh : Fin 8) (t : Fin 64) (f : ℕ → EReal) (hf : ∀ u : Fin 64, x (ix3 s hh u) = f u.val) :
    Ideal.hostReduceWindowAdd ![1, 1, 64] ![1, 1, 1] ![0, 0, 63] ![0, 0, 0] h x init (ix3 s hh t)
      = ∑ u ∈ Finset.range (t.val + 1), f u := by
  subst hi
  unfold Ideal.hostReduceWindowAdd Host.reduceWindow
  dsimp only
  rw [foldl_add _ (fun n : Fin Wd.numel => if 63 ≤ t.val + n.val then f (t.val + n.val - 63) else 0), zero_add]
  · rw [← List.ofFn_eq_map, List.sum_ofFn, ← sum_window f t.val t.isLt, ← Equiv.sum_comp (finCongr numelWd)]
    rfl
  · intro r n
    have hn : n.val < 64 := Nat.lt_of_lt_of_eq n.isLt numelWd
    have ht := t.isLt
    refine congrArg (r + ·) ?_
    split
    · next hin =>
      have h2 := hin 2
      change 63 ≤ t.val * 1 + (Wd.rowMajor.symm n 2).val ∧ t.val * 1 + (Wd.rowMajor.symm n 2).val - 63 < 64 at h2
      rw [symmWd] at h2
      rw [if_pos (by omega)]
      refine (congrArg x (funext fun a => Fin.ext ?_)).trans (hf ⟨t.val + n.val - 63, by omega⟩)
      match a with
      | ⟨0, _⟩ =>
        show s.val * 1 + (Wd.rowMajor.symm n 0).val - 0 = s.val
        rw [symmWd0]; omega
      | ⟨1, _⟩ =>
        show hh.val * 1 + (Wd.rowMajor.symm n 1).val - 0 = hh.val
        rw [symmWd1]; omega
      | ⟨2, _⟩ =>
        show t.val * 1 + (Wd.rowMajor.symm n 2).val - 63 = t.val + n.val - 63
        rw [symmWd]; omega
    · next hin =>
      rw [if_neg fun hle => hin fun a => by
        match a with
        | ⟨0, _⟩ =>
          show 0 ≤ s.val * 1 + (Wd.rowMajor.symm n 0).val ∧ s.val * 1 + (Wd.rowMajor.symm n 0).val - 0 < 16
          have := s.isLt
          rw [symmWd0]; omega
        | ⟨1, _⟩ =>
          show 0 ≤ hh.val * 1 + (Wd.rowMajor.symm n 1).val ∧ hh.val * 1 + (Wd.rowMajor.symm n 1).val - 0 < 8
          have := hh.isLt
          rw [symmWd1]; omega
        | ⟨2, _⟩ =>
          show 63 ≤ t.val * 1 + (Wd.rowMajor.symm n 2).val ∧ t.val * 1 + (Wd.rowMajor.symm n 2).val - 63 < 64
          rw [symmWd]; omega]

/-- The reference's row maximum over 64 entries. -/
theorem rowmax_at (x : FVec Ideal S16x8x64x64 .f32) (init : S_.Idx → EReal) (hi : ∀ i, init i = ⊥) (h : S16x8x64x64.ReducesTo [3] S16x8x64)
    (hu : 0 < S_.numel) (s : Fin 16) (hh : Fin 8) (t : Fin 64) (f : Fin 64 → EReal) (hf : ∀ u : Fin 64, x (ix4 s hh t u) = f u) :
    Host.reduce (FloatOps.maximumf (F := Ideal) (φ := .f32)) x init h hu (ix3 s hh t) = Finset.univ.sup f := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  have hr : S16x8x64x64.Reduces [3] S16x8x64 := by decide
  rw [Host.reduce_eq_fold_single _ x init h hr hu (ix3 s hh t), hi]
  have e : (x ∘ hr.lift (ix3 s hh t)) = f := by
    funext u
    refine Eq.trans (congrArg x ?_) (hf u)
    funext a
    apply Fin.ext
    match a with
    | ⟨0, _⟩ => rfl
    | ⟨1, _⟩ => rfl
    | ⟨2, _⟩ => rfl
    | ⟨3, _⟩ => rfl
  rw [e]
  rfl

end Cert.RefAt

end
-- ==== Proof.Ref1.lean ====
module

public import proofs.«01_k».proof.Proof.Cum

/-! The reference's arrays read at an index: the projected rows, the keys, the gates. -/

@[expose] public section

set_option maxRecDepth 100000

noncomputable section

namespace Cert.RefAt

open Idealize.ShloMosaic Cert.SampleRefIdeal Cert.SampleRefIdeal.Read Cert.RowMath

/-- Entry `d` of section `i` of head `h` in the projected row of request `s`, step `t`. -/
def pr (x0 : FVec Ideal S17664x14336 .bf16) (s : Fin 16) (h : Fin 8) (i : Fin 7) (t : Fin 64) (d : Fin 256) : EReal :=
  x0 (ix2 ⟨16384 + s.val * 64 + t.val, by omega⟩ ⟨h.val * 1792 + i.val * 256 + d.val, by omega⟩)

/-- Feature `d` of key half `i` of head `h` at request `s`, step `t`. -/
def kr (x1 : FVec Ideal S8x512x17664 .bf16) (s : Fin 16) (h : Fin 8) (i : Fin 2) (d : Fin 256) (t : Fin 64) : EReal :=
  x1 (ix3 h ⟨i.val * 256 + d.val, by omega⟩ ⟨16384 + s.val * 64 + t.val, by omega⟩)

/-- The input gate. -/
def igr (x2 : FVec Ideal S17664x256 .f32) (x3 : FVec Ideal S8 .f32) (s : Fin 16) (h : Fin 8) (t : Fin 64) : EReal :=
  x2 (ix2 ⟨16384 + s.val * 64 + t.val, by omega⟩ ⟨h.val, by omega⟩) + x3 (ix1 h)

/-- The forget gate before its logarithm. -/
def zr (x2 : FVec Ideal S17664x256 .f32) (x4 : FVec Ideal S8 .f32) (s : Fin 16) (h : Fin 8) (t : Fin 64) : EReal :=
  x2 (ix2 ⟨16384 + s.val * 64 + t.val, by omega⟩ ⟨128 + h.val, by omega⟩) + x4 (ix1 h)

variable (x0 : FVec Ideal S17664x14336 .bf16) (x1 : FVec Ideal S8x512x17664 .bf16) (x2 : FVec Ideal S17664x256 .f32)
  (x3 x4 : FVec Ideal S8 .f32)

theorem v2_at (s : Fin 16) (t : Fin 64) (h : Fin 8) (i : Fin 7) (d : Fin 256) :
    val_main_v2 (F := Ideal) x0 (ix5 s t h i d) = pr x0 s h i t d := by
  rw [val_main_v2_apply, val_main_v1_apply, val_main_v0_apply]
  refine congrArg x0 (funext fun a => Fin.ext ?_)
  have := d.isLt; have := i.isLt; have := h.isLt; have := t.isLt
  match a with
  | ⟨0, _⟩ =>
    show 16384 + ((((s.val * 64 + t.val) * 8 + h.val) * 7 + i.val) * 256 + d.val) / 14336 = 16384 + s.val * 64 + t.val
    omega
  | ⟨1, _⟩ =>
    show ((((s.val * 64 + t.val) * 8 + h.val) * 7 + i.val) * 256 + d.val) % 14336 = h.val * 1792 + i.val * 256 + d.val
    omega

theorem v5_at (h : Fin 8) (i : Fin 2) (d : Fin 256) (s : Fin 16) (t : Fin 64) :
    val_main_v5 (F := Ideal) x1 (ix5 h i d s t) = kr x1 s h i d t := by
  rw [val_main_v5_apply, val_main_v4_apply, val_main_v3_apply]
  refine congrArg x1 (funext fun a => Fin.ext ?_)
  have := d.isLt; have := i.isLt; have := h.isLt; have := t.isLt; have := s.isLt
  match a with
  | ⟨0, _⟩ =>
    show ((((h.val * 2 + i.val) * 256 + d.val) * 16 + s.val) * 64 + t.val) / 524288 = h.val
    omega
  | ⟨1, _⟩ =>
    show ((((h.val * 2 + i.val) * 256 + d.val) * 16 + s.val) * 64 + t.val) / 1024 % 512 = i.val * 256 + d.val
    omega
  | ⟨2, _⟩ =>
    show 16384 + ((((h.val * 2 + i.val) * 256 + d.val) * 16 + s.val) * 64 + t.val) % 1024 = 16384 + s.val * 64 + t.val
    omega

theorem v7_at (s : Fin 16) (t : Fin 64) (l : Fin 256) :
    val_main_v7 (F := Ideal) x2 (ix3 s t l) = x2 (ix2 ⟨16384 + s.val * 64 + t.val, by omega⟩ l) := by
  rw [val_main_v7_apply, val_main_v6_apply]
  refine congrArg x2 (funext fun a => Fin.ext ?_)
  have := t.isLt; have := s.isLt; have := l.isLt
  match a with
  | ⟨0, _⟩ =>
    show 16384 + ((s.val * 64 + t.val) * 256 + l.val) / 256 = 16384 + s.val * 64 + t.val
    omega
  | ⟨1, _⟩ =>
    show ((s.val * 64 + t.val) * 256 + l.val) % 256 = l.val
    omega

theorem v12_at (s : Fin 16) (h : Fin 8) (t : Fin 64) : val_main_v12 (F := Ideal) x2 x3 (ix3 s h t) = igr x2 x3 s h t := by
  rw [val_main_v12_apply, val_main_v11_apply, val_main_v8_apply, val_main_v10_apply, val_main_v9_apply]
  refine congrArg₂ (· + ·) ((congrArg (val_main_v7 (F := Ideal) x2) ?_).trans (v7_at x2 s t ⟨h.val, by omega⟩)) (congrArg x3 ?_)
  · funext a
    match a with
    | ⟨0, _⟩ => rfl
    | ⟨1, _⟩ => rfl
    | ⟨2, _⟩ => rfl
  · funext a
    match a with
    | ⟨0, _⟩ => rfl

theorem v16_at (s : Fin 16) (h : Fin 8) (t : Fin 64) : val_main_v16 (F := Ideal) x2 x4 (ix3 s t h) = zr x2 x4 s h t := by
  rw [val_main_v16_apply, val_main_v13_apply, val_main_v15_apply, val_main_v14_apply]
  refine congrArg₂ (· + ·) ((congrArg (val_main_v7 (F := Ideal) x2) ?_).trans (v7_at x2 s t ⟨128 + h.val, by omega⟩)) (congrArg x4 ?_)
  · funext a
    match a with
    | ⟨0, _⟩ => rfl
    | ⟨1, _⟩ => rfl
    | ⟨2, _⟩ => rfl
  · funext a
    match a with
    | ⟨0, _⟩ => rfl

theorem zero_f32 : (FloatOps.ofBits (F := Ideal) .f32 0x00000000#32 : EReal) = 0 := Ideal.ofBits_zero _

theorem v17_at (i : S16x64x8.Idx) : val_main_v17 (F := Ideal) x2 x4 i = lsigR (val_main_v16 (F := Ideal) x2 x4 i) := by
  rw [val_main_v17_apply, val_main_call0_v1_apply, val_main_call0_call0_v4_apply, val_main_call0_call0_v11_apply,
    val_main_call0_call0_v1_apply, val_main_call0_call0_v10_apply, val_main_call0_call0_v9_apply,
    val_main_call0_call0_v8_apply, val_main_call0_call0_v7_apply, val_main_call0_call0_v3_apply,
    val_main_call0_v0_apply, val_main_call0_call0_v0_apply, val_main_call0_call0_v2_apply,
    val_main_call0_call0_cst_apply, zero_f32]
  generalize val_main_v16 (F := Ideal) x2 x4 i = z
  have e : FloatOps.cmpf (F := Ideal) (φ := .f32) .une (FloatOps.subf (FloatOps.hostNegf z) (0 : EReal)) (FloatOps.subf (FloatOps.hostNegf z) (0 : EReal)) = 0#1 := by
    simp [FloatOps.cmpf, Ideal.cmp]
  rw [e]
  rfl

theorem v18_at (s : Fin 16) (h : Fin 8) (t : Fin 64) :
    val_main_v18 (F := Ideal) x2 x4 (ix3 s h t) = lsigR (zr x2 x4 s h t) := by
  rw [val_main_v18_apply, v17_at, ← v16_at]
  refine congrArg (fun j => lsigR (val_main_v16 (F := Ideal) x2 x4 j)) ?_
  funext a
  match a with
  | ⟨0, _⟩ => rfl
  | ⟨1, _⟩ => rfl
  | ⟨2, _⟩ => rfl

/-- The log forget gate, zero past the stretch. -/
def lfr (s : Fin 16) (h : Fin 8) (t : ℕ) : EReal := if ht : t < 64 then lsigR (zr x2 x4 s h ⟨t, ht⟩) else 0

/-- Its running sum. -/
def br (s : Fin 16) (h : Fin 8) (t : ℕ) : EReal := ∑ u ∈ Finset.range (t + 1), lfr x2 x4 s h u

theorem v28_at (s : Fin 16) (h : Fin 8) (t : Fin 64) : val_main_v28 (F := Ideal) x2 x4 (ix3 s h t) = br x2 x4 s h t.val := by
  unfold val_main_v28
  refine (cumsum_at (val_main_v18 (F := Ideal) x2 x4) _ ?_ Gen.reduceWindows_S16x8x64_S16x8x64_w1s1p0_0_w1s1p0_0_w64s1p63_0
    s h t (lfr x2 x4 s h) fun u => ?_)
  · rw [val_main_call1_call0_v0_apply, val_main_call1_call0_cst_apply, zero_f32]
  · rw [v18_at, lfr, dif_pos u.isLt]

theorem v21_at (s : Fin 16) (h : Fin 8) (t : Fin 64) (d : Fin 256) :
    val_main_v21 (F := Ideal) x0 (ix4 s h t d) = pr x0 s h 0 t d := by
  rw [val_main_v21_apply, val_main_v20_apply, val_main_v19_apply]
  refine (congrArg (val_main_v2 (F := Ideal) x0) (funext fun a => Fin.ext ?_)).trans (v2_at x0 s t h 0 d)
  have := d.isLt; have := h.isLt; have := t.isLt; have := s.isLt
  match a with
  | ⟨0, _⟩ => show (((s.val * 64 + t.val) * 8 + h.val) * 256 + d.val) / 131072 = s.val; omega
  | ⟨1, _⟩ => show (((s.val * 64 + t.val) * 8 + h.val) * 256 + d.val) / 2048 % 64 = t.val; omega
  | ⟨2, _⟩ => show (((s.val * 64 + t.val) * 8 + h.val) * 256 + d.val) / 256 % 8 = h.val; omega
  | ⟨3, _⟩ => rfl
  | ⟨4, _⟩ => show (((s.val * 64 + t.val) * 8 + h.val) * 256 + d.val) % 256 = d.val; omega

theorem v27_at (s : Fin 16) (h : Fin 8) (t : Fin 64) (d : Fin 256) :
    val_main_v27 (F := Ideal) x0 (ix4 s h t d) = pr x0 s h 1 t d := by
  rw [val_main_v27_apply, val_main_v26_apply, val_main_v25_apply]
  refine (congrArg (val_main_v2 (F := Ideal) x0) (funext fun a => Fin.ext ?_)).trans (v2_at x0 s t h 1 d)
  have := d.isLt; have := h.isLt; have := t.isLt; have := s.isLt
  match a with
  | ⟨0, _⟩ => show (((s.val * 64 + t.val) * 8 + h.val) * 256 + d.val) / 131072 = s.val; omega
  | ⟨1, _⟩ => show (((s.val * 64 + t.val) * 8 + h.val) * 256 + d.val) / 2048 % 64 = t.val; omega
  | ⟨2, _⟩ => show (((s.val * 64 + t.val) * 8 + h.val) * 256 + d.val) / 256 % 8 = h.val; omega
  | ⟨3, _⟩ => rfl
  | ⟨4, _⟩ => show (((s.val * 64 + t.val) * 8 + h.val) * 256 + d.val) % 256 = d.val; omega

theorem v100_at (s : Fin 16) (h : Fin 8) (t : Fin 64) (d : Fin 256) :
    val_main_v100 (F := Ideal) x0 (ix4 s h t d) = pr x0 s h 4 t d := by
  rw [val_main_v100_apply, val_main_v99_apply, val_main_v98_apply]
  refine (congrArg (val_main_v2 (F := Ideal) x0) (funext fun a => Fin.ext ?_)).trans (v2_at x0 s t h 4 d)
  have := d.isLt; have := h.isLt; have := t.isLt; have := s.isLt
  match a with
  | ⟨0, _⟩ => show (((s.val * 64 + t.val) * 8 + h.val) * 256 + d.val) / 131072 = s.val; omega
  | ⟨1, _⟩ => show (((s.val * 64 + t.val) * 8 + h.val) * 256 + d.val) / 2048 % 64 = t.val; omega
  | ⟨2, _⟩ => show (((s.val * 64 + t.val) * 8 + h.val) * 256 + d.val) / 256 % 8 = h.val; omega
  | ⟨3, _⟩ => rfl
  | ⟨4, _⟩ => show (((s.val * 64 + t.val) * 8 + h.val) * 256 + d.val) % 256 = d.val; omega

theorem v106_at (s : Fin 16) (h : Fin 8) (t : Fin 64) (d : Fin 256) :
    val_main_v106 (F := Ideal) x0 (ix4 s h t d) = pr x0 s h 5 t d := by
  rw [val_main_v106_apply, val_main_v105_apply, val_main_v104_apply]
  refine (congrArg (val_main_v2 (F := Ideal) x0) (funext fun a => Fin.ext ?_)).trans (v2_at x0 s t h 5 d)
  have := d.isLt; have := h.isLt; have := t.isLt; have := s.isLt
  match a with
  | ⟨0, _⟩ => show (((s.val * 64 + t.val) * 8 + h.val) * 256 + d.val) / 131072 = s.val; omega
  | ⟨1, _⟩ => show (((s.val * 64 + t.val) * 8 + h.val) * 256 + d.val) / 2048 % 64 = t.val; omega
  | ⟨2, _⟩ => show (((s.val * 64 + t.val) * 8 + h.val) * 256 + d.val) / 256 % 8 = h.val; omega
  | ⟨3, _⟩ => rfl
  | ⟨4, _⟩ => show (((s.val * 64 + t.val) * 8 + h.val) * 256 + d.val) % 256 = d.val; omega

theorem v24_at (s : Fin 16) (h : Fin 8) (t : Fin 64) (d : Fin 256) :
    val_main_v24 (F := Ideal) x1 (ix4 s h t d) = kr x1 s h 0 d t := by
  rw [val_main_v24_apply, val_main_v23_apply, val_main_v22_apply]
  refine (congrArg (val_main_v5 (F := Ideal) x1) (funext fun a => Fin.ext ?_)).trans (v5_at x1 h 0 d s t)
  have := d.isLt; have := h.isLt; have := t.isLt; have := s.isLt
  match a with
  | ⟨0, _⟩ => show (((h.val * 256 + d.val) * 16 + s.val) * 64 + t.val) / 262144 = h.val; omega
  | ⟨1, _⟩ => rfl
  | ⟨2, _⟩ => show (((h.val * 256 + d.val) * 16 + s.val) * 64 + t.val) / 1024 % 256 = d.val; omega
  | ⟨3, _⟩ => show (((h.val * 256 + d.val) * 16 + s.val) * 64 + t.val) / 64 % 16 = s.val; omega
  | ⟨4, _⟩ => show (((h.val * 256 + d.val) * 16 + s.val) * 64 + t.val) % 64 = t.val; omega

theorem v103_at (s : Fin 16) (h : Fin 8) (t : Fin 64) (d : Fin 256) :
    val_main_v103 (F := Ideal) x1 (ix4 s h t d) = kr x1 s h 1 d t := by
  rw [val_main_v103_apply, val_main_v102_apply, val_main_v101_apply]
  refine (congrArg (val_main_v5 (F := Ideal) x1) (funext fun a => Fin.ext ?_)).trans (v5_at x1 h 1 d s t)
  have := d.isLt; have := h.isLt; have := t.isLt; have := s.isLt
  match a with
  | ⟨0, _⟩ => show (((h.val * 256 + d.val) * 16 + s.val) * 64 + t.val) / 262144 = h.val; omega
  | ⟨1, _⟩ => rfl
  | ⟨2, _⟩ => show (((h.val * 256 + d.val) * 16 + s.val) * 64 + t.val) / 1024 % 256 = d.val; omega
  | ⟨3, _⟩ => show (((h.val * 256 + d.val) * 16 + s.val) * 64 + t.val) / 64 % 16 = s.val; omega
  | ⟨4, _⟩ => show (((h.val * 256 + d.val) * 16 + s.val) * 64 + t.val) % 64 = t.val; omega

end Cert.RefAt

end
-- ==== Proof.Spec.lean ====
module

public import Idealize.ShloMosaic.Lib.Pointwise
public import proofs.«01_k».proof.Proof.RowMath

/-! What one head of the recurrence computes on one 64-row stretch, as the kernel writes it: `q`, `k`, `v` are the
head's queries, keys (feature first) and values, `W` the 64 by 64 table of weights. -/

@[expose] public section

noncomputable section

namespace Cert.Rec

open Idealize.ShloMosaic

/-- A sum over 256 lanes taken as two sums over 128 lanes. -/
def hsum (f : Fin 256 → EReal) : EReal :=
  (∑ x : Fin 128, f ⟨x.val, by omega⟩) + ∑ x : Fin 128, f ⟨128 + x.val, by omega⟩

theorem hsum_eq (f : Fin 256 → EReal) : hsum f = ∑ x, f x := by
  rw [hsum, show (∑ x : Fin 256, f x) = ∑ x : Fin (128 + 128), f x from rfl, Fin.sum_univ_add]
  rfl

/-- The head norm of a row, before its scale. -/
def hnorm (f : Fin 256 → EReal) (e : Fin 256) : EReal :=
  f e * Ideal.rsqrt (Ideal.div (hsum fun x => f x * f x) (Ideal.ofBits FTy.f32 1132462080#32)
    + Ideal.ofBits FTy.f32 897988541#32)

/-- The gated weights: a power of two, and nothing above the diagonal. -/
def cau (a c : Fin 64 → EReal) (t s : Fin 64) : EReal :=
  Ideal.exp2 (Scalar.select (IntOp.cmpi CmpIPredicate.sle (BitVec.ofNat 32 s.val) (BitVec.ofNat 32 t.val))
    (a t + c s) (Ideal.ofBits FTy.f32 4286578688#32))

/-- The new matrix state. -/
def stC (w : EReal) (g : Fin 64 → EReal) (k : Fin 256 → Fin 64 → EReal) (v : Fin 64 → Fin 256 → EReal)
    (C0 : Fin 256 → Fin 256 → EReal) (d e : Fin 256) : EReal :=
  w * C0 d e + ∑ s, k d s * g s * v s e

/-- The new normaliser state. -/
def stN (w : EReal) (g : Fin 64 → EReal) (k : Fin 256 → Fin 64 → EReal) (n0 : Fin 256 → EReal) (d : Fin 256) : EReal :=
  w * n0 d + ∑ s, k d s * g s

/-- Scores times weights. -/
def sab (q : Fin 64 → Fin 256 → EReal) (k : Fin 256 → Fin 64 → EReal) (W : Fin 64 → Fin 64 → EReal) (t s : Fin 64) : EReal :=
  (∑ d, q t d * k d s) * W t s

/-- The gated half's output row. -/
def outA (q : Fin 64 → Fin 256 → EReal) (k : Fin 256 → Fin 64 → EReal) (v : Fin 64 → Fin 256 → EReal)
    (W : Fin 64 → Fin 64 → EReal) (wi en : Fin 64 → EReal) (C0 : Fin 256 → Fin 256 → EReal) (n0 : Fin 256 → EReal)
    (o : Fin 64 → Fin 256 → EReal) (ga : Fin 256 → EReal) (z : Fin 64 → Fin 256 → EReal) (t : Fin 64) (e : Fin 256) : EReal :=
  hnorm (fun e => o t e * ((wi t * (∑ d, q t d * C0 d e) + ∑ s, sab q k W t s * v s e)
    * Ideal.div 1 (max (max (wi t * (∑ d, q t d * n0 d) + ∑ s, sab q k W t s)
        (-(wi t * (∑ d, q t d * n0 d) + ∑ s, sab q k W t s))) (en t)))) e * ga e * z t e

/-- The retention half's output row. -/
def outB (q : Fin 64 → Fin 256 → EReal) (k : Fin 256 → Fin 64 → EReal) (v : Fin 64 → Fin 256 → EReal)
    (W : Fin 64 → Fin 64 → EReal) (it : Fin 64 → EReal) (S0 : Fin 256 → Fin 256 → EReal)
    (gb : Fin 256 → EReal) (z : Fin 64 → Fin 256 → EReal) (t : Fin 64) (e : Fin 256) : EReal :=
  hnorm (fun e => (∑ s, sab q k W t s * v s e) + it t * ∑ d, q t d * S0 d e) e * gb e * z t e

end Cert.Rec

end
-- ==== Proof.Ref2.lean ====
module

public import proofs.«01_k».proof.Proof.Ref1
public import proofs.«01_k».proof.Proof.Spec

/-! The reference's gated recurrence and its retention, read at an index. -/

@[expose] public section

set_option maxRecDepth 100000

noncomputable section

namespace Cert.RefAt

open Idealize.ShloMosaic Cert.SampleRefIdeal Cert.SampleRefIdeal.Read Cert.RowMath Cert.Rec

/-- The log weight of step `u` at step `t`. -/
def dlog (b : ℕ → EReal) (ig : Fin 64 → EReal) (t u : Fin 64) : EReal := if u.val ≤ t.val then (b t.val - b u.val) + ig u else ⊥

/-- The running maximum, the weight of step `u` at step `t`, and the weight of the carried state at step `t`. -/
def mst (b : ℕ → EReal) (ig : Fin 64 → EReal) (m : EReal) (t : Fin 64) : EReal := max (b t.val + m) (Finset.univ.sup (dlog b ig t))
def dwt (b : ℕ → EReal) (ig : Fin 64 → EReal) (m : EReal) (t u : Fin 64) : EReal := Ideal.exp (dlog b ig t u - mst b ig m t)
def win (b : ℕ → EReal) (ig : Fin 64 → EReal) (m : EReal) (t : Fin 64) : EReal := Ideal.exp ((b t.val + m) - mst b ig m t)

/-- The weight of step `u` in the state that is handed on, and the weight of the state that came in. -/
def wst (b : ℕ → EReal) (ig : Fin 64 → EReal) (m : EReal) (u : Fin 64) : EReal :=
  Ideal.exp (((b 63 - b u.val) + ig u) - mst b ig m 63)

/-- One row of the gated output before the norm. -/
def hgat (q : Fin 64 → Fin 256 → EReal) (k : Fin 256 → Fin 64 → EReal) (v : Fin 64 → Fin 256 → EReal)
    (W : Fin 64 → Fin 64 → EReal) (wi mt : Fin 64 → EReal) (C0 : Fin 256 → Fin 256 → EReal) (n0 : Fin 256 → EReal)
    (t : Fin 64) (e : Fin 256) : EReal :=
  Ideal.div (wi t * (∑ d, q t d * C0 d e) + ∑ s, sab q k W t s * v s e)
    (max (max (wi t * (∑ d, q t d * n0 d) + ∑ s, sab q k W t s) (-(wi t * (∑ d, q t d * n0 d) + ∑ s, sab q k W t s)))
      (Ideal.exp (-mt t)))

variable (x0 : FVec Ideal S17664x14336 .bf16) (x1 : FVec Ideal S8x512x17664 .bf16) (x2 : FVec Ideal S17664x256 .f32)
  (x3 x4 : FVec Ideal S8 .f32) (x7 : FVec Ideal S16x8x256x256 .f32) (x8 : FVec Ideal S16x8x256 .f32)
  (x9 : FVec Ideal S16x8 .f32) (x10 : FVec Ideal S16x8x256x256 .f32) (s : Fin 16) (h : Fin 8)

theorem bot_f32 : (FloatOps.ofBits (F := Ideal) .f32 0xFF800000#32 : EReal) = ⊥ := by
  show Ideal.ofBits .f32 0xFF800000#32 = ⊥
  simp [Ideal.ofBits, Ideal.ieee]

theorem tril_at (t u : Fin 64) : val_main_v30 (F := Ideal) (ix2 t u) = if u.val ≤ t.val then 1#1 else 0#1 := by
  rw [val_main_v30_apply, val_main_call2_v4_apply, val_main_call2_v2_apply, val_main_call2_v0_apply, val_main_call2_v1_apply,
    val_main_call2_c_apply, val_main_call2_v3_apply, val_main_v29_apply, val_main_c_apply, val_main_call2_v5_apply,
    val_main_call2_c_0_apply]
  show Scalar.select (IntOp.cmpi .sge (IntOp.addi (BitVec.ofNat 32 t.val) 0#32) (BitVec.ofNat 32 u.val)) 1#1 0#1 = _
  revert t u
  decide +kernel

theorem v38_at (t u : Fin 64) : val_main_v38 (F := Ideal) x2 x3 x4 (ix4 s h t u)
    = (br x2 x4 s h t.val - br x2 x4 s h u.val) + igr x2 x3 s h u := by
  rw [val_main_v38_apply, val_main_v35_apply, val_main_v33_apply, val_main_v31_apply, val_main_v34_apply, val_main_v32_apply,
    val_main_v37_apply, val_main_v36_apply, ← v28_at, ← v28_at, ← v12_at]
  exact congrArg₂ (· + ·) (congrArg₂ (· - ·) (congrArg _ (funext fun a => match a with | ⟨0, _⟩ => rfl | ⟨1, _⟩ => rfl | ⟨2, _⟩ => rfl)) (congrArg _ (funext fun a => match a with | ⟨0, _⟩ => rfl | ⟨1, _⟩ => rfl | ⟨2, _⟩ => rfl))) (congrArg _ (funext fun a => match a with | ⟨0, _⟩ => rfl | ⟨1, _⟩ => rfl | ⟨2, _⟩ => rfl))

theorem v39_at (t u : Fin 64) : val_main_v39 (F := Ideal) x2 x3 x4 (ix4 s h t u)
    = dlog (br x2 x4 s h) (igr x2 x3 s h) t u := by
  rw [val_main_v39_apply, v38_at, val_main_call3_v1_apply, val_main_call3_v2_apply, val_main_call3_v0_apply, val_main_cst_apply, bot_f32,
    show idx_main_call3_v1 (ix4 s h t u) = ix2 t u from (funext fun a => match a with | ⟨0, _⟩ => rfl | ⟨1, _⟩ => rfl), tril_at, dlog]
  by_cases hc : u.val ≤ t.val
  · rw [if_pos hc, if_pos hc]; rfl
  · rw [if_neg hc, if_neg hc]; rfl

theorem v42_at (t : Fin 64) : val_main_v42 (F := Ideal) x2 x4 x9 (ix3 s h t) = br x2 x4 s h t.val + x9 (ix2 s h) := by
  rw [val_main_v42_apply, v28_at, val_main_v41_apply, val_main_v40_apply]
  exact congrArg (fun j => br x2 x4 s h t.val + x9 j) (funext fun a => match a with | ⟨0, _⟩ => rfl | ⟨1, _⟩ => rfl)

theorem v44_at (t : Fin 64) : val_main_v44 (F := Ideal) x2 x3 x4 x9 (ix3 s h t)
    = mst (br x2 x4 s h) (igr x2 x3 s h) (x9 (ix2 s h)) t := by
  rw [val_main_v44_apply, v42_at]
  refine congrArg (max (br x2 x4 s h t.val + x9 (ix2 s h))) ?_
  unfold val_main_v43
  exact rowmax_at _ _ (fun i => by rw [val_main_cst_0_apply, bot_f32]) _ _ s h t _ fun u => v39_at x2 x3 x4 s h t u

theorem v48_at (t u : Fin 64) : val_main_v48 (F := Ideal) x2 x3 x4 x9 (ix4 s h t u)
    = dwt (br x2 x4 s h) (igr x2 x3 s h) (x9 (ix2 s h)) t u := by
  rw [val_main_v48_apply, val_main_v47_apply, v39_at, val_main_v46_apply, val_main_v45_apply, dwt, ← v44_at]
  exact congrArg (fun j => Ideal.exp (dlog (br x2 x4 s h) (igr x2 x3 s h) t u - val_main_v44 (F := Ideal) x2 x3 x4 x9 j)) (funext fun a => match a with | ⟨0, _⟩ => rfl | ⟨1, _⟩ => rfl | ⟨2, _⟩ => rfl)

theorem v50_at (t : Fin 64) : val_main_v50 (F := Ideal) x2 x3 x4 x9 (ix3 s h t)
    = win (br x2 x4 s h) (igr x2 x3 s h) (x9 (ix2 s h)) t := by
  rw [val_main_v50_apply, val_main_v49_apply, v42_at, v44_at]
  rfl

theorem v52_at (t u : Fin 64) : val_main_v52 (F := Ideal) x0 x1 x2 x3 x4 x9 (ix4 s h t u)
    = sab (pr x0 s h 0) (kr x1 s h 0) (dwt (br x2 x4 s h) (igr x2 x3 s h) (x9 (ix2 s h))) t u := by
  rw [val_main_v52_apply, v48_at, val_main_v51_apply, sab]
  refine congrArg (· * dwt (br x2 x4 s h) (igr x2 x3 s h) (x9 (ix2 s h)) t u) (Finset.sum_congr rfl fun k _ => ?_)
  rw [← v21_at, ← v24_at]
  exact congrArg₂ (· * ·) (congrArg _ (funext fun a => match a with | ⟨0, _⟩ => rfl | ⟨1, _⟩ => rfl | ⟨2, _⟩ => rfl | ⟨3, _⟩ => rfl)) (congrArg _ (funext fun a => match a with | ⟨0, _⟩ => rfl | ⟨1, _⟩ => rfl | ⟨2, _⟩ => rfl | ⟨3, _⟩ => rfl))

theorem v54_at (t : Fin 64) (e : Fin 256) : val_main_v54 (F := Ideal) x0 x7 (ix4 s h t e)
    = ∑ d, pr x0 s h 0 t d * x7 (ix4 s h d e) := by
  rw [val_main_v54_apply]
  refine Finset.sum_congr rfl fun k _ => ?_
  rw [← v21_at]
  exact congrArg₂ (· * ·) (congrArg _ (funext fun a => match a with | ⟨0, _⟩ => rfl | ⟨1, _⟩ => rfl | ⟨2, _⟩ => rfl | ⟨3, _⟩ => rfl)) (congrArg x7 (funext fun a => match a with | ⟨0, _⟩ => rfl | ⟨1, _⟩ => rfl | ⟨2, _⟩ => rfl | ⟨3, _⟩ => rfl))

theorem v58_at (t : Fin 64) (e : Fin 256) : val_main_v58 (F := Ideal) x0 x1 x2 x3 x4 x7 x9 (ix4 s h t e)
    = win (br x2 x4 s h) (igr x2 x3 s h) (x9 (ix2 s h)) t * (∑ d, pr x0 s h 0 t d * x7 (ix4 s h d e))
      + ∑ u, sab (pr x0 s h 0) (kr x1 s h 0) (dwt (br x2 x4 s h) (igr x2 x3 s h) (x9 (ix2 s h))) t u * pr x0 s h 1 u e := by
  rw [val_main_v58_apply, val_main_v56_apply, v54_at, val_main_v55_apply, val_main_v53_apply, val_main_v57_apply, ← v50_at]
  refine congrArg₂ (· + ·) (congrArg (fun j => val_main_v50 (F := Ideal) x2 x3 x4 x9 j * _) (funext fun a => match a with | ⟨0, _⟩ => rfl | ⟨1, _⟩ => rfl | ⟨2, _⟩ => rfl)) (Finset.sum_congr rfl fun k _ => ?_)
  rw [← v52_at, ← v27_at]
  exact congrArg₂ (· * ·) (congrArg _ (funext fun a => match a with | ⟨0, _⟩ => rfl | ⟨1, _⟩ => rfl | ⟨2, _⟩ => rfl | ⟨3, _⟩ => rfl)) (congrArg _ (funext fun a => match a with | ⟨0, _⟩ => rfl | ⟨1, _⟩ => rfl | ⟨2, _⟩ => rfl | ⟨3, _⟩ => rfl))

theorem v62_at (t : Fin 64) : val_main_v62 (F := Ideal) x0 x1 x2 x3 x4 x8 x9 (ix3 s h t)
    = win (br x2 x4 s h) (igr x2 x3 s h) (x9 (ix2 s h)) t * (∑ d, pr x0 s h 0 t d * x8 (ix3 s h d))
      + ∑ u, sab (pr x0 s h 0) (kr x1 s h 0) (dwt (br x2 x4 s h) (igr x2 x3 s h) (x9 (ix2 s h))) t u := by
  rw [val_main_v62_apply, val_main_v60_apply, v50_at, val_main_v59_apply, val_main_v61_apply, val_main_cst_1_apply, zero_f32, zero_add]
  refine congrArg₂ (· + ·) (congrArg _ (Finset.sum_congr rfl fun k _ => ?_)) (Finset.sum_congr rfl fun k _ => ?_)
  · rw [← v21_at]
    exact congrArg₂ (· * ·) (congrArg _ (funext fun a => match a with | ⟨0, _⟩ => rfl | ⟨1, _⟩ => rfl | ⟨2, _⟩ => rfl | ⟨3, _⟩ => rfl)) (congrArg x8 (funext fun a => match a with | ⟨0, _⟩ => rfl | ⟨1, _⟩ => rfl | ⟨2, _⟩ => rfl))
  · rw [← v52_at]
    exact congrArg _ (funext fun a => match a with | ⟨0, _⟩ => rfl | ⟨1, _⟩ => rfl | ⟨2, _⟩ => rfl | ⟨3, _⟩ => rfl)

theorem v69_at (t : Fin 64) (e : Fin 256) : val_main_v69 (F := Ideal) x0 x1 x2 x3 x4 x7 x8 x9 (ix4 s h t e)
    = hgat (pr x0 s h 0) (kr x1 s h 0) (pr x0 s h 1) (dwt (br x2 x4 s h) (igr x2 x3 s h) (x9 (ix2 s h)))
      (win (br x2 x4 s h) (igr x2 x3 s h) (x9 (ix2 s h))) (mst (br x2 x4 s h) (igr x2 x3 s h) (x9 (ix2 s h)))
      (fun d e => x7 (ix4 s h d e)) (fun d => x8 (ix3 s h d)) t e := by
  rw [val_main_v69_apply, v58_at, val_main_v68_apply, val_main_v67_apply,
    show idx_main_v67 (idx_main_v68 (ix4 s h t e)) = ix3 s h t from (funext fun a => match a with | ⟨0, _⟩ => rfl | ⟨1, _⟩ => rfl | ⟨2, _⟩ => rfl),
    val_main_v66_apply, val_main_v63_apply, v62_at, val_main_v65_apply, val_main_v64_apply, v44_at]
  rfl

theorem v71_at : val_main_v71 (F := Ideal) x2 x3 x4 x9 (ix2 s h) = mst (br x2 x4 s h) (igr x2 x3 s h) (x9 (ix2 s h)) 63 := by
  rw [val_main_v71_apply, val_main_v70_apply, ← v44_at]
  refine congrArg _ (funext fun a => Fin.ext ?_)
  have := s.isLt; have := h.isLt
  match a with
  | ⟨0, _⟩ => show (s.val * 8 + h.val) / 8 = s.val; omega
  | ⟨1, _⟩ => show (s.val * 8 + h.val) / 1 % 8 = h.val; omega
  | ⟨2, _⟩ => rfl

theorem v79_at (u : Fin 64) : val_main_v79 (F := Ideal) x2 x3 x4 x9 (ix3 s h u)
    = wst (br x2 x4 s h) (igr x2 x3 s h) (x9 (ix2 s h)) u := by
  rw [val_main_v79_apply, val_main_v78_apply, val_main_v75_apply, val_main_v74_apply, v28_at, v12_at, val_main_v73_apply,
    val_main_v72_apply, val_main_v77_apply, val_main_v76_apply,
    show idx_main_v76 (idx_main_v77 (ix3 s h u)) = ix2 s h from (funext fun a => match a with | ⟨0, _⟩ => rfl | ⟨1, _⟩ => rfl), v71_at,
    show idx_main_v72 (idx_main_v73 (ix3 s h u)) = ix3 s h 63 from (funext fun a => match a with | ⟨0, _⟩ => rfl | ⟨1, _⟩ => rfl | ⟨2, _⟩ => rfl), v28_at]
  rfl

theorem v84_at : val_main_v84 (F := Ideal) x2 x3 x4 x9 (ix2 s h)
    = win (br x2 x4 s h) (igr x2 x3 s h) (x9 (ix2 s h)) 63 := by
  have e : idx_main_v80 (idx_main_v81 (ix2 s h)) = ix3 s h 63 := by
    refine funext fun a => Fin.ext ?_
    have := s.isLt; have := h.isLt
    match a with
    | ⟨0, _⟩ => show (s.val * 8 + h.val) / 8 = s.val; omega
    | ⟨1, _⟩ => show (s.val * 8 + h.val) / 1 % 8 = h.val; omega
    | ⟨2, _⟩ => rfl
  rw [val_main_v84_apply, val_main_v83_apply, v71_at, val_main_v82_apply, val_main_v81_apply, val_main_v80_apply, e, v28_at]
  rfl

theorem v92_at (d e : Fin 256) : val_main_v92 (F := Ideal) x0 x1 x2 x3 x4 x7 x9 (ix4 s h d e)
    = win (br x2 x4 s h) (igr x2 x3 s h) (x9 (ix2 s h)) 63 * x7 (ix4 s h d e)
      + ∑ u, (wst (br x2 x4 s h) (igr x2 x3 s h) (x9 (ix2 s h)) u * kr x1 s h 0 d u) * pr x0 s h 1 u e := by
  rw [val_main_v92_apply, val_main_v87_apply, val_main_v86_apply, val_main_v85_apply, val_main_v91_apply,
    show idx_main_v85 (idx_main_v86 (ix4 s h d e)) = ix2 s h from (funext fun a => match a with | ⟨0, _⟩ => rfl | ⟨1, _⟩ => rfl), v84_at]
  refine congrArg (win (br x2 x4 s h) (igr x2 x3 s h) (x9 (ix2 s h)) 63 * x7 (ix4 s h d e) + ·) (Finset.sum_congr rfl fun k _ => ?_)
  rw [val_main_v90_apply, val_main_v89_apply, val_main_v88_apply, ← v24_at, ← v27_at, ← v79_at]
  exact congrArg₂ (· * ·) (congrArg₂ (· * ·) (congrArg _ (funext fun a => match a with | ⟨0, _⟩ => rfl | ⟨1, _⟩ => rfl | ⟨2, _⟩ => rfl)) (congrArg _ (funext fun a => match a with | ⟨0, _⟩ => rfl | ⟨1, _⟩ => rfl | ⟨2, _⟩ => rfl | ⟨3, _⟩ => rfl))) (congrArg _ (funext fun a => match a with | ⟨0, _⟩ => rfl | ⟨1, _⟩ => rfl | ⟨2, _⟩ => rfl | ⟨3, _⟩ => rfl))

theorem v97_at (d : Fin 256) : val_main_v97 (F := Ideal) x1 x2 x3 x4 x8 x9 (ix3 s h d)
    = win (br x2 x4 s h) (igr x2 x3 s h) (x9 (ix2 s h)) 63 * x8 (ix3 s h d)
      + ∑ u, wst (br x2 x4 s h) (igr x2 x3 s h) (x9 (ix2 s h)) u * kr x1 s h 0 d u := by
  rw [val_main_v97_apply, val_main_v95_apply, val_main_v94_apply, val_main_v93_apply, val_main_v96_apply,
    show idx_main_v93 (idx_main_v94 (ix3 s h d)) = ix2 s h from (funext fun a => match a with | ⟨0, _⟩ => rfl | ⟨1, _⟩ => rfl), v84_at]
  refine congrArg (win (br x2 x4 s h) (igr x2 x3 s h) (x9 (ix2 s h)) 63 * x8 (ix3 s h d) + ·) (Finset.sum_congr rfl fun k _ => ?_)
  rw [← v24_at, ← v79_at]
  exact congrArg₂ (· * ·) (congrArg _ (funext fun a => match a with | ⟨0, _⟩ => rfl | ⟨1, _⟩ => rfl | ⟨2, _⟩ => rfl)) (congrArg _ (funext fun a => match a with | ⟨0, _⟩ => rfl | ⟨1, _⟩ => rfl | ⟨2, _⟩ => rfl | ⟨3, _⟩ => rfl))

/-! ### The retention's tables -/

/-- The log decay of a head. -/
def lgr (h : Fin 8) : EReal :=
  Ideal.log1p (-(Ideal.pow (Ideal.ofBits FTy.f32 0x40000000#32) (Ideal.ofBits FTy.f32 0xC0A00000#32 - (FloatOps.sitofp (F := Ideal) .f32 (BitVec.ofNat 32 h.val) : EReal))))

/-- A step's number. -/
def stp (t : Fin 64) : EReal := (FloatOps.sitofp (F := Ideal) .f32 (BitVec.ofNat 32 t.val) : EReal)

def decr (h : Fin 8) (t u : Fin 64) : EReal :=
  Scalar.select (Ideal.cmp .oge (stp t - stp u) (Ideal.ofBits FTy.f32 0#32)) (Ideal.exp (lgr h * max (stp t - stp u) (Ideal.ofBits FTy.f32 0#32)))
    (Ideal.ofBits FTy.f32 0#32)
def itr (h : Fin 8) (t : Fin 64) : EReal := Ideal.exp (lgr h * (stp t + Ideal.ofBits FTy.f32 0x3F800000#32))
def wsr (h : Fin 8) (t : Fin 64) : EReal := Ideal.exp (lgr h * (Ideal.ofBits FTy.f32 0x427C0000#32 - stp t))
def glr (h : Fin 8) : EReal := Ideal.exp (lgr h * Ideal.ofBits FTy.f32 0x42800000#32)

theorem v113_at : val_main_v113 (F := Ideal) (ix1 h) = lgr h := by
  rw [val_main_v113_apply, val_main_v112_apply, val_main_v111_apply, val_main_v110_apply, val_main_cst_3_apply, val_main_v109_apply,
    val_main_v108_apply, val_main_cst_2_apply]
  rfl

theorem v119_at (t u : Fin 64) : val_main_v119 (F := Ideal) (ix2 t u) = stp t - stp u := by
  rw [val_main_v119_apply, val_main_v117_apply, val_main_v115_apply, val_main_v118_apply, val_main_v116_apply]
  rfl

theorem v130_at (t u : Fin 64) : val_main_v130 (F := Ideal) (ix3 h t u) = decr h t u := by
  rw [val_main_v130_apply, val_main_call4_v1_apply, val_main_v121_apply, show idx_main_call4_v1 (ix3 h t u) = ix2 t u from (funext fun a => match a with | ⟨0, _⟩ => rfl | ⟨1, _⟩ => rfl),
    v119_at, val_main_v120_apply, val_main_cst_4_apply, val_main_call4_v2_apply, val_main_call4_v0_apply, val_main_cst_6_apply,
    val_main_v129_apply, val_main_v128_apply, val_main_v126_apply, val_main_v122_apply,
    show idx_main_v122 (idx_main_v126 (ix3 h t u)) = ix1 h from (funext fun a => match a with | ⟨0, _⟩ => rfl), v113_at, val_main_v127_apply, val_main_v125_apply,
    show idx_main_v125 (idx_main_v127 (ix3 h t u)) = ix2 t u from (funext fun a => match a with | ⟨0, _⟩ => rfl | ⟨1, _⟩ => rfl), val_main_v124_apply, v119_at, val_main_v123_apply, val_main_cst_5_apply]
  rfl

theorem v142_at (t : Fin 64) : val_main_v142 (F := Ideal) (ix2 h t) = itr h t := by
  rw [val_main_v142_apply, val_main_v141_apply, val_main_v139_apply, val_main_v135_apply,
    show idx_main_v135 (idx_main_v139 (ix2 h t)) = ix1 h from (funext fun a => match a with | ⟨0, _⟩ => rfl), v113_at, val_main_v140_apply, val_main_v138_apply,
    val_main_v137_apply, val_main_v136_apply, val_main_cst_7_apply]
  rfl

theorem v156_at (t : Fin 64) : val_main_v156 (F := Ideal) (ix2 h t) = wsr h t := by
  rw [val_main_v156_apply, val_main_v155_apply, val_main_v153_apply, val_main_v149_apply,
    show idx_main_v149 (idx_main_v153 (ix2 h t)) = ix1 h from (funext fun a => match a with | ⟨0, _⟩ => rfl), v113_at, val_main_v154_apply, val_main_v152_apply,
    val_main_v151_apply, val_main_v150_apply, val_main_cst_8_apply]
  rfl

theorem v159_at : val_main_v159 (F := Ideal) (ix1 h) = glr h := by
  rw [val_main_v159_apply, val_main_v158_apply, v113_at, val_main_v157_apply, val_main_cst_9_apply]
  rfl

theorem v134_at (t u : Fin 64) : val_main_v134 (F := Ideal) x0 x1 (ix4 s h t u)
    = sab (pr x0 s h 4) (kr x1 s h 1) (decr h) t u := by
  rw [val_main_v134_apply, val_main_v131_apply, val_main_v133_apply, val_main_v132_apply,
    show idx_main_v132 (idx_main_v133 (ix4 s h t u)) = ix3 h t u from (funext fun a => match a with | ⟨0, _⟩ => rfl | ⟨1, _⟩ => rfl | ⟨2, _⟩ => rfl), v130_at, sab]
  refine congrArg (· * decr h t u) (Finset.sum_congr rfl fun k _ => ?_)
  rw [← v100_at, ← v103_at]
  exact congrArg₂ (· * ·) (congrArg _ (funext fun a => match a with | ⟨0, _⟩ => rfl | ⟨1, _⟩ => rfl | ⟨2, _⟩ => rfl | ⟨3, _⟩ => rfl)) (congrArg _ (funext fun a => match a with | ⟨0, _⟩ => rfl | ⟨1, _⟩ => rfl | ⟨2, _⟩ => rfl | ⟨3, _⟩ => rfl))

theorem v148_at (t : Fin 64) (e : Fin 256) : val_main_v148 (F := Ideal) x0 x1 x10 (ix4 s h t e)
    = (∑ u, sab (pr x0 s h 4) (kr x1 s h 1) (decr h) t u * pr x0 s h 5 u e)
      + itr h t * ∑ d, pr x0 s h 4 t d * x10 (ix4 s h d e) := by
  rw [val_main_v148_apply, val_main_v143_apply, val_main_v147_apply, val_main_v145_apply, val_main_v146_apply, val_main_v144_apply,
    show idx_main_v144 (idx_main_v146 (ix4 s h t e)) = ix2 h t from (funext fun a => match a with | ⟨0, _⟩ => rfl | ⟨1, _⟩ => rfl), v142_at]
  refine congrArg₂ (· + ·) (Finset.sum_congr rfl fun k _ => ?_) (congrArg (itr h t * ·) (Finset.sum_congr rfl fun k _ => ?_))
  · rw [← v134_at, ← v106_at]
    exact congrArg₂ (· * ·) (congrArg _ (funext fun a => match a with | ⟨0, _⟩ => rfl | ⟨1, _⟩ => rfl | ⟨2, _⟩ => rfl | ⟨3, _⟩ => rfl)) (congrArg _ (funext fun a => match a with | ⟨0, _⟩ => rfl | ⟨1, _⟩ => rfl | ⟨2, _⟩ => rfl | ⟨3, _⟩ => rfl))
  · rw [← v100_at]
    exact congrArg₂ (· * ·) (congrArg _ (funext fun a => match a with | ⟨0, _⟩ => rfl | ⟨1, _⟩ => rfl | ⟨2, _⟩ => rfl | ⟨3, _⟩ => rfl)) (congrArg x10 (funext fun a => match a with | ⟨0, _⟩ => rfl | ⟨1, _⟩ => rfl | ⟨2, _⟩ => rfl | ⟨3, _⟩ => rfl))

theorem v167_at (d e : Fin 256) : val_main_v167 (F := Ideal) x0 x1 x10 (ix4 s h d e)
    = glr h * x10 (ix4 s h d e) + ∑ u, (wsr h u * kr x1 s h 1 d u) * pr x0 s h 5 u e := by
  rw [val_main_v167_apply, val_main_v162_apply, val_main_v161_apply, val_main_v160_apply, val_main_v166_apply,
    show idx_main_v160 (idx_main_v161 (ix4 s h d e)) = ix1 h from (funext fun a => match a with | ⟨0, _⟩ => rfl), v159_at]
  refine congrArg (glr h * x10 (ix4 s h d e) + ·) (Finset.sum_congr rfl fun k _ => ?_)
  rw [val_main_v165_apply, val_main_v164_apply, val_main_v163_apply, ← v103_at, ← v106_at, ← v156_at]
  exact congrArg₂ (· * ·) (congrArg₂ (· * ·) (congrArg _ (funext fun a => match a with | ⟨0, _⟩ => rfl | ⟨1, _⟩ => rfl)) (congrArg _ (funext fun a => match a with | ⟨0, _⟩ => rfl | ⟨1, _⟩ => rfl | ⟨2, _⟩ => rfl | ⟨3, _⟩ => rfl))) (congrArg _ (funext fun a => match a with | ⟨0, _⟩ => rfl | ⟨1, _⟩ => rfl | ⟨2, _⟩ => rfl | ⟨3, _⟩ => rfl))

end Cert.RefAt

end
-- ==== Proof.Ref3.lean ====
module

public import proofs.«01_k».proof.Proof.Ref2

/-! The reference's output rows, read at an index. -/

@[expose] public section

set_option maxRecDepth 100000

noncomputable section

namespace Cert.RefAt

open Idealize.ShloMosaic Cert.SampleRefIdeal Cert.SampleRefIdeal.Read Cert.RowMath Cert.Rec

/-- The norm of a head's row, before its scale. -/
def rnorm (f : Fin 256 → EReal) (e : Fin 256) : EReal :=
  f e * Ideal.rsqrt (Ideal.div (∑ x, f x * f x) (Ideal.ofBits FTy.f32 0x43800000#32) + Ideal.ofBits FTy.f32 0x358637BD#32)

/-- Entry `e` of head `h` in a row of all heads. -/
def fl (h : Fin 8) (e : Fin 256) : Fin 2048 := ⟨h.val * 256 + e.val, by omega⟩

variable (x0 : FVec Ideal S17664x14336 .bf16) (x1 : FVec Ideal S8x512x17664 .bf16) (x2 : FVec Ideal S17664x256 .f32)
  (x3 x4 : FVec Ideal S8 .f32) (x5 x6 : FVec Ideal S2048 .f32) (x7 : FVec Ideal S16x8x256x256 .f32) (x8 : FVec Ideal S16x8x256 .f32)
  (x9 : FVec Ideal S16x8 .f32) (x10 : FVec Ideal S16x8x256x256 .f32) (s : Fin 16) (h : Fin 8) (t : Fin 64) (e : Fin 256)

theorem flat_ix : idx_main_v170 (ix3 s t (fl h e)) = ix4 s t h e := by
  refine funext fun a => Fin.ext ?_
  have := s.isLt; have := h.isLt; have := t.isLt; have := e.isLt
  match a with
  | ⟨0, _⟩ => show ((s.val * 64 + t.val) * 2048 + (h.val * 256 + e.val)) / 131072 = s.val; omega
  | ⟨1, _⟩ => show ((s.val * 64 + t.val) * 2048 + (h.val * 256 + e.val)) / 2048 % 64 = t.val; omega
  | ⟨2, _⟩ => show ((s.val * 64 + t.val) * 2048 + (h.val * 256 + e.val)) / 256 % 8 = h.val; omega
  | ⟨3, _⟩ => show ((s.val * 64 + t.val) * 2048 + (h.val * 256 + e.val)) % 256 = e.val; omega

theorem unflat_ix : idx_main_v174 (ix4 s t h e) = ix3 s t (fl h e) := by
  refine funext fun a => Fin.ext ?_
  have := s.isLt; have := h.isLt; have := t.isLt; have := e.isLt
  match a with
  | ⟨0, _⟩ => show (((s.val * 64 + t.val) * 8 + h.val) * 256 + e.val) / 131072 = s.val; omega
  | ⟨1, _⟩ => show (((s.val * 64 + t.val) * 8 + h.val) * 256 + e.val) / 2048 % 64 = t.val; omega
  | ⟨2, _⟩ => show (((s.val * 64 + t.val) * 8 + h.val) * 256 + e.val) % 2048 = h.val * 256 + e.val; omega

theorem v170_at : val_main_v170 (F := Ideal) x0 (ix3 s t (fl h e)) = pr x0 s h 2 t e := by
  rw [val_main_v170_apply, show idx_main_v170 (ix3 s t (fl h e)) = ix4 s t h e from flat_ix s h t e, val_main_v169_apply, val_main_v168_apply]
  refine (congrArg (val_main_v2 (F := Ideal) x0) (funext fun a => Fin.ext ?_)).trans (v2_at x0 s t h 2 e)
  have := e.isLt; have := h.isLt; have := t.isLt; have := s.isLt
  match a with
  | ⟨0, _⟩ => show (((s.val * 64 + t.val) * 8 + h.val) * 256 + e.val) / 131072 = s.val; omega
  | ⟨1, _⟩ => show (((s.val * 64 + t.val) * 8 + h.val) * 256 + e.val) / 2048 % 64 = t.val; omega
  | ⟨2, _⟩ => show (((s.val * 64 + t.val) * 8 + h.val) * 256 + e.val) / 256 % 8 = h.val; omega
  | ⟨3, _⟩ => rfl
  | ⟨4, _⟩ => show (((s.val * 64 + t.val) * 8 + h.val) * 256 + e.val) % 256 = e.val; omega

theorem v191_at : val_main_v191 (F := Ideal) x0 (ix3 s t (fl h e)) = pr x0 s h 3 t e := by
  rw [val_main_v191_apply, show idx_main_v191 (ix3 s t (fl h e)) = ix4 s t h e from flat_ix s h t e, val_main_v190_apply, val_main_v189_apply]
  refine (congrArg (val_main_v2 (F := Ideal) x0) (funext fun a => Fin.ext ?_)).trans (v2_at x0 s t h 3 e)
  have := e.isLt; have := h.isLt; have := t.isLt; have := s.isLt
  match a with
  | ⟨0, _⟩ => show (((s.val * 64 + t.val) * 8 + h.val) * 256 + e.val) / 131072 = s.val; omega
  | ⟨1, _⟩ => show (((s.val * 64 + t.val) * 8 + h.val) * 256 + e.val) / 2048 % 64 = t.val; omega
  | ⟨2, _⟩ => show (((s.val * 64 + t.val) * 8 + h.val) * 256 + e.val) / 256 % 8 = h.val; omega
  | ⟨3, _⟩ => rfl
  | ⟨4, _⟩ => show (((s.val * 64 + t.val) * 8 + h.val) * 256 + e.val) % 256 = e.val; omega

theorem v212_at : val_main_v212 (F := Ideal) x0 (ix3 s t (fl h e)) = pr x0 s h 6 t e := by
  rw [val_main_v212_apply, show idx_main_v212 (ix3 s t (fl h e)) = ix4 s t h e from flat_ix s h t e, val_main_v211_apply, val_main_v210_apply]
  refine (congrArg (val_main_v2 (F := Ideal) x0) (funext fun a => Fin.ext ?_)).trans (v2_at x0 s t h 6 e)
  have := e.isLt; have := h.isLt; have := t.isLt; have := s.isLt
  match a with
  | ⟨0, _⟩ => show (((s.val * 64 + t.val) * 8 + h.val) * 256 + e.val) / 131072 = s.val; omega
  | ⟨1, _⟩ => show (((s.val * 64 + t.val) * 8 + h.val) * 256 + e.val) / 2048 % 64 = t.val; omega
  | ⟨2, _⟩ => show (((s.val * 64 + t.val) * 8 + h.val) * 256 + e.val) / 256 % 8 = h.val; omega
  | ⟨3, _⟩ => rfl
  | ⟨4, _⟩ => show (((s.val * 64 + t.val) * 8 + h.val) * 256 + e.val) % 256 = e.val; omega

theorem v174_at : val_main_v174 (F := Ideal) x0 x1 x2 x3 x4 x7 x8 x9 (ix4 s t h e)
    = pr x0 s h 2 t e * val_main_v69 (F := Ideal) x0 x1 x2 x3 x4 x7 x8 x9 (ix4 s h t e) := by
  rw [val_main_v174_apply, unflat_ix, val_main_v173_apply, v170_at, val_main_v172_apply,
    show idx_main_v172 (ix3 s t (fl h e)) = ix4 s t h e from flat_ix s h t e, val_main_v171_apply]
  exact congrArg (fun j => pr x0 s h 2 t e * val_main_v69 (F := Ideal) x0 x1 x2 x3 x4 x7 x8 x9 j) (funext fun a => match a with | ⟨0, _⟩ => rfl | ⟨1, _⟩ => rfl | ⟨2, _⟩ => rfl | ⟨3, _⟩ => rfl)

theorem v184_at : val_main_v184 (F := Ideal) x0 x1 x2 x3 x4 x7 x8 x9 (ix4 s t h e)
    = rnorm (fun e => pr x0 s h 2 t e * val_main_v69 (F := Ideal) x0 x1 x2 x3 x4 x7 x8 x9 (ix4 s h t e)) e := by
  have hs : val_main_v176 (F := Ideal) x0 x1 x2 x3 x4 x7 x8 x9 (ix3 s t h)
      = ∑ k, (pr x0 s h 2 t k * val_main_v69 (F := Ideal) x0 x1 x2 x3 x4 x7 x8 x9 (ix4 s h t k))
        * (pr x0 s h 2 t k * val_main_v69 (F := Ideal) x0 x1 x2 x3 x4 x7 x8 x9 (ix4 s h t k)) := by
    rw [val_main_v176_apply, val_main_cst_10_apply, zero_f32, zero_add]
    refine Finset.sum_congr rfl fun k _ => ?_
    rw [val_main_v175_apply, show idx_main_v176 (ix3 s t h) k = ix4 s t h k from (funext fun a => match a with | ⟨0, _⟩ => rfl | ⟨1, _⟩ => rfl | ⟨2, _⟩ => rfl | ⟨3, _⟩ => rfl), v174_at]
    rfl
  rw [val_main_v184_apply, v174_at, val_main_v183_apply, val_main_v182_apply, val_main_v181_apply, val_main_v179_apply, val_main_v177_apply,
    show idx_main_v177 (idx_main_v183 (ix4 s t h e)) = ix3 s t h from (funext fun a => match a with | ⟨0, _⟩ => rfl | ⟨1, _⟩ => rfl | ⟨2, _⟩ => rfl), hs, val_main_v178_apply, val_main_cst_11_apply,
    val_main_v180_apply, val_main_cst_12_apply]
  rfl

theorem v192_at : val_main_v192 (F := Ideal) x0 x1 x2 x3 x4 x5 x7 x8 x9 (ix3 s t (fl h e))
    = rnorm (fun e => pr x0 s h 2 t e * val_main_v69 (F := Ideal) x0 x1 x2 x3 x4 x7 x8 x9 (ix4 s h t e)) e * x5 (ix1 (fl h e)) * pr x0 s h 3 t e := by
  rw [val_main_v192_apply, v191_at, val_main_v188_apply, val_main_v185_apply,
    show idx_main_v185 (ix3 s t (fl h e)) = ix4 s t h e from flat_ix s h t e, v184_at, val_main_v187_apply, val_main_v186_apply]
  exact congrArg (fun j => rnorm (fun e => pr x0 s h 2 t e * val_main_v69 (F := Ideal) x0 x1 x2 x3 x4 x7 x8 x9 (ix4 s h t e)) e * x5 j * pr x0 s h 3 t e) (funext fun a => match a with | ⟨0, _⟩ => rfl)

theorem v195_at : val_main_v195 (F := Ideal) x0 x1 x10 (ix4 s t h e) = val_main_v148 (F := Ideal) x0 x1 x10 (ix4 s h t e) := by
  rw [val_main_v195_apply, show idx_main_v195 (ix4 s t h e) = ix3 s t (fl h e) from unflat_ix s h t e, val_main_v194_apply,
    show idx_main_v194 (ix3 s t (fl h e)) = ix4 s t h e from flat_ix s h t e, val_main_v193_apply]
  exact congrArg (val_main_v148 (F := Ideal) x0 x1 x10) (funext fun a => match a with | ⟨0, _⟩ => rfl | ⟨1, _⟩ => rfl | ⟨2, _⟩ => rfl | ⟨3, _⟩ => rfl)

theorem v205_at : val_main_v205 (F := Ideal) x0 x1 x10 (ix4 s t h e)
    = rnorm (fun e => val_main_v148 (F := Ideal) x0 x1 x10 (ix4 s h t e)) e := by
  have hs : val_main_v197 (F := Ideal) x0 x1 x10 (ix3 s t h)
      = ∑ k, val_main_v148 (F := Ideal) x0 x1 x10 (ix4 s h t k) * val_main_v148 (F := Ideal) x0 x1 x10 (ix4 s h t k) := by
    rw [val_main_v197_apply, val_main_cst_13_apply, zero_f32, zero_add]
    refine Finset.sum_congr rfl fun k _ => ?_
    rw [val_main_v196_apply, show idx_main_v197 (ix3 s t h) k = ix4 s t h k from (funext fun a => match a with | ⟨0, _⟩ => rfl | ⟨1, _⟩ => rfl | ⟨2, _⟩ => rfl | ⟨3, _⟩ => rfl), v195_at]
    rfl
  rw [val_main_v205_apply, v195_at, val_main_v204_apply, val_main_v203_apply, val_main_v202_apply, val_main_v200_apply, val_main_v198_apply,
    show idx_main_v198 (idx_main_v204 (ix4 s t h e)) = ix3 s t h from (funext fun a => match a with | ⟨0, _⟩ => rfl | ⟨1, _⟩ => rfl | ⟨2, _⟩ => rfl), hs, val_main_v199_apply, val_main_cst_14_apply,
    val_main_v201_apply, val_main_cst_15_apply]
  rfl

theorem v213_at : val_main_v213 (F := Ideal) x0 x1 x6 x10 (ix3 s t (fl h e))
    = rnorm (fun e => val_main_v148 (F := Ideal) x0 x1 x10 (ix4 s h t e)) e * x6 (ix1 (fl h e)) * pr x0 s h 6 t e := by
  rw [val_main_v213_apply, v212_at, val_main_v209_apply, val_main_v206_apply,
    show idx_main_v206 (ix3 s t (fl h e)) = ix4 s t h e from flat_ix s h t e, v205_at, val_main_v208_apply, val_main_v207_apply]
  exact congrArg (fun j => rnorm (fun e => val_main_v148 (F := Ideal) x0 x1 x10 (ix4 s h t e)) e * x6 j * pr x0 s h 6 t e) (funext fun a => match a with | ⟨0, _⟩ => rfl)

theorem v220_gat (i : S1024x4096.Idx) (h0 : (i 0).val = s.val * 64 + t.val) (h1 : (i 1).val = h.val * 512 + e.val) :
    val_main_v220 (F := Ideal) x0 x1 x2 x3 x4 x5 x6 x7 x8 x9 x10 i
      = rnorm (fun e => pr x0 s h 2 t e * val_main_v69 (F := Ideal) x0 x1 x2 x3 x4 x7 x8 x9 (ix4 s h t e)) e * x5 (ix1 (fl h e)) * pr x0 s h 3 t e := by
  have := e.isLt; have := h.isLt; have := t.isLt; have := s.isLt
  have hi : idx_main_v220 i = ix5 s t h 0 e := by
    refine funext fun a => Fin.ext ?_
    match a with
    | ⟨0, _⟩ => show ((i 0).val * 4096 + (i 1).val) / 262144 = s.val; rw [h0, h1]; omega
    | ⟨1, _⟩ => show ((i 0).val * 4096 + (i 1).val) / 4096 % 64 = t.val; rw [h0, h1]; omega
    | ⟨2, _⟩ => show ((i 0).val * 4096 + (i 1).val) / 512 % 8 = h.val; rw [h0, h1]; omega
    | ⟨3, _⟩ => show ((i 0).val * 4096 + (i 1).val) / 256 % 2 = 0; rw [h0, h1]; omega
    | ⟨4, _⟩ => show ((i 0).val * 4096 + (i 1).val) % 256 = e.val; rw [h0, h1]; omega
  rw [val_main_v220_apply, hi, val_main_v219_apply]
  show val_main_v218 (F := Ideal) x0 x1 x2 x3 x4 x5 x6 x7 x8 x9 x10 (ix5 s t h 0 e) = _
  unfold val_main_v218
  refine (concatenate_pair_apply_left (t := S16x64x8x2x256) (s₁ := S16x64x8x1x256) (s₂ := S16x64x8x1x256) 3
    (val_main_v216 (F := Ideal) x0 x1 x2 x3 x4 x5 x7 x8 x9) (val_main_v217 (F := Ideal) x0 x1 x6 x10)
    Gen.concatenates_S16x64x8x1x256_S16x64x8x1x256_S16x64x8x2x256_d3 (ix5 s t h 0 e) rfl (ix5 s t h 0 e)
    (fun b => match b with | ⟨0, _⟩ => rfl | ⟨1, _⟩ => rfl | ⟨2, _⟩ => rfl | ⟨3, _⟩ => rfl | ⟨4, _⟩ => rfl)).trans ?_
  rw [val_main_v216_apply, show idx_main_v216 (ix5 s t h 0 e) = ix4 s t h e from (funext fun a => match a with | ⟨0, _⟩ => rfl | ⟨1, _⟩ => rfl | ⟨2, _⟩ => rfl | ⟨3, _⟩ => rfl), val_main_v214_apply,
    show idx_main_v214 (ix4 s t h e) = ix3 s t (fl h e) from unflat_ix s h t e, v192_at]

theorem v220_ret (i : S1024x4096.Idx) (h0 : (i 0).val = s.val * 64 + t.val) (h1 : (i 1).val = h.val * 512 + 256 + e.val) :
    val_main_v220 (F := Ideal) x0 x1 x2 x3 x4 x5 x6 x7 x8 x9 x10 i
      = rnorm (fun e => val_main_v148 (F := Ideal) x0 x1 x10 (ix4 s h t e)) e * x6 (ix1 (fl h e)) * pr x0 s h 6 t e := by
  have := e.isLt; have := h.isLt; have := t.isLt; have := s.isLt
  have hi : idx_main_v220 i = ix5 s t h 1 e := by
    refine funext fun a => Fin.ext ?_
    match a with
    | ⟨0, _⟩ => show ((i 0).val * 4096 + (i 1).val) / 262144 = s.val; rw [h0, h1]; omega
    | ⟨1, _⟩ => show ((i 0).val * 4096 + (i 1).val) / 4096 % 64 = t.val; rw [h0, h1]; omega
    | ⟨2, _⟩ => show ((i 0).val * 4096 + (i 1).val) / 512 % 8 = h.val; rw [h0, h1]; omega
    | ⟨3, _⟩ => show ((i 0).val * 4096 + (i 1).val) / 256 % 2 = 1; rw [h0, h1]; omega
    | ⟨4, _⟩ => show ((i 0).val * 4096 + (i 1).val) % 256 = e.val; rw [h0, h1]; omega
  rw [val_main_v220_apply, hi, val_main_v219_apply]
  show val_main_v218 (F := Ideal) x0 x1 x2 x3 x4 x5 x6 x7 x8 x9 x10 (ix5 s t h 1 e) = _
  unfold val_main_v218
  refine (concatenate_pair_apply_right (t := S16x64x8x2x256) (s₁ := S16x64x8x1x256) (s₂ := S16x64x8x1x256) 3
    (val_main_v216 (F := Ideal) x0 x1 x2 x3 x4 x5 x7 x8 x9) (val_main_v217 (F := Ideal) x0 x1 x6 x10)
    Gen.concatenates_S16x64x8x1x256_S16x64x8x1x256_S16x64x8x2x256_d3 (ix5 s t h 1 e) rfl rfl (ix5 s t h 0 e)
    (fun b => match b with | ⟨0, _⟩ => fun _ => rfl | ⟨1, _⟩ => fun _ => rfl | ⟨2, _⟩ => fun _ => rfl | ⟨3, _⟩ => fun hb => absurd rfl hb | ⟨4, _⟩ => fun _ => rfl)
    rfl).trans ?_
  rw [val_main_v217_apply, show idx_main_v217 (ix5 s t h 0 e) = ix4 s t h e from (funext fun a => match a with | ⟨0, _⟩ => rfl | ⟨1, _⟩ => rfl | ⟨2, _⟩ => rfl | ⟨3, _⟩ => rfl), val_main_v215_apply,
    show idx_main_v215 (ix4 s t h e) = ix3 s t (fl h e) from unflat_ix s h t e, v213_at]

end Cert.RefAt

end
-- ==== Proof.MeetA.lean ====
module

public import proofs.«01_k».proof.Proof.Ref3

/-! The weights and the outputs of one head, the kernel's way and the reference's. -/

@[expose] public section

noncomputable section

namespace Cert.RefAt

open Idealize.ShloMosaic Cert.RowMath Cert.Rec

section weights

variable (b c : ℕ → EReal) (ig : Fin 64 → EReal) (m : EReal)

/-- The running maximum less the running sum. -/
def mr (t : ℕ) : EReal := max m ((Finset.range (t + 1)).sup c)

variable (hb : ∀ t : Fin 64, ∃ r : ℝ, b t.val = r) (hc : ∀ u : Fin 64, c u.val = ig u - b u.val)

include hb hc in
theorem dlog_sup (t : Fin 64) : Finset.univ.sup (dlog b ig t) = b t.val + (Finset.range (t.val + 1)).sup c := by
  obtain ⟨r, hr⟩ := hb t
  rw [hr, coe_add_sup]
  apply le_antisymm
  · refine Finset.sup_le fun u _ => ?_
    unfold dlog
    split
    · rename_i hu
      refine le_trans (le_of_eq ?_) (Finset.le_sup (f := fun i => (r : EReal) + c i) (Finset.mem_range.mpr (by omega : u.val < t.val + 1)))
      show b t.val - b u.val + ig u = r + c u.val
      rw [hr, hc, sub_eq_add_neg, sub_eq_add_neg, add_assoc, add_comm (-_) (ig u)]
    · exact bot_le
  · refine Finset.sup_le fun u hu => ?_
    have hu' : u < t.val + 1 := Finset.mem_range.mp hu
    refine le_trans (le_of_eq ?_) (Finset.le_sup (f := dlog b ig t) (Finset.mem_univ (⟨u, by omega⟩ : Fin 64)))
    have h := hc ⟨u, by omega⟩
    unfold dlog
    rw [if_pos (by show u ≤ t.val; omega)]
    show r + c u = b t.val - b u + ig ⟨u, _⟩
    rw [hr, h, sub_eq_add_neg, sub_eq_add_neg, add_assoc, add_comm (-_) (ig _)]

include hb hc in
theorem mst_eq (t : Fin 64) : mst b ig m t = b t.val + mr c m t.val := by
  unfold mst mr
  rw [dlog_sup b c ig hb hc t]
  obtain ⟨r, hr⟩ := hb t
  rw [hr, coe_add_max]

include hb hc in
theorem weight_at (t u : Fin 64) :
    Ideal.exp2 ((0 - mr c m t.val) * ell + c u.val * ell) = Ideal.exp (((b t.val - b u.val) + ig u) - mst b ig m t) := by
  rw [mst_eq b c ig m hb hc t, hc u]
  obtain ⟨r, hr⟩ := hb t
  obtain ⟨q, hq⟩ := hb u
  rw [hr, hq, weight_eq]

theorem le_word (t s : Fin 64) : IntOp.cmpi CmpIPredicate.sle (BitVec.ofNat 32 s.val) (BitVec.ofNat 32 t.val)
    = if s.val ≤ t.val then 1#1 else 0#1 := by
  revert t s; decide +kernel

include hb hc in
theorem cau_eq : cau (fun t => (0 - mr c m t.val) * ell) (fun u => c u.val * ell) = dwt b ig m := by
  funext t u
  unfold cau dwt dlog
  rw [le_word]
  split
  · exact weight_at b c ig m hb hc t u
  · have h0 : Ideal.ofBits FTy.f32 4286578688#32 = ⊥ := bot_f32
    show Ideal.exp2 (Ideal.ofBits FTy.f32 4286578688#32) = _
    rw [h0, sub_eq_add_neg, EReal.bot_add]
    rfl

include hb hc in
theorem win_eq (t : Fin 64) : Ideal.exp (m - mr c m t.val) = win b ig m t := by
  unfold win
  rw [mst_eq b c ig m hb hc t]
  obtain ⟨r, hr⟩ := hb t
  rw [hr, ← shift_cancel]

include hb hc in
theorem wst_eq (u : Fin 64) : Ideal.exp2 ((0 - mr c m 63) * ell + c u.val * ell) = wst b ig m u :=
  weight_at b c ig m hb hc 63 u

include hb hc in
theorem low_eq (t : Fin 64) : Ideal.exp (0 - (b t.val + mr c m t.val)) = Ideal.exp (-mst b ig m t) := by
  rw [mst_eq b c ig m hb hc t, zero_sub]

end weights

theorem hnorm_eq (f : Fin 256 → EReal) (e : Fin 256) : hnorm f e = rnorm f e := by
  unfold hnorm rnorm
  rw [hsum_eq]

theorem size_real : ∃ c : ℝ, 0 < c ∧ Ideal.ofBits FTy.f32 0x43800000#32 = c := by
  refine ⟨256, by norm_num, ?_⟩
  simp [Ideal.ofBits, Ideal.ieee]
  rw [← EReal.coe_mul]
  norm_num

theorem tiny_real : ∃ e : ℝ, Ideal.ofBits FTy.f32 0x358637BD#32 = e := by
  simp only [Ideal.ofBits, Ideal.ieee]
  simp
  exact ⟨_, rfl⟩

/-- The gated output: the kernel multiplies by the denominator's inverse, the reference divides by it. -/
theorem outA_eq (q : Fin 64 → Fin 256 → EReal) (k : Fin 256 → Fin 64 → EReal) (v : Fin 64 → Fin 256 → EReal)
    (W : Fin 64 → Fin 64 → EReal) (wi en mt : Fin 64 → EReal) (C0 : Fin 256 → Fin 256 → EReal) (n0 : Fin 256 → EReal)
    (o : Fin 64 → Fin 256 → EReal) (ga : Fin 256 → EReal) (z : Fin 64 → Fin 256 → EReal) (t : Fin 64) (e : Fin 256)
    (hm : en t = Ideal.exp (-mt t)) :
    outA q k v W wi en C0 n0 o ga z t e = rnorm (fun e => o t e * hgat q k v W wi mt C0 n0 t e) e * ga e * z t e := by
  unfold outA
  rw [hnorm_eq, hm]
  obtain ⟨c, hc, hc'⟩ := size_real
  obtain ⟨e', he'⟩ := tiny_real
  refine congrArg (fun x => x * ga e * z t e) ?_
  unfold rnorm hgat
  rw [hc', he']
  exact norm_quot (o t) (fun e => wi t * (∑ d, q t d * C0 d e) + ∑ s, sab q k W t s * v s e) _ c e' hc e

end Cert.RefAt

end
-- ==== Proof.Base.lean ====
module
public import proofs.«01_k».proof.Proof.Gen.SampleIdeal.Frame
public import Idealize.ShloMosaic.Lib.Pipeline.Value
public import Idealize.ShloMosaic.Lib.Pointwise
public import proofs.«01_k».proof.Proof.Spec
@[expose] public section
set_option maxRecDepth 100000
noncomputable section
namespace Cert.SampleIdeal.Gen
open Idealize.ShloMosaic
open Idealize.ShloMosaic.TcCoe Idealize.ShloMosaic.Tactic

/-! The parts of one step of the recurrence, read from the blocks that step loads. -/

/-- A load of part of what one whole store left. -/
theorem readCov_eq_ld_zero {sig : RefSig} {κ : Kind} {sp : Space} {S : Shape} {e : EltTy} (v : View sig κ sp S e)
    {off : Fin S.rank → ℕ} (h : ∀ a, off a = 0) (inb : ∀ a, off a + S.size a ≤ S.size a) (w : S.Idx → Elt Ideal e) (r : Rect S) :
    v.readCov [(⟨Rect.unit off (no_index S.size) inb, w⟩ : View.Piece (Elt Ideal) S e)] r.toLoadRect = View.ld w r := by
  have h' : off = fun _ => 0 := funext h
  subst h'
  rw [View.readCov_eq_canon_ld _ _ _ (fun y => ⟨_, List.mem_singleton_self _, View.mem_set_unit_zero rfl inb y⟩), View.canon_unit_zero rfl]

/-- The sum over lanes that keeps only lane `k`. -/
theorem pick_sum {f : Fin 128 → EReal} (w : BitVec 32) (k : Fin 8) (hw : w = BitVec.ofNat 32 k.val) :
    (∑ x : Fin 128, Scalar.select (IntOp.cmpi CmpIPredicate.eq (BitVec.ofNat 32 ↑x) (Scalar.addi (Scalar.muli 0#32 8#32) w)) (f x) 0)
      = f ⟨k.val, by omega⟩ := by
  subst hw
  rw [Finset.sum_eq_single (⟨k.val, by omega⟩ : Fin 128)]
  · have : IntOp.cmpi CmpIPredicate.eq (BitVec.ofNat 32 k.val) (Scalar.addi (Scalar.muli 0#32 8#32) (BitVec.ofNat 32 k.val)) = 1#1 := by
      revert k; decide
    simp only [this]; rfl
  · intro b _ hb
    have : IntOp.cmpi CmpIPredicate.eq (BitVec.ofNat 32 b.val) (Scalar.addi (Scalar.muli 0#32 8#32) (BitVec.ofNat 32 k.val)) = 0#1 := by
      have hb' : b.val ≠ k.val := fun h => hb (Fin.ext h)
      clear hb f; revert k b; decide +kernel
    simp only [this]; rfl
  · simp

open Cert.Rec

/-- Section `i` of head `h` in a block of projected rows. -/
def sec (x0 : Vec Ideal S64x14336 .bf16) (h i : Fin 8) (hi : i.val < 7) (t : Fin 64) (d : Fin 256) : EReal :=
  x0 (ix2 t ⟨h.val * 1792 + i.val * 256 + d.val, by omega⟩)

theorem sec_zero (x0 : Vec Ideal S64x14336 .bf16) (hi) (t : Fin 64) (d : Fin 256) :
    sec x0 0 0 hi t d = x0 (ix2 t ⟨d.val, by omega⟩) := by
  unfold sec; congr 2; apply Fin.ext; simp

/-- The two halves of the keys of head `h`, feature first. -/
def kA (x1 : Vec Ideal S1x8x512x64 .bf16) (h : Fin 8) (d : Fin 256) (s : Fin 64) : EReal := x1 (ix4 0 h ⟨d.val, by omega⟩ s)
def kB (x1 : Vec Ideal S1x8x512x64 .bf16) (h : Fin 8) (d : Fin 256) (s : Fin 64) : EReal := x1 (ix4 0 h ⟨256 + d.val, by omega⟩ s)

/-- The three gate columns of head `h`. -/
def gA (x2 : Vec Ideal S64x384 .f32) (h : Fin 8) (t : Fin 64) : EReal := x2 (ix2 t ⟨h.val, by omega⟩)
def gW (x2 : Vec Ideal S64x384 .f32) (h : Fin 8) (t : Fin 64) : EReal := x2 (ix2 t ⟨128 + h.val, by omega⟩)
def gE (x2 : Vec Ideal S64x384 .f32) (h : Fin 8) (t : Fin 64) : EReal := x2 (ix2 t ⟨256 + h.val, by omega⟩)

/-- A block of eight matrix states, and of eight normalisers repeated over lanes. -/
def stBlk (f : Fin 8 → Fin 256 → Fin 256 → EReal) (y : S1x8x256x256.Idx) : EReal := f (y 1) (y 2) (y 3)
def nBlk (f : Fin 8 → Fin 256 → EReal) (y : S1x8x256x128.Idx) : EReal := f (y 1) (y 2)

theorem stBlk_at (f : Fin 8 → Fin 256 → Fin 256 → EReal) (y : S1x8x256x256.Idx) (h : Fin 8) (d e : Fin 256)
    (h1 : (y 1).val = h.val) (h2 : (y 2).val = d.val) (h3 : (y 3).val = e.val) : stBlk f y = f h d e := by
  unfold stBlk
  rw [show y 1 = h from Fin.ext h1, show y 2 = d from Fin.ext h2, show y 3 = e from Fin.ext h3]

theorem nBlk_at (f : Fin 8 → Fin 256 → EReal) (y : S1x8x256x128.Idx) (h : Fin 8) (d : Fin 256)
    (h1 : (y 1).val = h.val) (h2 : (y 2).val = d.val) : nBlk f y = f h d := by
  unfold nBlk
  rw [show y 1 = h from Fin.ext h1, show y 2 = d from Fin.ext h2]

/-- Head `h` of the new matrix state from one step's blocks. -/
def hC (x0 : Vec Ideal S64x14336 .bf16) (x1 : Vec Ideal S1x8x512x64 .bf16) (x2 : Vec Ideal S64x384 .f32)
    (x3 : Vec Ideal S1x8x1x64 .f32) (x10 : Vec Ideal S1x8x256x256 .f32) (h : Fin 8) (d e : Fin 256) : EReal :=
  stC (gW x2 h 63) (fun s => Ideal.exp2 (gA x2 h 63 + x3 (ix4 0 h 0 s))) (kA x1 h) (sec x0 h 1 (by decide))
    (fun d e => x10 (ix4 0 h d e)) d e

/-- Head `h` of the new normaliser. -/
def hN (x1 : Vec Ideal S1x8x512x64 .bf16) (x2 : Vec Ideal S64x384 .f32)
    (x3 : Vec Ideal S1x8x1x64 .f32) (n0 : Fin 8 → Fin 256 → EReal) (h : Fin 8) (d : Fin 256) : EReal :=
  stN (gW x2 h 63) (fun s => Ideal.exp2 (gA x2 h 63 + x3 (ix4 0 h 0 s))) (kA x1 h) (n0 h) d

/-- Head `h` of the new retention state. -/
def hS (x0 : Vec Ideal S64x14336 .bf16) (x1 : Vec Ideal S1x8x512x64 .bf16) (x6 : Vec Ideal S8x1x64 .f32)
    (gl : Fin 8 → EReal) (x12 : Vec Ideal S1x8x256x256 .f32) (h : Fin 8) (d e : Fin 256) : EReal :=
  stC (gl h) (fun s => x6 (ix3 h 0 s)) (kB x1 h) (sec x0 h 5 (by decide)) (fun d e => x12 (ix4 0 h d e)) d e

/-- Head `h` of the gated output. -/
def hYA (x0 : Vec Ideal S64x14336 .bf16) (x1 : Vec Ideal S1x8x512x64 .bf16) (x2 : Vec Ideal S64x384 .f32)
    (x3 : Vec Ideal S1x8x1x64 .f32) (x8 : Vec Ideal S8x1x256 .f32) (x10 : Vec Ideal S1x8x256x256 .f32)
    (n0 : Fin 8 → Fin 256 → EReal) (h : Fin 8) (t : Fin 64) (e : Fin 256) : EReal :=
  outA (sec x0 h 0 (by decide)) (kA x1 h) (sec x0 h 1 (by decide)) (cau (gA x2 h) (fun s => x3 (ix4 0 h 0 s)))
    (gW x2 h) (gE x2 h) (fun d e => x10 (ix4 0 h d e)) (n0 h) (sec x0 h 2 (by decide)) (fun e => x8 (ix3 h 0 e))
    (sec x0 h 3 (by decide)) t e

/-- Head `h` of the retention output. -/
def hYB (x0 : Vec Ideal S64x14336 .bf16) (x1 : Vec Ideal S1x8x512x64 .bf16) (x4 : Vec Ideal S8x64x64 .f32)
    (it : Fin 8 → Fin 64 → EReal) (x9 : Vec Ideal S8x1x256 .f32) (x12 : Vec Ideal S1x8x256x256 .f32)
    (h : Fin 8) (t : Fin 64) (e : Fin 256) : EReal :=
  outB (sec x0 h 4 (by decide)) (kB x1 h) (sec x0 h 5 (by decide)) (fun t s => x4 (ix3 h t s)) (it h)
    (fun d e => x12 (ix4 0 h d e)) (fun e => x9 (ix3 h 0 e)) (sec x0 h 6 (by decide)) t e

end Cert.SampleIdeal.Gen
end
-- ==== Proof.Gate.lean ====
module
public import proofs.«01_k».proof.Proof.Gen.SampleIdeal.Frame
public import Idealize.ShloMosaic.Lib.Pipeline.Value
public import Idealize.ShloMosaic.Lib.Pointwise
public import Idealize.ShloMosaic.Lib.KernelVsHost
public import proofs.«01_k».proof.Proof.RowMath
public import proofs.«01_k».proof.Proof.Base
@[expose] public section
set_option maxRecDepth 100000
noncomputable section
namespace Cert.SampleIdeal.Gen
open Idealize.ShloMosaic
open Idealize.ShloMosaic.TcCoe Idealize.ShloMosaic.Tactic

open Cert.RowMath

/-! One step of the gate kernel: the running sum of the forget gate's logarithm, the running maximum, and what is stored. -/

theorem pay7_apply (t : Fin 64) (l : Fin 128) : k0_pay7 (ix2 t l) = BitVec.ofNat 32 t.val := by
  have h : ∀ t : Fin 64, IntOp.andi (BitVec.ofNat 32 t.val) 63#32 = BitVec.ofNat 32 t.val := by decide +kernel
  refine Eq.trans ?_ (h t)
  pointwise [k0_pay7]

theorem sge_word (t d : Fin 64) : IntOp.cmpi CmpIPredicate.sge (BitVec.ofNat 32 t.val) (BitVec.ofNat 32 d.val)
    = if d.val ≤ t.val then 1#1 else 0#1 := by
  revert t d; decide +kernel

/-- Rows shifted down by `d`, the first `d` replaced by `z`. -/
theorem shift_apply (x : FVec Ideal S64x128 .f32) (d : Fin 64) (w : BitVec 32) (hw : w = BitVec.ofNat 32 d.val) (z : EReal)
    (t : Fin 64) (l : Fin 128) :
    select (cmpi .sge k0_pay7 (broadcast S64x128 w)) (dynamicRotate 0 w none x rotates_S64x128_d0)
        (broadcast S64x128 z) (ix2 t l)
      = if d.val ≤ t.val then x (ix2 ⟨t.val - d.val, by omega⟩ l) else z := by
  subst hw
  show Scalar.select (IntOp.cmpi .sge (k0_pay7 (ix2 t l)) (BitVec.ofNat 32 d.val)) _ _ = _
  rw [pay7_apply, sge_word]
  by_cases h : d.val ≤ t.val
  · rw [if_pos h, if_pos h]
    refine (dynamicRotate_apply 0 _ x rotates_S64x128_d0 _ (ix2 ⟨t.val - d.val, by omega⟩ l) ?_)
    intro b
    have ht : t.val < 64 := t.isLt
    have hd : d.val < 64 := d.isLt
    fin_cases b
    · show t.val - d.val = (t.val + 64 - (BitVec.ofNat 32 d.val).toNat % 64) % 64
      rw [BitVec.toNat_ofNat]; omega
    · rfl
  · rw [if_neg h, if_neg h]; rfl

theorem step_add (f : Fin 128 → ℕ → EReal) (x : FVec Ideal S64x128 .f32) (d : Fin 64) (w : BitVec 32) (hw : w = BitVec.ofNat 32 d.val)
    (z : EReal) (hz : z = 0) (hx : ∀ t l, x (ix2 t l) = wsum (f l) d.val t.val) (t : Fin 64) (l : Fin 128) :
    addf x (select (cmpi .sge k0_pay7 (broadcast S64x128 w)) (dynamicRotate 0 w none x rotates_S64x128_d0)
        (broadcast S64x128 z)) (ix2 t l) = wsum (f l) (2 * d.val) t.val := by
  show x (ix2 t l) + select _ _ _ (ix2 t l) = _
  rw [shift_apply x d w hw z t l, ← wsum_double, hx, hz]
  congr 1
  by_cases h : d.val ≤ t.val
  · rw [if_pos h, if_pos h, hx]
  · rw [if_neg h, if_neg h]

theorem step_max (f : Fin 128 → ℕ → EReal) (x : FVec Ideal S64x128 .f32) (d : Fin 64) (w : BitVec 32) (hw : w = BitVec.ofNat 32 d.val)
    (z : EReal) (hz : z = ⊥) (hx : ∀ t l, x (ix2 t l) = wsup (f l) d.val t.val) (t : Fin 64) (l : Fin 128) :
    maximumf x (select (cmpi .sge k0_pay7 (broadcast S64x128 w)) (dynamicRotate 0 w none x rotates_S64x128_d0)
        (broadcast S64x128 z)) (ix2 t l) = wsup (f l) (2 * d.val) t.val := by
  show max (x (ix2 t l)) (select _ _ _ (ix2 t l)) = _
  rw [shift_apply x d w hw z t l, ← wsup_double, hx, hz]
  congr 1
  by_cases h : d.val ≤ t.val
  · rw [if_pos h, if_pos h, hx]
  · rw [if_neg h, if_neg h]

theorem zero_word : (Scalar.ofBits (F := Ideal) .f32 0x00000000#32 : EReal) = 0 := Ideal.ofBits_zero _
theorem bot_word : (Scalar.ofBits (F := Ideal) .f32 0xFF800000#32 : EReal) = ⊥ := by
  show Ideal.ofBits .f32 _ = _
  simp [Ideal.ofBits, Ideal.ieee]

section

variable (x0 : Vec Ideal S64x256 .f32) (x1 x2 : Vec Ideal S1x128 .f32)

/-- The logarithm of the forget gate, and the input gate, of lane `l` on row `t`. -/
def lfg (l : Fin 128) (t : ℕ) : EReal := if h : t < 64 then lsig (x0 (ix2 ⟨t, h⟩ ⟨128 + l.val, by omega⟩) + x2 (ix2 0 l)) else 0
def igt (l : Fin 128) (t : ℕ) : EReal := if h : t < 64 then x0 (ix2 ⟨t, h⟩ ⟨l.val, by omega⟩) + x1 (ix2 0 l) else 0

/-- The running sum of the forget gate's logarithm. -/
def bcum (l : Fin 128) (t : ℕ) : EReal := ∑ s ∈ Finset.range (t + 1), lfg x0 x2 l s

/-- The input gate less the running sum. -/
def crel (l : Fin 128) (t : ℕ) : EReal := igt x0 x1 l t - bcum x0 x2 l t

/-- The stabiliser less the running sum. -/
def mrel (x3 : Fin 128 → EReal) (l : Fin 128) (t : ℕ) : EReal :=
  max (x3 l) ((Finset.range (t + 1)).sup (crel x0 x1 x2 l))

theorem pay8_apply (t : Fin 64) (l : Fin 128) : k0_pay8 x0 x2 (ix2 t l) = wsum (lfg x0 x2 l) 4 t.val := by
  unfold k0_pay8
  dsimp only
  refine step_add (lfg x0 x2) _ 2 _ rfl _ zero_word (step_add (lfg x0 x2) _ 1 _ rfl _ zero_word ?_) t l
  intro t l
  rw [show ((1 : Fin 64).val) = 1 from rfl, wsum_one, lfg, dif_pos t.isLt]
  pointwise
  rfl

theorem pay10_apply (t : Fin 64) (l : Fin 128) :
    k0_pay10 k0_pay7 (k0_pay8 x0 x2) k0_pay9 (ix2 t l) = bcum x0 x2 l t.val := by
  unfold k0_pay10 k0_pay9
  dsimp only
  rw [bcum, ← wsum_all _ 64 _ t.isLt]
  exact step_add (lfg x0 x2) _ 32 _ rfl _ zero_word (step_add (lfg x0 x2) _ 16 _ rfl _ zero_word
    (step_add (lfg x0 x2) _ 8 _ rfl _ zero_word (step_add (lfg x0 x2) _ 4 _ rfl _ zero_word (pay8_apply x0 x2)))) t l

theorem pay6_apply (t : Fin 64) (l : Fin 128) : k0_pay6 x0 x1 (ix2 t l) = igt x0 x1 l t.val := by
  rw [igt, dif_pos t.isLt]
  pointwise [k0_pay6]

theorem pay11_apply (t : Fin 64) (l : Fin 128) :
    k0_pay11 (k0_pay6 x0 x1) k0_pay7 (k0_pay8 x0 x2) k0_pay9 (ix2 t l) = crel x0 x1 x2 l t.val := by
  unfold k0_pay11
  show k0_pay6 x0 x1 (ix2 t l) - _ = _
  rw [pay6_apply, pay10_apply]
  rfl

theorem pay12_apply (t : Fin 64) (l : Fin 128) :
    k0_pay12 (k0_pay6 x0 x1) k0_pay7 (k0_pay8 x0 x2) k0_pay9 (ix2 t l) = wsup (crel x0 x1 x2 l) 4 t.val := by
  unfold k0_pay12
  dsimp only
  refine step_max (crel x0 x1 x2) _ 2 _ rfl _ bot_word (step_max (crel x0 x1 x2) _ 1 _ rfl _ bot_word ?_) t l
  intro t l
  rw [show ((1 : Fin 64).val) = 1 from rfl, wsup_one, pay11_apply]

/-- The stabiliser less the running sum, as computed. -/
theorem pay14_apply (v : Vec Ideal S1x128 .f32) (t : Fin 64) (l : Fin 128) :
    k0_pay14 k0_pay7 (k0_pay12 (k0_pay6 x0 x1) k0_pay7 (k0_pay8 x0 x2) k0_pay9)
      (k0_pay13 (k0_pay6 x0 x1) k0_pay7 (k0_pay8 x0 x2) k0_pay9) v (ix2 t l)
      = mrel x0 x1 x2 (fun l => v (ix2 0 l)) l t.val := by
  unfold k0_pay14 k0_pay13
  dsimp only
  rw [mrel, ← wsup_all _ 64 _ t.isLt]
  refine congrArg₂ max ?_ (step_max (crel x0 x1 x2) _ 32 _ rfl _ bot_word (step_max (crel x0 x1 x2) _ 16 _ rfl _ bot_word
    (step_max (crel x0 x1 x2) _ 8 _ rfl _ bot_word (step_max (crel x0 x1 x2) _ 4 _ rfl _ bot_word (pay12_apply x0 x1 x2)))) t l)
  pointwise

theorem named_ell : ((Named.named κ "log2e" (0x3FB8AA3B#32 : BitVec (FTy.bits .f32)) : Ideal .f32) : EReal) = ell := by
  rfl

theorem pay15_apply (v : Vec Ideal S1x128 .f32) (t : Fin 64) (l : Fin 128) :
    k0_pay15 k0_pay7 (k0_pay10 k0_pay7 (k0_pay8 x0 x2) k0_pay9) (k0_pay12 (k0_pay6 x0 x1) k0_pay7 (k0_pay8 x0 x2) k0_pay9)
      (k0_pay13 (k0_pay6 x0 x1) k0_pay7 (k0_pay8 x0 x2) k0_pay9) v (ix2 t l)
      = bcum x0 x2 l t.val + mrel x0 x1 x2 (fun l => v (ix2 0 l)) l t.val := by
  unfold k0_pay15
  rw [← pay14_apply, ← pay10_apply]
  rfl

theorem ld_zero {S : Shape} {e : EltTy} {off : Fin S.rank → ℕ} (h : ∀ a, off a = 0)
    (inb : ∀ a, off a + S.size a ≤ S.size a) (w : S.Idx → Elt Ideal e) :
    View.ld w (Rect.unit off (no_index S.size) inb) = w :=
  View.ld_unit_zero (funext h) inb w

theorem start_apply (x3 : Vec Ideal S1x1x128 .f32) (l : Fin 128) : k0_pay5 x3 (ix2 0 l) = x3 (ix3 0 0 l) := by
  pointwise [k0_pay5]

/-- What one step stores: the three gate tables side by side, the relative input gate by heads, the last stabiliser. -/
def aweBlk (x3 : Vec Ideal S1x1x128 .f32) (y : S64x384.Idx) : EReal :=
  if h : (y 1).val < 128 then
    (0 - mrel x0 x1 x2 (fun l => x3 (ix3 0 0 l)) ⟨(y 1).val, h⟩ (y 0).val) * ell
  else if h : (y 1).val < 256 then
    Ideal.exp (x3 (ix3 0 0 ⟨(y 1).val - 128, by omega⟩)
      - mrel x0 x1 x2 (fun l => x3 (ix3 0 0 l)) ⟨(y 1).val - 128, by omega⟩ (y 0).val)
  else
    Ideal.exp (0 - (bcum x0 x2 ⟨(y 1).val - 256, by have : (y 1).val < 384 := (y 1).isLt; omega⟩ (y 0).val
      + mrel x0 x1 x2 (fun l => x3 (ix3 0 0 l)) ⟨(y 1).val - 256, by have : (y 1).val < 384 := (y 1).isLt; omega⟩ (y 0).val))

theorem aweBlk_a (x3 : Vec Ideal S1x1x128 .f32) (y : S64x384.Idx) (t : Fin 64) (l : Fin 128) (h0 : (y 0).val = t.val) (h1 : (y 1).val = l.val) :
    aweBlk x0 x1 x2 x3 y = (0 - mrel x0 x1 x2 (fun l => x3 (ix3 0 0 l)) l t.val) * ell := by
  unfold aweBlk
  rw [dif_pos (by omega), show (⟨(y 1).val, _⟩ : Fin 128) = l from Fin.ext h1, h0]

theorem aweBlk_w (x3 : Vec Ideal S1x1x128 .f32) (y : S64x384.Idx) (t : Fin 64) (l : Fin 128) (h0 : (y 0).val = t.val) (h1 : (y 1).val = 128 + l.val) :
    aweBlk x0 x1 x2 x3 y = Ideal.exp (x3 (ix3 0 0 l) - mrel x0 x1 x2 (fun l => x3 (ix3 0 0 l)) l t.val) := by
  unfold aweBlk
  rw [dif_neg (by omega), dif_pos (by omega), show (⟨(y 1).val - 128, _⟩ : Fin 128) = l from Fin.ext (by show (y 1).val - 128 = _; omega), h0]

theorem aweBlk_e (x3 : Vec Ideal S1x1x128 .f32) (y : S64x384.Idx) (t : Fin 64) (l : Fin 128) (h0 : (y 0).val = t.val) (h1 : (y 1).val = 256 + l.val) :
    aweBlk x0 x1 x2 x3 y
      = Ideal.exp (0 - (bcum x0 x2 l t.val + mrel x0 x1 x2 (fun l => x3 (ix3 0 0 l)) l t.val)) := by
  unfold aweBlk
  rw [dif_neg (by omega), dif_neg (by omega), show (⟨(y 1).val - 256, _⟩ : Fin 128) = l from Fin.ext (by show (y 1).val - 256 = _; omega), h0]

def crowBlk (y : S1x8x1x64.Idx) : EReal :=
  crel x0 x1 x2 ⟨(y 1).val, by have : (y 1).val < 8 := (y 1).isLt; omega⟩ (y 3).val * ell

theorem crowBlk_at (y : S1x8x1x64.Idx) (h : Fin 8) (s : Fin 64) (h1 : (y 1).val = h.val) (h3 : (y 3).val = s.val) :
    crowBlk x0 x1 x2 y = crel x0 x1 x2 ⟨h.val, by omega⟩ s.val * ell := by
  unfold crowBlk
  rw [show (⟨(y 1).val, _⟩ : Fin 128) = ⟨h.val, by omega⟩ from Fin.ext h1, h3]

def moutBlk (x3 : Vec Ideal S1x1x128 .f32) (y : S1x1x128.Idx) : EReal :=
  bcum x0 x2 (y 2) 63 + mrel x0 x1 x2 (fun l => x3 (ix3 0 0 l)) (y 2) 63

theorem moutBlk_at (x3 : Vec Ideal S1x1x128 .f32) (y : S1x1x128.Idx) (l : Fin 128) (h : (y 2).val = l.val) :
    moutBlk x0 x1 x2 x3 y = bcum x0 x2 l 63 + mrel x0 x1 x2 (fun l => x3 (ix3 0 0 l)) l 63 := by
  unfold moutBlk
  rw [show y 2 = l from Fin.ext h]

end

theorem blk_awe (c : Dev nD) (i : grid0.Coords) (arg2 : Memref sig .tc .vmem S64x256 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S64x384 .f32) (harg6 : arg6.IsWhole) (arg7 : Memref sig .tc .vmem S1x8x1x64 .f32) (harg7 : arg7.IsWhole) (arg8 : Memref sig .tc .vmem S1x1x128 .f32) (harg8 : arg8.IsWhole) (arg9 : Memref sig .tc .vmem S1x128 .f32) (harg9 : arg9.IsWhole) (hc0 : cond0_0 i) (x0 : Vec Ideal S64x256 .f32) (x1 : Vec Ideal S1x128 .f32) (x2 : Vec Ideal S1x128 .f32) (x3 : Vec Ideal S1x1x128 .f32) :
    out0_A_4 (F:=Ideal) c i arg2 harg2 arg3 harg3 arg4 harg4 arg5 harg5 arg6 harg6 arg7 harg7 arg8 harg8 arg9 harg9 hc0 x0 x1 x2 x3 = aweBlk x0 x1 x2 x3 := by
  funext y
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  refine View.canon_apply_of_pieces _ _ ?_ y (cover0_A_4 c i arg2 harg2 arg3 harg3 arg4 harg4 arg5 harg5 arg6 harg6 arg7 harg7 arg8 harg8 arg9 harg9 hc0 x0 x1 x2 x3 y)
  unfold kernelRun0_A
  dsimp only
  sl_unfold_words
  simp only [List.forall_mem_cons, View.readAt_eq_ld, (harg2).read_unread, (harg3).read_unread, (harg4).read_unread, (harg5).read_unread, (harg6).read_unread, (harg7).read_unread, (harg8).read_unread, (harg9).read_unread]
  simp (disch := decide) only [readCov_eq_ld_zero]
  simp (disch := decide) only [ld_zero]
  have hs : (fun l : Fin 128 => k0_pay5 x3 (ix2 0 l)) = fun l => x3 (ix3 0 0 l) := funext (start_apply x3)
  have h14 := pay14_apply x0 x1 x2 (k0_pay5 x3)
  have h15 := pay15_apply x0 x1 x2 (k0_pay5 x3)
  rw [hs] at h14 h15
  refine ⟨fun j => ?_, fun j => ?_, fun j => ?_, by simp⟩
  · obtain ⟨t, l, rfl⟩ : ∃ t l, j = ix2 t l := ⟨j 0, j 1, by idx_ext⟩
    rw [aweBlk_e _ _ _ _ _ t l (by simp) (by simp), ← h15]
    unfold k0_pay18
    rw [← zero_word]
    rfl
  · obtain ⟨t, l, rfl⟩ : ∃ t l, j = ix2 t l := ⟨j 0, j 1, by idx_ext⟩
    rw [aweBlk_w _ _ _ _ _ t l (by simp) (by simp), ← h14, ← start_apply x3 l]
    unfold k0_pay17
    refine congrArg (fun u : EReal => Ideal.exp (u - _)) ?_
    pointwise
  · obtain ⟨t, l, rfl⟩ : ∃ t l, j = ix2 t l := ⟨j 0, j 1, by idx_ext⟩
    rw [aweBlk_a _ _ _ _ _ t l (by simp) (by simp), ← h14, ← named_ell]
    unfold k0_pay16
    rw [← zero_word]
    rfl

theorem blk_crow (c : Dev nD) (i : grid0.Coords) (arg2 : Memref sig .tc .vmem S64x256 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S64x384 .f32) (harg6 : arg6.IsWhole) (arg7 : Memref sig .tc .vmem S1x8x1x64 .f32) (harg7 : arg7.IsWhole) (arg8 : Memref sig .tc .vmem S1x1x128 .f32) (harg8 : arg8.IsWhole) (arg9 : Memref sig .tc .vmem S1x128 .f32) (harg9 : arg9.IsWhole) (hc0 : cond0_0 i) (x0 : Vec Ideal S64x256 .f32) (x1 : Vec Ideal S1x128 .f32) (x2 : Vec Ideal S1x128 .f32) (x3 : Vec Ideal S1x1x128 .f32) :
    out0_A_5 (F:=Ideal) c i arg2 harg2 arg3 harg3 arg4 harg4 arg5 harg5 arg6 harg6 arg7 harg7 arg8 harg8 arg9 harg9 hc0 x0 x1 x2 x3 = crowBlk x0 x1 x2 := by
  funext y
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  refine View.canon_apply_of_pieces _ _ ?_ y (cover0_A_5 c i arg2 harg2 arg3 harg3 arg4 harg4 arg5 harg5 arg6 harg6 arg7 harg7 arg8 harg8 arg9 harg9 hc0 x0 x1 x2 x3 y)
  unfold kernelRun0_A
  dsimp only
  sl_unfold_words
  simp only [List.forall_mem_cons, View.readAt_eq_ld, (harg2).read_unread, (harg3).read_unread, (harg4).read_unread, (harg5).read_unread, (harg6).read_unread, (harg7).read_unread, (harg8).read_unread, (harg9).read_unread]
  simp (disch := decide) only [ld_zero]
  have hq : ∀ t l, k0_pay11 (k0_pay6 x0 x1) k0_pay7 (k0_pay8 x0 x2) k0_pay9 (ix2 t l) = crel x0 x1 x2 l t.val := pay11_apply x0 x1 x2
  generalize k0_pay11 (k0_pay6 x0 x1) k0_pay7 (k0_pay8 x0 x2) k0_pay9 = q at hq ⊢
  refine ⟨fun j => ?_, fun j => ?_, fun j => ?_, fun j => ?_, fun j => ?_, fun j => ?_, fun j => ?_, fun j => ?_, by simp⟩
  · have hj : (j 1).val < 1 := (j 1).isLt
    refine Eq.trans ?_ ((crowBlk_at _ _ _ _ 7 (j 3) (by simp; omega) (by simp)).trans (congrArg (fun u : EReal => u * ell) (hq (j 3) ⟨7, by omega⟩).symm)).symm
    rw [← named_ell]
    unfold_payloads
    pointwise
    try rfl
  · have hj : (j 1).val < 1 := (j 1).isLt
    refine Eq.trans ?_ ((crowBlk_at _ _ _ _ 6 (j 3) (by simp; omega) (by simp)).trans (congrArg (fun u : EReal => u * ell) (hq (j 3) ⟨6, by omega⟩).symm)).symm
    rw [← named_ell]
    unfold_payloads
    pointwise
    try rfl
  · have hj : (j 1).val < 1 := (j 1).isLt
    refine Eq.trans ?_ ((crowBlk_at _ _ _ _ 5 (j 3) (by simp; omega) (by simp)).trans (congrArg (fun u : EReal => u * ell) (hq (j 3) ⟨5, by omega⟩).symm)).symm
    rw [← named_ell]
    unfold_payloads
    pointwise
    try rfl
  · have hj : (j 1).val < 1 := (j 1).isLt
    refine Eq.trans ?_ ((crowBlk_at _ _ _ _ 4 (j 3) (by simp; omega) (by simp)).trans (congrArg (fun u : EReal => u * ell) (hq (j 3) ⟨4, by omega⟩).symm)).symm
    rw [← named_ell]
    unfold_payloads
    pointwise
    try rfl
  · have hj : (j 1).val < 1 := (j 1).isLt
    refine Eq.trans ?_ ((crowBlk_at _ _ _ _ 3 (j 3) (by simp; omega) (by simp)).trans (congrArg (fun u : EReal => u * ell) (hq (j 3) ⟨3, by omega⟩).symm)).symm
    rw [← named_ell]
    unfold_payloads
    pointwise
    try rfl
  · have hj : (j 1).val < 1 := (j 1).isLt
    refine Eq.trans ?_ ((crowBlk_at _ _ _ _ 2 (j 3) (by simp; omega) (by simp)).trans (congrArg (fun u : EReal => u * ell) (hq (j 3) ⟨2, by omega⟩).symm)).symm
    rw [← named_ell]
    unfold_payloads
    pointwise
    try rfl
  · have hj : (j 1).val < 1 := (j 1).isLt
    refine Eq.trans ?_ ((crowBlk_at _ _ _ _ 1 (j 3) (by simp; omega) (by simp)).trans (congrArg (fun u : EReal => u * ell) (hq (j 3) ⟨1, by omega⟩).symm)).symm
    rw [← named_ell]
    unfold_payloads
    pointwise
    try rfl
  · have hj : (j 1).val < 1 := (j 1).isLt
    refine Eq.trans ?_ ((crowBlk_at _ _ _ _ 0 (j 3) (by simp; omega) (by simp)).trans (congrArg (fun u : EReal => u * ell) (hq (j 3) ⟨0, by omega⟩).symm)).symm
    rw [← named_ell]
    unfold_payloads
    pointwise
    try rfl

theorem blk_mout (c : Dev nD) (i : grid0.Coords) (arg2 : Memref sig .tc .vmem S64x256 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S64x384 .f32) (harg6 : arg6.IsWhole) (arg7 : Memref sig .tc .vmem S1x8x1x64 .f32) (harg7 : arg7.IsWhole) (arg8 : Memref sig .tc .vmem S1x1x128 .f32) (harg8 : arg8.IsWhole) (arg9 : Memref sig .tc .vmem S1x128 .f32) (harg9 : arg9.IsWhole) (hc0 : cond0_0 i) (x0 : Vec Ideal S64x256 .f32) (x1 : Vec Ideal S1x128 .f32) (x2 : Vec Ideal S1x128 .f32) (x3 : Vec Ideal S1x1x128 .f32) :
    out0_A_6 (F:=Ideal) c i arg2 harg2 arg3 harg3 arg4 harg4 arg5 harg5 arg6 harg6 arg7 harg7 arg8 harg8 arg9 harg9 hc0 x0 x1 x2 x3 = moutBlk x0 x1 x2 x3 := by
  funext y
  unfold out0_A_6
  rw [View.read_writes_eq_canon _ _ _ (cover0_A_6 c i arg2 harg2 arg3 harg3 arg4 harg4 arg5 harg5 arg6 harg6 arg7 harg7 arg8 harg8 arg9 harg9 hc0 x0 x1 x2 x3)]
  refine View.canon_apply_of_pieces _ _ ?_ y (cover0_A_6 c i arg2 harg2 arg3 harg3 arg4 harg4 arg5 harg5 arg6 harg6 arg7 harg7 arg8 harg8 arg9 harg9 hc0 x0 x1 x2 x3 y)
  unfold kernelRun0_A
  dsimp only
  sl_unfold_words
  simp only [List.forall_mem_cons, View.readAt_eq_ld, (harg2).read_unread, (harg3).read_unread, (harg4).read_unread, (harg5).read_unread, (harg6).read_unread, (harg7).read_unread, (harg8).read_unread, (harg9).read_unread]
  simp (disch := decide) only [readCov_eq_ld_zero]
  simp (disch := decide) only [ld_zero]
  have hs : (fun l : Fin 128 => k0_pay5 x3 (ix2 0 l)) = fun l => x3 (ix3 0 0 l) := funext (start_apply x3)
  have h15 := pay15_apply x0 x1 x2 (k0_pay5 x3)
  rw [hs] at h15
  refine ⟨fun j => ?_, by simp⟩
  rw [moutBlk_at _ _ _ _ _ (j 2) (by simp)]
  refine Eq.trans ?_ (h15 63 (j 2))
  unfold k0_pay4 k0_pay19
  generalize k0_pay15 (F := Ideal) _ _ _ _ _ = q
  pointwise

end Cert.SampleIdeal.Gen
end
-- ==== Proof.Arr0.lean ====
module
public import proofs.«01_k».proof.Proof.Gate
public import Idealize.ShloMosaic.Lib.Pipeline.ValueKit

@[expose] public section
set_option maxRecDepth 100000
noncomputable section
namespace Cert.SampleIdeal.Gen
open Idealize.ShloMosaic
open Idealize.ShloMosaic.TcCoe Idealize.ShloMosaic.Tactic
open Idealize.ShloMosaic.Pipeline (Dat)
open Cert.Rec

variable (V : (c : Dev nD) → (b : Ref sig .tc) → Buf (Elt Ideal) ((c : Thread nD τ).loc b)) (c : Dev nD)

theorem e0_0 : ∀ t : Fin cfg0.N, win0_0.index t = ![256 + t.val, 0] := by decide +kernel
theorem e0_1 : ∀ t : Fin cfg0.N, win0_1.index t = ![0, 0] := by decide +kernel
theorem e0_2 : ∀ t : Fin cfg0.N, win0_2.index t = ![0, 0] := by decide +kernel
theorem e0_3 : ∀ t : Fin cfg0.N, win0_3.index t = ![t.val, 0, 0] := by decide +kernel
theorem e0_4 : ∀ t : Fin cfg0.N, win0_4.index t = ![t.val, 0] := by decide +kernel
theorem e0_5 : ∀ t : Fin cfg0.N, win0_5.index t = ![t.val, 0, 0, 0] := by decide +kernel
theorem e0_6 : ∀ t : Fin cfg0.N, win0_6.index t = ![t.val, 0, 0] := by decide +kernel

/-- The gates of the sample's requests, one request's rows. -/
def gB (A : Vec Ideal S17664x256 .f32) (s : Fin 16) : Vec Ideal S64x256 .f32 :=
  fun y => A (ix2 ⟨16384 + s.val * 64 + (y 0).val, by have : (y 0).val < 64 := (y 0).isLt; omega⟩ (y 1))

theorem iblk0_0 (t : Fin cfg0.N) : iblk0 V c 0 t = gB (V c main_arg2) t := by
  funext y
  blk_simp [iblk0, gB]
  refine congrArg (V c main_arg2) ?_
  blk_ext [e0_0]

theorem iblk0_1 (t : Fin cfg0.N) : iblk0 V c 1 t = (V c main_v4 : Vec Ideal S1x128 .f32) := by
  funext y
  blk_simp [iblk0]
  refine congrArg (V c main_v4) ?_
  blk_ext [e0_1]

theorem iblk0_2 (t : Fin cfg0.N) : iblk0 V c 2 t = (V c main_v9 : Vec Ideal S1x128 .f32) := by
  funext y
  blk_simp [iblk0]
  refine congrArg (V c main_v9) ?_
  blk_ext [e0_2]

/-- One request's row of a table of 16 rows. -/
def mB (A : Vec Ideal S16x1x128 .f32) (s : Fin 16) : Vec Ideal S1x1x128 .f32 := fun y => A (ix3 s 0 (y 2))

theorem iblk0_3 (t : Fin cfg0.N) : iblk0 V c 3 t = mB (V c main_v21) t := by
  funext y
  blk_simp [iblk0, mB]
  refine congrArg (V c main_v21) ?_
  blk_ext [e0_3]

/-- The gate kernel's first result, all requests. -/
def aweArr (G : Vec Ideal S17664x256 .f32) (bi bf : Vec Ideal S1x128 .f32) (m0 : Vec Ideal S16x1x128 .f32) :
    Vec Ideal S1024x384 .f32 := fun i =>
  aweBlk (gB G ⟨(i 0).val / 64, by have : (i 0).val < 1024 := (i 0).isLt; omega⟩) bi bf
    (mB m0 ⟨(i 0).val / 64, by have : (i 0).val < 1024 := (i 0).isLt; omega⟩)
    (ix2 ⟨(i 0).val % 64, by omega⟩ (i 1))

/-- The gate kernel's second result, all requests. -/
def crowArr (G : Vec Ideal S17664x256 .f32) (bi bf : Vec Ideal S1x128 .f32) : Vec Ideal S16x8x1x64 .f32 := fun i =>
  crowBlk (gB G (i 0)) bi bf (ix4 0 (i 1) (i 2) (i 3))

/-- The gate kernel's third result, all requests. -/
def moutArr (G : Vec Ideal S17664x256 .f32) (bi bf : Vec Ideal S1x128 .f32) (m0 : Vec Ideal S16x1x128 .f32) :
    Vec Ideal S16x1x128 .f32 := fun i => moutBlk (gB G (i 0)) bi bf (mB m0 (i 0)) (ix3 0 (i 1) (i 2))

theorem aweArr_at (G : Vec Ideal S17664x256 .f32) (bi bf : Vec Ideal S1x128 .f32) (m0 : Vec Ideal S16x1x128 .f32)
    (i : S1024x384.Idx) (s : Fin 16) (t : Fin 64) (l : Fin 384) (h0 : (i 0).val = s.val * 64 + t.val) (h1 : (i 1).val = l.val) :
    aweArr G bi bf m0 i = aweBlk (gB G s) bi bf (mB m0 s) (ix2 t l) := by
  unfold aweArr
  rw [show (⟨(i 0).val / 64, _⟩ : Fin 16) = s from Fin.ext (by show (i 0).val / 64 = _; omega),
    show (⟨(i 0).val % 64, _⟩ : Fin 64) = t from Fin.ext (by show (i 0).val % 64 = _; omega), show i 1 = l from Fin.ext h1]

theorem crowArr_at (G : Vec Ideal S17664x256 .f32) (bi bf : Vec Ideal S1x128 .f32)
    (i : S16x8x1x64.Idx) (s : Fin 16) (h : Fin 8) (z : Fin 1) (t : Fin 64) (h0 : (i 0).val = s.val) (h1 : (i 1).val = h.val)
    (h3 : (i 3).val = t.val) : crowArr G bi bf i = crowBlk (gB G s) bi bf (ix4 0 h z t) := by
  unfold crowArr
  rw [show i 0 = s from Fin.ext h0, show i 1 = h from Fin.ext h1, show i 3 = t from Fin.ext h3, Subsingleton.elim (α := Fin 1) (i 2) z]

theorem moutArr_at (G : Vec Ideal S17664x256 .f32) (bi bf : Vec Ideal S1x128 .f32) (m0 : Vec Ideal S16x1x128 .f32)
    (i : S16x1x128.Idx) (s : Fin 16) (z : Fin 1) (l : Fin 128) (h0 : (i 0).val = s.val) (h2 : (i 2).val = l.val) :
    moutArr G bi bf m0 i = moutBlk (gB G s) bi bf (mB m0 s) (ix3 0 z l) := by
  unfold moutArr
  rw [show i 0 = s from Fin.ext h0, show i 2 = l from Fin.ext h2, Subsingleton.elim (α := Fin 1) (i 1) z]

theorem arr0_4 : (dat0 V c).arrAt 4 cfg0.N = aweArr (V c main_arg2) (V c main_v4) (V c main_v9) (V c main_v21) := by
  refine (dat0 V c).arrAt_eq_of_covers 4 _ (by decide +kernel) fun t hf y => ?_
  blk_simp
  rw [after0_4]
  unfold outsAt0
  dsimp only
  rw [blk_awe, iblk0_0, iblk0_1, iblk0_2, iblk0_3]
  refine Eq.trans ?_ (aweArr_at _ _ _ _ _ t (y 0) (y 1) (by blk_simp [e0_4]) (by blk_simp [e0_4])).symm
  refine congrArg _ ?_
  idx_ext

theorem arr0_5 : (dat0 V c).arrAt 5 cfg0.N = crowArr (V c main_arg2) (V c main_v4) (V c main_v9) := by
  refine (dat0 V c).arrAt_eq_of_covers 5 _ (by decide +kernel) fun t hf y => ?_
  blk_simp
  rw [after0_5]
  unfold outsAt0
  dsimp only
  rw [blk_crow, iblk0_0, iblk0_1, iblk0_2]
  refine Eq.trans ?_ (crowArr_at _ _ _ _ t (y 1) (y 2) (y 3) (by blk_simp [e0_5]) (by blk_simp [e0_5]) (by blk_simp [e0_5])).symm
  refine congrArg _ ?_
  idx_ext

theorem arr0_6 : (dat0 V c).arrAt 6 cfg0.N = moutArr (V c main_arg2) (V c main_v4) (V c main_v9) (V c main_v21) := by
  refine (dat0 V c).arrAt_eq_of_covers 6 _ (by decide +kernel) fun t hf y => ?_
  blk_simp
  rw [after0_6]
  unfold outsAt0
  dsimp only
  rw [blk_mout, iblk0_0, iblk0_1, iblk0_2, iblk0_3]
  refine Eq.trans ?_ (moutArr_at _ _ _ _ _ t (y 1) (y 2) (by blk_simp [e0_6]) (by blk_simp [e0_6])).symm
  refine congrArg _ ?_
  idx_ext

end Cert.SampleIdeal.Gen
end
-- ==== Proof.BlkC.lean ====
module
public import proofs.«01_k».proof.Proof.Gen.SampleIdeal.Frame
public import Idealize.ShloMosaic.Lib.Pipeline.Value
public import Idealize.ShloMosaic.Lib.Pointwise
public import proofs.«01_k».proof.Proof.Base
@[expose] public section
set_option maxRecDepth 100000
noncomputable section
namespace Cert.SampleIdeal.Gen
open Idealize.ShloMosaic
open Idealize.ShloMosaic.TcCoe Idealize.ShloMosaic.Tactic
open Cert.Rec

set_option maxHeartbeats 0 in
theorem blk_C (c : Dev nD) (i : grid1.Coords) (arg3 : Memref sig .tc .vmem S64x14336 .bf16) (harg3 : arg3.IsWhole) (arg4 : Memref sig .tc .vmem S1x8x512x64 .bf16) (harg4 : arg4.IsWhole) (arg5 : Memref sig .tc .vmem S64x384 .f32) (harg5 : arg5.IsWhole) (arg6 : Memref sig .tc .vmem S1x8x1x64 .f32) (harg6 : arg6.IsWhole) (arg7 : Memref sig .tc .vmem S8x64x64 .f32) (harg7 : arg7.IsWhole) (arg8 : Memref sig .tc .vmem S8x64x128 .f32) (harg8 : arg8.IsWhole) (arg9 : Memref sig .tc .vmem S8x1x64 .f32) (harg9 : arg9.IsWhole) (arg10 : Memref sig .tc .vmem S8x1x128 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S1x8x256x256 .f32) (harg13 : arg13.IsWhole) (arg14 : Memref sig .tc .vmem S1x8x256x128 .f32) (harg14 : arg14.IsWhole) (arg15 : Memref sig .tc .vmem S1x8x256x256 .f32) (harg15 : arg15.IsWhole) (arg16 : Memref sig .tc .vmem S64x4096 .bf16) (harg16 : arg16.IsWhole) (arg17 : Memref sig .tc .vmem S1x8x256x256 .f32) (harg17 : arg17.IsWhole) (arg18 : Memref sig .tc .vmem S1x8x256x128 .f32) (harg18 : arg18.IsWhole) (arg19 : Memref sig .tc .vmem S1x8x256x256 .f32) (harg19 : arg19.IsWhole) (arg20 : Memref sig .tc .vmem S8x256x256 .f32) (harg20 : arg20.IsWhole) (arg21 : Memref sig .tc .vmem S8x256x128 .f32) (harg21 : arg21.IsWhole) (arg22 : Memref sig .tc .vmem S8x256x256 .f32) (harg22 : arg22.IsWhole) (hc0 : cond1_0 i) (hc1 : cond1_1 i) (hc2 : cond1_2 i) (hc3 : cond1_3 i) (hc4 : cond1_4 i) (hc5 : cond1_5 i) (hc6 : cond1_6 i) (hc7 : cond1_7 i) (hc8 : cond1_8 i) (x0 : Vec Ideal S64x14336 .bf16) (x1 : Vec Ideal S1x8x512x64 .bf16) (x2 : Vec Ideal S64x384 .f32) (x3 : Vec Ideal S1x8x1x64 .f32) (x4 : Vec Ideal S8x64x64 .f32) (x5 : Vec Ideal S8x64x128 .f32) (x6 : Vec Ideal S8x1x64 .f32) (x7 : Vec Ideal S8x1x128 .f32) (x8 : Vec Ideal S8x1x256 .f32) (x9 : Vec Ideal S8x1x256 .f32) (x10 : Vec Ideal S1x8x256x256 .f32) (x11 : Vec Ideal S1x8x256x128 .f32) (x12 : Vec Ideal S1x8x256x256 .f32) :
    out1_A_14 (F:=Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 = stBlk (hC x0 x1 x2 x3 x10) := by
  funext y
  unfold out1_A_14
  rw [View.read_writes_eq_canon _ _ _ (cover1_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12)]
  refine View.canon_apply_of_pieces _ _ ?_ y (cover1_A_14 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 y)
  unfold kernelRun1_A
  dsimp only
  sl_unfold_words
  simp only [List.forall_mem_cons, View.readAt_eq_ld, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread]
  simp (disch := decide) only [readCov_eq_ld_zero]
  refine ⟨fun j => ?_, fun j => ?_, fun j => ?_, fun j => ?_, fun j => ?_, fun j => ?_, fun j => ?_, fun j => ?_, by simp⟩
  · have hj : (j 1).val < 1 := (j 1).isLt
    rw [stBlk_at _ _ 7 (j 2) (j 3) (by simp; omega) (by simp) (by simp)]
    unfold_payloads
    pointwise [pick_sum 7#32 7 rfl]
    rfl
  · have hj : (j 1).val < 1 := (j 1).isLt
    rw [stBlk_at _ _ 6 (j 2) (j 3) (by simp; omega) (by simp) (by simp)]
    unfold_payloads
    pointwise [pick_sum 6#32 6 rfl]
    rfl
  · have hj : (j 1).val < 1 := (j 1).isLt
    rw [stBlk_at _ _ 5 (j 2) (j 3) (by simp; omega) (by simp) (by simp)]
    unfold_payloads
    pointwise [pick_sum 5#32 5 rfl]
    rfl
  · have hj : (j 1).val < 1 := (j 1).isLt
    rw [stBlk_at _ _ 4 (j 2) (j 3) (by simp; omega) (by simp) (by simp)]
    unfold_payloads
    pointwise [pick_sum 4#32 4 rfl]
    rfl
  · have hj : (j 1).val < 1 := (j 1).isLt
    rw [stBlk_at _ _ 3 (j 2) (j 3) (by simp; omega) (by simp) (by simp)]
    unfold_payloads
    pointwise [pick_sum 3#32 3 rfl]
    rfl
  · have hj : (j 1).val < 1 := (j 1).isLt
    rw [stBlk_at _ _ 2 (j 2) (j 3) (by simp; omega) (by simp) (by simp)]
    unfold_payloads
    pointwise [pick_sum 2#32 2 rfl]
    rfl
  · have hj : (j 1).val < 1 := (j 1).isLt
    rw [stBlk_at _ _ 1 (j 2) (j 3) (by simp; omega) (by simp) (by simp)]
    unfold_payloads
    pointwise [pick_sum 1#32 1 rfl]
    rfl
  · have hj : (j 1).val < 1 := (j 1).isLt
    rw [stBlk_at _ _ 0 (j 2) (j 3) (by simp; omega) (by simp) (by simp)]
    unfold_payloads
    pointwise [pick_sum 0#32 0 rfl]
    rfl

end Cert.SampleIdeal.Gen
end
-- ==== Proof.BlkN.lean ====
module
public import proofs.«01_k».proof.Proof.Gen.SampleIdeal.Frame
public import Idealize.ShloMosaic.Lib.Pipeline.Value
public import Idealize.ShloMosaic.Lib.Pointwise
public import proofs.«01_k».proof.Proof.Base
@[expose] public section
set_option maxRecDepth 100000
noncomputable section
namespace Cert.SampleIdeal.Gen
open Idealize.ShloMosaic
open Idealize.ShloMosaic.TcCoe Idealize.ShloMosaic.Tactic
open Cert.Rec

set_option maxHeartbeats 0 in
theorem blk_N (c : Dev nD) (i : grid1.Coords) (arg3 : Memref sig .tc .vmem S64x14336 .bf16) (harg3 : arg3.IsWhole) (arg4 : Memref sig .tc .vmem S1x8x512x64 .bf16) (harg4 : arg4.IsWhole) (arg5 : Memref sig .tc .vmem S64x384 .f32) (harg5 : arg5.IsWhole) (arg6 : Memref sig .tc .vmem S1x8x1x64 .f32) (harg6 : arg6.IsWhole) (arg7 : Memref sig .tc .vmem S8x64x64 .f32) (harg7 : arg7.IsWhole) (arg8 : Memref sig .tc .vmem S8x64x128 .f32) (harg8 : arg8.IsWhole) (arg9 : Memref sig .tc .vmem S8x1x64 .f32) (harg9 : arg9.IsWhole) (arg10 : Memref sig .tc .vmem S8x1x128 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S1x8x256x256 .f32) (harg13 : arg13.IsWhole) (arg14 : Memref sig .tc .vmem S1x8x256x128 .f32) (harg14 : arg14.IsWhole) (arg15 : Memref sig .tc .vmem S1x8x256x256 .f32) (harg15 : arg15.IsWhole) (arg16 : Memref sig .tc .vmem S64x4096 .bf16) (harg16 : arg16.IsWhole) (arg17 : Memref sig .tc .vmem S1x8x256x256 .f32) (harg17 : arg17.IsWhole) (arg18 : Memref sig .tc .vmem S1x8x256x128 .f32) (harg18 : arg18.IsWhole) (arg19 : Memref sig .tc .vmem S1x8x256x256 .f32) (harg19 : arg19.IsWhole) (arg20 : Memref sig .tc .vmem S8x256x256 .f32) (harg20 : arg20.IsWhole) (arg21 : Memref sig .tc .vmem S8x256x128 .f32) (harg21 : arg21.IsWhole) (arg22 : Memref sig .tc .vmem S8x256x256 .f32) (harg22 : arg22.IsWhole) (hc0 : cond1_0 i) (hc1 : cond1_1 i) (hc2 : cond1_2 i) (hc3 : cond1_3 i) (hc4 : cond1_4 i) (hc5 : cond1_5 i) (hc6 : cond1_6 i) (hc7 : cond1_7 i) (hc8 : cond1_8 i) (x0 : Vec Ideal S64x14336 .bf16) (x1 : Vec Ideal S1x8x512x64 .bf16) (x2 : Vec Ideal S64x384 .f32) (x3 : Vec Ideal S1x8x1x64 .f32) (x4 : Vec Ideal S8x64x64 .f32) (x5 : Vec Ideal S8x64x128 .f32) (x6 : Vec Ideal S8x1x64 .f32) (x7 : Vec Ideal S8x1x128 .f32) (x8 : Vec Ideal S8x1x256 .f32) (x9 : Vec Ideal S8x1x256 .f32) (x10 : Vec Ideal S1x8x256x256 .f32) (x11 : Vec Ideal S1x8x256x128 .f32) (x12 : Vec Ideal S1x8x256x256 .f32) (n0 : Fin 8 → Fin 256 → EReal) (hn : ∀ h d l, x11 (ix4 0 h d l) = n0 h d) :
    out1_A_15 (F:=Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 = nBlk (hN x1 x2 x3 n0) := by
  funext y
  unfold out1_A_15
  rw [View.read_writes_eq_canon _ _ _ (cover1_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12)]
  refine View.canon_apply_of_pieces _ _ ?_ y (cover1_A_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 y)
  unfold kernelRun1_A
  dsimp only
  sl_unfold_words
  simp only [List.forall_mem_cons, View.readAt_eq_ld, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread]
  simp (disch := decide) only [readCov_eq_ld_zero]
  refine ⟨fun j => ?_, fun j => ?_, fun j => ?_, fun j => ?_, fun j => ?_, fun j => ?_, fun j => ?_, fun j => ?_, by simp⟩
  · have hj : (j 1).val < 1 := (j 1).isLt
    rw [nBlk_at _ _ 7 (j 2) (by simp; omega) (by simp)]
    unfold_payloads
    pointwise [pick_sum 7#32 7 rfl, hn]
    rfl
  · have hj : (j 1).val < 1 := (j 1).isLt
    rw [nBlk_at _ _ 6 (j 2) (by simp; omega) (by simp)]
    unfold_payloads
    pointwise [pick_sum 6#32 6 rfl, hn]
    rfl
  · have hj : (j 1).val < 1 := (j 1).isLt
    rw [nBlk_at _ _ 5 (j 2) (by simp; omega) (by simp)]
    unfold_payloads
    pointwise [pick_sum 5#32 5 rfl, hn]
    rfl
  · have hj : (j 1).val < 1 := (j 1).isLt
    rw [nBlk_at _ _ 4 (j 2) (by simp; omega) (by simp)]
    unfold_payloads
    pointwise [pick_sum 4#32 4 rfl, hn]
    rfl
  · have hj : (j 1).val < 1 := (j 1).isLt
    rw [nBlk_at _ _ 3 (j 2) (by simp; omega) (by simp)]
    unfold_payloads
    pointwise [pick_sum 3#32 3 rfl, hn]
    rfl
  · have hj : (j 1).val < 1 := (j 1).isLt
    rw [nBlk_at _ _ 2 (j 2) (by simp; omega) (by simp)]
    unfold_payloads
    pointwise [pick_sum 2#32 2 rfl, hn]
    rfl
  · have hj : (j 1).val < 1 := (j 1).isLt
    rw [nBlk_at _ _ 1 (j 2) (by simp; omega) (by simp)]
    unfold_payloads
    pointwise [pick_sum 1#32 1 rfl, hn]
    rfl
  · have hj : (j 1).val < 1 := (j 1).isLt
    rw [nBlk_at _ _ 0 (j 2) (by simp; omega) (by simp)]
    unfold_payloads
    pointwise [pick_sum 0#32 0 rfl, hn]
    rfl

end Cert.SampleIdeal.Gen
end
-- ==== Proof.BlkS.lean ====
module
public import proofs.«01_k».proof.Proof.Gen.SampleIdeal.Frame
public import Idealize.ShloMosaic.Lib.Pipeline.Value
public import Idealize.ShloMosaic.Lib.Pointwise
public import proofs.«01_k».proof.Proof.Base
@[expose] public section
set_option maxRecDepth 100000
noncomputable section
namespace Cert.SampleIdeal.Gen
open Idealize.ShloMosaic
open Idealize.ShloMosaic.TcCoe Idealize.ShloMosaic.Tactic
open Cert.Rec

set_option maxHeartbeats 0 in
theorem blk_S (c : Dev nD) (i : grid1.Coords) (arg3 : Memref sig .tc .vmem S64x14336 .bf16) (harg3 : arg3.IsWhole) (arg4 : Memref sig .tc .vmem S1x8x512x64 .bf16) (harg4 : arg4.IsWhole) (arg5 : Memref sig .tc .vmem S64x384 .f32) (harg5 : arg5.IsWhole) (arg6 : Memref sig .tc .vmem S1x8x1x64 .f32) (harg6 : arg6.IsWhole) (arg7 : Memref sig .tc .vmem S8x64x64 .f32) (harg7 : arg7.IsWhole) (arg8 : Memref sig .tc .vmem S8x64x128 .f32) (harg8 : arg8.IsWhole) (arg9 : Memref sig .tc .vmem S8x1x64 .f32) (harg9 : arg9.IsWhole) (arg10 : Memref sig .tc .vmem S8x1x128 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S1x8x256x256 .f32) (harg13 : arg13.IsWhole) (arg14 : Memref sig .tc .vmem S1x8x256x128 .f32) (harg14 : arg14.IsWhole) (arg15 : Memref sig .tc .vmem S1x8x256x256 .f32) (harg15 : arg15.IsWhole) (arg16 : Memref sig .tc .vmem S64x4096 .bf16) (harg16 : arg16.IsWhole) (arg17 : Memref sig .tc .vmem S1x8x256x256 .f32) (harg17 : arg17.IsWhole) (arg18 : Memref sig .tc .vmem S1x8x256x128 .f32) (harg18 : arg18.IsWhole) (arg19 : Memref sig .tc .vmem S1x8x256x256 .f32) (harg19 : arg19.IsWhole) (arg20 : Memref sig .tc .vmem S8x256x256 .f32) (harg20 : arg20.IsWhole) (arg21 : Memref sig .tc .vmem S8x256x128 .f32) (harg21 : arg21.IsWhole) (arg22 : Memref sig .tc .vmem S8x256x256 .f32) (harg22 : arg22.IsWhole) (hc0 : cond1_0 i) (hc1 : cond1_1 i) (hc2 : cond1_2 i) (hc3 : cond1_3 i) (hc4 : cond1_4 i) (hc5 : cond1_5 i) (hc6 : cond1_6 i) (hc7 : cond1_7 i) (hc8 : cond1_8 i) (x0 : Vec Ideal S64x14336 .bf16) (x1 : Vec Ideal S1x8x512x64 .bf16) (x2 : Vec Ideal S64x384 .f32) (x3 : Vec Ideal S1x8x1x64 .f32) (x4 : Vec Ideal S8x64x64 .f32) (x5 : Vec Ideal S8x64x128 .f32) (x6 : Vec Ideal S8x1x64 .f32) (x7 : Vec Ideal S8x1x128 .f32) (x8 : Vec Ideal S8x1x256 .f32) (x9 : Vec Ideal S8x1x256 .f32) (x10 : Vec Ideal S1x8x256x256 .f32) (x11 : Vec Ideal S1x8x256x128 .f32) (x12 : Vec Ideal S1x8x256x256 .f32) (gl : Fin 8 → EReal) (hg : ∀ h l, x7 (ix3 h 0 l) = gl h) :
    out1_A_16 (F:=Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 = stBlk (hS x0 x1 x6 gl x12) := by
  funext y
  unfold out1_A_16
  rw [View.read_writes_eq_canon _ _ _ (cover1_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12)]
  refine View.canon_apply_of_pieces _ _ ?_ y (cover1_A_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 y)
  unfold kernelRun1_A
  dsimp only
  sl_unfold_words
  simp only [List.forall_mem_cons, View.readAt_eq_ld, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread]
  simp (disch := decide) only [readCov_eq_ld_zero]
  refine ⟨fun j => ?_, fun j => ?_, fun j => ?_, fun j => ?_, fun j => ?_, fun j => ?_, fun j => ?_, fun j => ?_, by simp⟩
  · have hj : (j 1).val < 1 := (j 1).isLt
    rw [stBlk_at _ _ 7 (j 2) (j 3) (by simp; omega) (by simp) (by simp)]
    unfold_payloads
    pointwise [pick_sum 7#32 7 rfl, hg]
    simp only [dite_eq_ite, ite_self]
    rfl
  · have hj : (j 1).val < 1 := (j 1).isLt
    rw [stBlk_at _ _ 6 (j 2) (j 3) (by simp; omega) (by simp) (by simp)]
    unfold_payloads
    pointwise [pick_sum 6#32 6 rfl, hg]
    simp only [dite_eq_ite, ite_self]
    rfl
  · have hj : (j 1).val < 1 := (j 1).isLt
    rw [stBlk_at _ _ 5 (j 2) (j 3) (by simp; omega) (by simp) (by simp)]
    unfold_payloads
    pointwise [pick_sum 5#32 5 rfl, hg]
    simp only [dite_eq_ite, ite_self]
    rfl
  · have hj : (j 1).val < 1 := (j 1).isLt
    rw [stBlk_at _ _ 4 (j 2) (j 3) (by simp; omega) (by simp) (by simp)]
    unfold_payloads
    pointwise [pick_sum 4#32 4 rfl, hg]
    simp only [dite_eq_ite, ite_self]
    rfl
  · have hj : (j 1).val < 1 := (j 1).isLt
    rw [stBlk_at _ _ 3 (j 2) (j 3) (by simp; omega) (by simp) (by simp)]
    unfold_payloads
    pointwise [pick_sum 3#32 3 rfl, hg]
    simp only [dite_eq_ite, ite_self]
    rfl
  · have hj : (j 1).val < 1 := (j 1).isLt
    rw [stBlk_at _ _ 2 (j 2) (j 3) (by simp; omega) (by simp) (by simp)]
    unfold_payloads
    pointwise [pick_sum 2#32 2 rfl, hg]
    simp only [dite_eq_ite, ite_self]
    rfl
  · have hj : (j 1).val < 1 := (j 1).isLt
    rw [stBlk_at _ _ 1 (j 2) (j 3) (by simp; omega) (by simp) (by simp)]
    unfold_payloads
    pointwise [pick_sum 1#32 1 rfl, hg]
    simp only [dite_eq_ite, ite_self]
    rfl
  · have hj : (j 1).val < 1 := (j 1).isLt
    rw [stBlk_at _ _ 0 (j 2) (j 3) (by simp; omega) (by simp) (by simp)]
    unfold_payloads
    pointwise [pick_sum 0#32 0 rfl, hg]
    simp only [dite_eq_ite, ite_self]
    rfl

end Cert.SampleIdeal.Gen
end
-- ==== Proof.BlkY.lean ====
module
public import proofs.«01_k».proof.Proof.Gen.SampleIdeal.Frame
public import Idealize.ShloMosaic.Lib.Pipeline.Value
public import Idealize.ShloMosaic.Lib.Pointwise
public import proofs.«01_k».proof.Proof.Base
@[expose] public section
set_option maxRecDepth 100000
noncomputable section
namespace Cert.SampleIdeal.Gen
open Idealize.ShloMosaic
open Idealize.ShloMosaic.TcCoe Idealize.ShloMosaic.Tactic
open Cert.Rec

theorem sec_zero_fun (x0 : Vec Ideal S64x14336 .bf16) (hi) : sec x0 0 0 hi = fun t d => x0 (ix2 t ⟨d.val, by omega⟩) := by
  funext t d
  exact sec_zero x0 hi t d

theorem hYA_zero (x0 : Vec Ideal S64x14336 .bf16) (x1 : Vec Ideal S1x8x512x64 .bf16) (x2 : Vec Ideal S64x384 .f32)
    (x3 : Vec Ideal S1x8x1x64 .f32) (x8 : Vec Ideal S8x1x256 .f32) (x10 : Vec Ideal S1x8x256x256 .f32)
    (n0 : Fin 8 → Fin 256 → EReal) (t : Fin 64) (e : Fin 256) : hYA x0 x1 x2 x3 x8 x10 n0 0 t e =
  outA (fun t d => x0 (ix2 t ⟨d.val, by omega⟩)) (kA x1 0) (sec x0 0 1 (by decide)) (cau (gA x2 0) (fun s => x3 (ix4 0 0 0 s)))
    (gW x2 0) (gE x2 0) (fun d e => x10 (ix4 0 0 d e)) (n0 0) (sec x0 0 2 (by decide)) (fun e => x8 (ix3 0 0 e))
    (sec x0 0 3 (by decide)) t e := by
  unfold hYA
  rw [sec_zero_fun]

/-- The output block: of each head's 512 lanes the first half is gated, the second is retention. -/
def yBlk (ya yb : Fin 8 → Fin 64 → Fin 256 → EReal) (y : S64x4096.Idx) : EReal :=
  if h : (y 1).val % 512 < 256 then ya ⟨(y 1).val / 512, by have : (y 1).val < 4096 := (y 1).isLt; omega⟩ (y 0) ⟨(y 1).val % 512, h⟩
  else yb ⟨(y 1).val / 512, by have : (y 1).val < 4096 := (y 1).isLt; omega⟩ (y 0) ⟨(y 1).val % 512 - 256, by omega⟩

theorem yBlk_a (ya yb : Fin 8 → Fin 64 → Fin 256 → EReal) (y : S64x4096.Idx) (h : Fin 8) (t : Fin 64) (d : Fin 256)
    (h0 : (y 0).val = t.val) (h1 : (y 1).val = h.val * 512 + d.val) : yBlk ya yb y = ya h t d := by
  have e1 : (y 1).val % 512 = d.val := by omega
  have e2 : (y 1).val / 512 = h.val := by omega
  have e0 : y 0 = t := Fin.ext h0
  unfold yBlk
  rw [dif_pos (by omega)]
  congr 1
  · rw [show (⟨(y 1).val / 512, _⟩ : Fin 8) = h from Fin.ext e2]
  · exact Fin.ext e1

theorem yBlk_b (ya yb : Fin 8 → Fin 64 → Fin 256 → EReal) (y : S64x4096.Idx) (h : Fin 8) (t : Fin 64) (d : Fin 256)
    (h0 : (y 0).val = t.val) (h1 : (y 1).val = h.val * 512 + 256 + d.val) : yBlk ya yb y = yb h t d := by
  have e1 : (y 1).val % 512 - 256 = d.val := by omega
  have e2 : (y 1).val / 512 = h.val := by omega
  have e0 : y 0 = t := Fin.ext h0
  unfold yBlk
  rw [dif_neg (by omega)]
  congr 1
  · rw [show (⟨(y 1).val / 512, _⟩ : Fin 8) = h from Fin.ext e2]
  · exact Fin.ext e1
set_option maxHeartbeats 0 in
theorem blk_Y (c : Dev nD) (i : grid1.Coords) (arg3 : Memref sig .tc .vmem S64x14336 .bf16) (harg3 : arg3.IsWhole) (arg4 : Memref sig .tc .vmem S1x8x512x64 .bf16) (harg4 : arg4.IsWhole) (arg5 : Memref sig .tc .vmem S64x384 .f32) (harg5 : arg5.IsWhole) (arg6 : Memref sig .tc .vmem S1x8x1x64 .f32) (harg6 : arg6.IsWhole) (arg7 : Memref sig .tc .vmem S8x64x64 .f32) (harg7 : arg7.IsWhole) (arg8 : Memref sig .tc .vmem S8x64x128 .f32) (harg8 : arg8.IsWhole) (arg9 : Memref sig .tc .vmem S8x1x64 .f32) (harg9 : arg9.IsWhole) (arg10 : Memref sig .tc .vmem S8x1x128 .f32) (harg10 : arg10.IsWhole) (arg11 : Memref sig .tc .vmem S8x1x256 .f32) (harg11 : arg11.IsWhole) (arg12 : Memref sig .tc .vmem S8x1x256 .f32) (harg12 : arg12.IsWhole) (arg13 : Memref sig .tc .vmem S1x8x256x256 .f32) (harg13 : arg13.IsWhole) (arg14 : Memref sig .tc .vmem S1x8x256x128 .f32) (harg14 : arg14.IsWhole) (arg15 : Memref sig .tc .vmem S1x8x256x256 .f32) (harg15 : arg15.IsWhole) (arg16 : Memref sig .tc .vmem S64x4096 .bf16) (harg16 : arg16.IsWhole) (arg17 : Memref sig .tc .vmem S1x8x256x256 .f32) (harg17 : arg17.IsWhole) (arg18 : Memref sig .tc .vmem S1x8x256x128 .f32) (harg18 : arg18.IsWhole) (arg19 : Memref sig .tc .vmem S1x8x256x256 .f32) (harg19 : arg19.IsWhole) (arg20 : Memref sig .tc .vmem S8x256x256 .f32) (harg20 : arg20.IsWhole) (arg21 : Memref sig .tc .vmem S8x256x128 .f32) (harg21 : arg21.IsWhole) (arg22 : Memref sig .tc .vmem S8x256x256 .f32) (harg22 : arg22.IsWhole) (hc0 : cond1_0 i) (hc1 : cond1_1 i) (hc2 : cond1_2 i) (hc3 : cond1_3 i) (hc4 : cond1_4 i) (hc5 : cond1_5 i) (hc6 : cond1_6 i) (hc7 : cond1_7 i) (hc8 : cond1_8 i) (x0 : Vec Ideal S64x14336 .bf16) (x1 : Vec Ideal S1x8x512x64 .bf16) (x2 : Vec Ideal S64x384 .f32) (x3 : Vec Ideal S1x8x1x64 .f32) (x4 : Vec Ideal S8x64x64 .f32) (x5 : Vec Ideal S8x64x128 .f32) (x6 : Vec Ideal S8x1x64 .f32) (x7 : Vec Ideal S8x1x128 .f32) (x8 : Vec Ideal S8x1x256 .f32) (x9 : Vec Ideal S8x1x256 .f32) (x10 : Vec Ideal S1x8x256x256 .f32) (x11 : Vec Ideal S1x8x256x128 .f32) (x12 : Vec Ideal S1x8x256x256 .f32) (n0 : Fin 8 → Fin 256 → EReal) (hn : ∀ h d l, x11 (ix4 0 h d l) = n0 h d) (it : Fin 8 → Fin 64 → EReal) (hi : ∀ h t l, x5 (ix3 h t l) = it h t) :
    out1_A_13 (F:=Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 = yBlk (hYA x0 x1 x2 x3 x8 x10 n0) (hYB x0 x1 x4 it x9 x12) := by
  funext y
  unfold out1_A_13
  rw [View.read_writes_eq_canon _ _ _ (cover1_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12)]
  refine View.canon_apply_of_pieces _ _ ?_ y (cover1_A_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 hc2 hc3 hc4 hc5 hc6 hc7 hc8 x0 x1 x2 x3 x4 x5 x6 x7 x8 x9 x10 x11 x12 y)
  unfold kernelRun1_A
  dsimp only
  sl_unfold_words
  simp only [List.forall_mem_cons, View.readAt_eq_ld, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread, (harg20).read_unread, (harg21).read_unread, (harg22).read_unread]
  simp (disch := decide) only [readCov_eq_ld_zero]
  refine ⟨fun j => ?_, fun j => ?_, fun j => ?_, fun j => ?_, fun j => ?_, fun j => ?_, fun j => ?_, fun j => ?_, fun j => ?_, fun j => ?_, fun j => ?_, fun j => ?_, fun j => ?_, fun j => ?_, fun j => ?_, fun j => ?_, by simp⟩
  · rw [yBlk_b _ _ _ 7 (j 0) (j 1) (by simp) (by simp)]
    unfold_payloads
    pointwise [pick_sum 7#32 7 rfl, hn, hi]
    simp only [dite_eq_ite, ite_self]
    rfl
  · rw [yBlk_a _ _ _ 7 (j 0) (j 1) (by simp) (by simp)]
    unfold_payloads
    pointwise [pick_sum 7#32 7 rfl, hn, hi]
    simp only [dite_eq_ite, ite_self]
    rfl
  · rw [yBlk_b _ _ _ 6 (j 0) (j 1) (by simp) (by simp)]
    unfold_payloads
    pointwise [pick_sum 6#32 6 rfl, hn, hi]
    simp only [dite_eq_ite, ite_self]
    rfl
  · rw [yBlk_a _ _ _ 6 (j 0) (j 1) (by simp) (by simp)]
    unfold_payloads
    pointwise [pick_sum 6#32 6 rfl, hn, hi]
    simp only [dite_eq_ite, ite_self]
    rfl
  · rw [yBlk_b _ _ _ 5 (j 0) (j 1) (by simp) (by simp)]
    unfold_payloads
    pointwise [pick_sum 5#32 5 rfl, hn, hi]
    simp only [dite_eq_ite, ite_self]
    rfl
  · rw [yBlk_a _ _ _ 5 (j 0) (j 1) (by simp) (by simp)]
    unfold_payloads
    pointwise [pick_sum 5#32 5 rfl, hn, hi]
    simp only [dite_eq_ite, ite_self]
    rfl
  · rw [yBlk_b _ _ _ 4 (j 0) (j 1) (by simp) (by simp)]
    unfold_payloads
    pointwise [pick_sum 4#32 4 rfl, hn, hi]
    simp only [dite_eq_ite, ite_self]
    rfl
  · rw [yBlk_a _ _ _ 4 (j 0) (j 1) (by simp) (by simp)]
    unfold_payloads
    pointwise [pick_sum 4#32 4 rfl, hn, hi]
    simp only [dite_eq_ite, ite_self]
    rfl
  · rw [yBlk_b _ _ _ 3 (j 0) (j 1) (by simp) (by simp)]
    unfold_payloads
    pointwise [pick_sum 3#32 3 rfl, hn, hi]
    simp only [dite_eq_ite, ite_self]
    rfl
  · rw [yBlk_a _ _ _ 3 (j 0) (j 1) (by simp) (by simp)]
    unfold_payloads
    pointwise [pick_sum 3#32 3 rfl, hn, hi]
    simp only [dite_eq_ite, ite_self]
    rfl
  · rw [yBlk_b _ _ _ 2 (j 0) (j 1) (by simp) (by simp)]
    unfold_payloads
    pointwise [pick_sum 2#32 2 rfl, hn, hi]
    simp only [dite_eq_ite, ite_self]
    rfl
  · rw [yBlk_a _ _ _ 2 (j 0) (j 1) (by simp) (by simp)]
    unfold_payloads
    pointwise [pick_sum 2#32 2 rfl, hn, hi]
    simp only [dite_eq_ite, ite_self]
    rfl
  · rw [yBlk_b _ _ _ 1 (j 0) (j 1) (by simp) (by simp)]
    unfold_payloads
    pointwise [pick_sum 1#32 1 rfl, hn, hi]
    simp only [dite_eq_ite, ite_self]
    rfl
  · rw [yBlk_a _ _ _ 1 (j 0) (j 1) (by simp) (by simp)]
    unfold_payloads
    pointwise [pick_sum 1#32 1 rfl, hn, hi]
    simp only [dite_eq_ite, ite_self]
    rfl
  · rw [yBlk_b _ _ _ 0 (j 0) (j 1) (by simp) (by simp)]
    unfold_payloads
    pointwise [pick_sum 0#32 0 rfl, hn, hi]
    simp only [dite_eq_ite, ite_self]
    rfl
  · rw [yBlk_a _ _ _ 0 (j 0) (j 1) (by simp) (by simp)]
    unfold_payloads
    pointwise [pick_sum 0#32 0 rfl, hn, hi]
    simp only [dite_eq_ite, ite_self]
    refine Eq.trans ?_ (hYA_zero _ _ _ _ _ _ _ _ _).symm
    rfl

end Cert.SampleIdeal.Gen
end
-- ==== Proof.Arr1.lean ====
module
public import proofs.«01_k».proof.Proof.Arr0
public import proofs.«01_k».proof.Proof.BlkC
public import proofs.«01_k».proof.Proof.BlkN
public import proofs.«01_k».proof.Proof.BlkS
public import proofs.«01_k».proof.Proof.BlkY

@[expose] public section
set_option maxRecDepth 100000
noncomputable section
namespace Cert.SampleIdeal.Gen
open Idealize.ShloMosaic
open Idealize.ShloMosaic.TcCoe Idealize.ShloMosaic.Tactic
open Idealize.ShloMosaic.Pipeline (Dat)
open Cert.Rec

variable (V : (c : Dev nD) → (b : Ref sig .tc) → Buf (Elt Ideal) ((c : Thread nD τ).loc b)) (c : Dev nD)

theorem e1_0 : ∀ t : Fin cfg1.N, win1_0.index t = ![256 + t.val, 0] := by decide +kernel
theorem e1_1 : ∀ t : Fin cfg1.N, win1_1.index t = ![t.val, 0, 0, 0] := by decide +kernel
theorem e1_2 : ∀ t : Fin cfg1.N, win1_2.index t = ![t.val, 0] := by decide +kernel
theorem e1_3 : ∀ t : Fin cfg1.N, win1_3.index t = ![t.val, 0, 0, 0] := by decide +kernel
theorem e1_4 : ∀ t : Fin cfg1.N, win1_4.index t = ![0, 0, 0] := by decide +kernel
theorem e1_5 : ∀ t : Fin cfg1.N, win1_5.index t = ![0, 0, 0] := by decide +kernel
theorem e1_6 : ∀ t : Fin cfg1.N, win1_6.index t = ![0, 0, 0] := by decide +kernel
theorem e1_7 : ∀ t : Fin cfg1.N, win1_7.index t = ![0, 0, 0] := by decide +kernel
theorem e1_8 : ∀ t : Fin cfg1.N, win1_8.index t = ![0, 0, 0] := by decide +kernel
theorem e1_9 : ∀ t : Fin cfg1.N, win1_9.index t = ![0, 0, 0] := by decide +kernel
theorem e1_10 : ∀ t : Fin cfg1.N, win1_10.index t = ![t.val, 0, 0, 0] := by decide +kernel
theorem e1_11 : ∀ t : Fin cfg1.N, win1_11.index t = ![t.val, 0, 0, 0] := by decide +kernel
theorem e1_12 : ∀ t : Fin cfg1.N, win1_12.index t = ![t.val, 0, 0, 0] := by decide +kernel
theorem e1_13 : ∀ t : Fin cfg1.N, win1_13.index t = ![t.val, 0] := by decide +kernel
theorem e1_14 : ∀ t : Fin cfg1.N, win1_14.index t = ![t.val, 0, 0, 0] := by decide +kernel
theorem e1_15 : ∀ t : Fin cfg1.N, win1_15.index t = ![t.val, 0, 0, 0] := by decide +kernel
theorem e1_16 : ∀ t : Fin cfg1.N, win1_16.index t = ![t.val, 0, 0, 0] := by decide +kernel

/-- One request's part of each array the kernel reads by request. -/
def pB (A : Vec Ideal S17664x14336 .bf16) (s : Fin 16) : Vec Ideal S64x14336 .bf16 :=
  fun y => A (ix2 ⟨16384 + s.val * 64 + (y 0).val, by have : (y 0).val < 64 := (y 0).isLt; omega⟩ (y 1))
def ktB (A : Vec Ideal S16x8x512x64 .bf16) (s : Fin 16) : Vec Ideal S1x8x512x64 .bf16 := fun y => A (ix4 s (y 1) (y 2) (y 3))
def aweB (A : Vec Ideal S1024x384 .f32) (s : Fin 16) : Vec Ideal S64x384 .f32 :=
  fun y => A (ix2 ⟨s.val * 64 + (y 0).val, by have : (y 0).val < 64 := (y 0).isLt; omega⟩ (y 1))
def crowB (A : Vec Ideal S16x8x1x64 .f32) (s : Fin 16) : Vec Ideal S1x8x1x64 .f32 := fun y => A (ix4 s (y 1) (y 2) (y 3))
def stB (A : Vec Ideal S16x8x256x256 .f32) (s : Fin 16) : Vec Ideal S1x8x256x256 .f32 := fun y => A (ix4 s (y 1) (y 2) (y 3))
def nB (A : Vec Ideal S16x8x256x128 .f32) (s : Fin 16) : Vec Ideal S1x8x256x128 .f32 := fun y => A (ix4 s (y 1) (y 2) (y 3))

theorem iblk1_0 (t : Fin cfg1.N) : iblk1 V c 0 t = pB (V c main_arg0) t := by
  funext y
  blk_simp [iblk1, pB]
  refine congrArg (V c main_arg0) ?_
  blk_ext [e1_0]

theorem iblk1_1 (t : Fin cfg1.N) : iblk1 V c 1 t = ktB (V c main_v14) t := by
  funext y
  blk_simp [iblk1, ktB]
  refine congrArg (V c main_v14) ?_
  blk_ext [e1_1]

theorem iblk1_2 (t : Fin cfg1.N) : iblk1 V c 2 t = aweB (V c main_v70_0) t := by
  funext y
  blk_simp [iblk1, aweB]
  refine congrArg (V c main_v70_0) ?_
  blk_ext [e1_2]

theorem iblk1_3 (t : Fin cfg1.N) : iblk1 V c 3 t = crowB (V c main_v70_1) t := by
  funext y
  blk_simp [iblk1, crowB]
  refine congrArg (V c main_v70_1) ?_
  blk_ext [e1_3]

theorem iblk1_4 (t : Fin cfg1.N) : iblk1 V c 4 t = (V c main_v45 : Vec Ideal S8x64x64 .f32) := by
  funext y
  blk_simp [iblk1]
  refine congrArg (V c main_v45) ?_
  blk_ext [e1_4]

theorem iblk1_5 (t : Fin cfg1.N) : iblk1 V c 5 t = (V c main_v55 : Vec Ideal S8x64x128 .f32) := by
  funext y
  blk_simp [iblk1]
  refine congrArg (V c main_v55) ?_
  blk_ext [e1_5]

theorem iblk1_6 (t : Fin cfg1.N) : iblk1 V c 6 t = (V c main_v64 : Vec Ideal S8x1x64 .f32) := by
  funext y
  blk_simp [iblk1]
  refine congrArg (V c main_v64) ?_
  blk_ext [e1_6]

theorem iblk1_7 (t : Fin cfg1.N) : iblk1 V c 7 t = (V c main_v69 : Vec Ideal S8x1x128 .f32) := by
  funext y
  blk_simp [iblk1]
  refine congrArg (V c main_v69) ?_
  blk_ext [e1_7]

theorem iblk1_8 (t : Fin cfg1.N) : iblk1 V c 8 t = (V c main_v10 : Vec Ideal S8x1x256 .f32) := by
  funext y
  blk_simp [iblk1]
  refine congrArg (V c main_v10) ?_
  blk_ext [e1_8]

theorem iblk1_9 (t : Fin cfg1.N) : iblk1 V c 9 t = (V c main_v11 : Vec Ideal S8x1x256 .f32) := by
  funext y
  blk_simp [iblk1]
  refine congrArg (V c main_v11) ?_
  blk_ext [e1_9]

theorem iblk1_10 (t : Fin cfg1.N) : iblk1 V c 10 t = stB (V c main_arg7) t := by
  funext y
  blk_simp [iblk1, stB]
  refine congrArg (V c main_arg7) ?_
  blk_ext [e1_10]

theorem iblk1_11 (t : Fin cfg1.N) : iblk1 V c 11 t = nB (V c main_v16) t := by
  funext y
  blk_simp [iblk1, nB]
  refine congrArg (V c main_v16) ?_
  blk_ext [e1_11]

theorem iblk1_12 (t : Fin cfg1.N) : iblk1 V c 12 t = stB (V c main_arg10) t := by
  funext y
  blk_simp [iblk1, stB]
  refine congrArg (V c main_arg10) ?_
  blk_ext [e1_12]

section
variable (P : Vec Ideal S17664x14336 .bf16) (K : Vec Ideal S16x8x512x64 .bf16) (W : Vec Ideal S1024x384 .f32)
  (R : Vec Ideal S16x8x1x64 .f32) (x4 : Vec Ideal S8x64x64 .f32) (x6 : Vec Ideal S8x1x64 .f32)
  (x8 x9 : Vec Ideal S8x1x256 .f32) (C0 S0 : Vec Ideal S16x8x256x256 .f32)
  (n0 : Fin 16 → Fin 8 → Fin 256 → EReal) (it : Fin 8 → Fin 64 → EReal) (gl : Fin 8 → EReal)

/-- The new states and the output rows, all requests. -/
def cArr : Vec Ideal S16x8x256x256 .f32 := fun i =>
  hC (pB P (i 0)) (ktB K (i 0)) (aweB W (i 0)) (crowB R (i 0)) (stB C0 (i 0)) (i 1) (i 2) (i 3)
def nArr : Vec Ideal S16x8x256x128 .f32 := fun i =>
  hN (ktB K (i 0)) (aweB W (i 0)) (crowB R (i 0)) (n0 (i 0)) (i 1) (i 2)
def sArr : Vec Ideal S16x8x256x256 .f32 := fun i => hS (pB P (i 0)) (ktB K (i 0)) x6 gl (stB S0 (i 0)) (i 1) (i 2) (i 3)
def yArr : Vec Ideal S1024x4096 .bf16 := fun i =>
  let s : Fin 16 := ⟨(i 0).val / 64, by have : (i 0).val < 1024 := (i 0).isLt; omega⟩
  yBlk (hYA (pB P s) (ktB K s) (aweB W s) (crowB R s) x8 (stB C0 s) (n0 s)) (hYB (pB P s) (ktB K s) x4 it x9 (stB S0 s))
    (ix2 ⟨(i 0).val % 64, by omega⟩ (i 1))

theorem cArr_at (i : S16x8x256x256.Idx) (s : Fin 16) (h : Fin 8) (d e : Fin 256) (h0 : (i 0).val = s.val)
    (h1 : (i 1).val = h.val) (h2 : (i 2).val = d.val) (h3 : (i 3).val = e.val) :
    cArr P K W R C0 i = hC (pB P s) (ktB K s) (aweB W s) (crowB R s) (stB C0 s) h d e := by
  unfold cArr
  rw [show i 0 = s from Fin.ext h0, show i 1 = h from Fin.ext h1, show i 2 = d from Fin.ext h2, show i 3 = e from Fin.ext h3]

theorem nArr_at (i : S16x8x256x128.Idx) (s : Fin 16) (h : Fin 8) (d : Fin 256) (h0 : (i 0).val = s.val)
    (h1 : (i 1).val = h.val) (h2 : (i 2).val = d.val) :
    nArr K W R n0 i = hN (ktB K s) (aweB W s) (crowB R s) (n0 s) h d := by
  unfold nArr
  rw [show i 0 = s from Fin.ext h0, show i 1 = h from Fin.ext h1, show i 2 = d from Fin.ext h2]

theorem sArr_at (i : S16x8x256x256.Idx) (s : Fin 16) (h : Fin 8) (d e : Fin 256) (h0 : (i 0).val = s.val)
    (h1 : (i 1).val = h.val) (h2 : (i 2).val = d.val) (h3 : (i 3).val = e.val) :
    sArr P K x6 S0 gl i = hS (pB P s) (ktB K s) x6 gl (stB S0 s) h d e := by
  unfold sArr
  rw [show i 0 = s from Fin.ext h0, show i 1 = h from Fin.ext h1, show i 2 = d from Fin.ext h2, show i 3 = e from Fin.ext h3]

theorem yArr_at (i : S1024x4096.Idx) (s : Fin 16) (t : Fin 64) (l : Fin 4096) (h0 : (i 0).val = s.val * 64 + t.val)
    (h1 : (i 1).val = l.val) : yArr P K W R x4 x8 x9 C0 S0 n0 it i
      = yBlk (hYA (pB P s) (ktB K s) (aweB W s) (crowB R s) x8 (stB C0 s) (n0 s)) (hYB (pB P s) (ktB K s) x4 it x9 (stB S0 s))
        (ix2 t l) := by
  unfold yArr
  rw [show (⟨(i 0).val / 64, _⟩ : Fin 16) = s from Fin.ext (by show (i 0).val / 64 = _; omega),
    show (⟨(i 0).val % 64, _⟩ : Fin 64) = t from Fin.ext (by show (i 0).val % 64 = _; omega), show i 1 = l from Fin.ext h1]

end

set_option maxHeartbeats 0 in
theorem arr1_14 : (dat1 V c).arrAt 14 cfg1.N
    = cArr (V c main_arg0) (V c main_v14) (V c main_v70_0) (V c main_v70_1) (V c main_arg7) := by
  refine (dat1 V c).arrAt_eq_of_covers 14 _ (by decide +kernel) fun t hf y => ?_
  blk_simp
  rw [after1_14]
  unfold outsAt1
  dsimp only
  rw [blk_C, iblk1_0, iblk1_1, iblk1_2, iblk1_3, iblk1_10]
  exact (cArr_at _ _ _ _ _ _ t (y 1) (y 2) (y 3) (by blk_simp [e1_14]) (by blk_simp [e1_14]) (by blk_simp [e1_14])
    (by blk_simp [e1_14])).symm

set_option maxHeartbeats 0 in
theorem arr1_15 (n0 : Fin 16 → Fin 8 → Fin 256 → EReal)
    (hn : ∀ s h d l, (V c main_v16 : Vec Ideal S16x8x256x128 .f32) (ix4 s h d l) = n0 s h d) : (dat1 V c).arrAt 15 cfg1.N
    = nArr (V c main_v14) (V c main_v70_0) (V c main_v70_1) n0 := by
  refine (dat1 V c).arrAt_eq_of_covers 15 _ (by decide +kernel) fun t hf y => ?_
  blk_simp
  rw [after1_15]
  unfold outsAt1
  dsimp only
  rw [blk_N (n0 := n0 t) (hn := by rw [iblk1_11]; exact fun h d l => hn t h d l), iblk1_1, iblk1_2, iblk1_3]
  exact (nArr_at _ _ _ _ _ t (y 1) (y 2) (by blk_simp [e1_15]) (by blk_simp [e1_15]) (by blk_simp [e1_15])).symm

set_option maxHeartbeats 0 in
theorem arr1_16 (gl : Fin 8 → EReal) (hg : ∀ h l, (V c main_v69 : Vec Ideal S8x1x128 .f32) (ix3 h 0 l) = gl h) :
    (dat1 V c).arrAt 16 cfg1.N = sArr (V c main_arg0) (V c main_v14) (V c main_v64) (V c main_arg10) gl := by
  refine (dat1 V c).arrAt_eq_of_covers 16 _ (by decide +kernel) fun t hf y => ?_
  blk_simp
  rw [after1_16]
  unfold outsAt1
  dsimp only
  rw [blk_S (gl := gl) (hg := by rw [iblk1_7]; exact hg), iblk1_0, iblk1_1, iblk1_6, iblk1_12]
  exact (sArr_at _ _ _ _ _ _ t (y 1) (y 2) (y 3) (by blk_simp [e1_16]) (by blk_simp [e1_16]) (by blk_simp [e1_16])
    (by blk_simp [e1_16])).symm

set_option maxHeartbeats 0 in
theorem arr1_13 (n0 : Fin 16 → Fin 8 → Fin 256 → EReal)
    (hn : ∀ s h d l, (V c main_v16 : Vec Ideal S16x8x256x128 .f32) (ix4 s h d l) = n0 s h d) (it : Fin 8 → Fin 64 → EReal)
    (hi : ∀ h t l, (V c main_v55 : Vec Ideal S8x64x128 .f32) (ix3 h t l) = it h t) : (dat1 V c).arrAt 13 cfg1.N
    = yArr (V c main_arg0) (V c main_v14) (V c main_v70_0) (V c main_v70_1) (V c main_v45) (V c main_v10) (V c main_v11)
      (V c main_arg7) (V c main_arg10) n0 it := by
  refine (dat1 V c).arrAt_eq_of_covers 13 _ (by decide +kernel) fun t hf y => ?_
  blk_simp
  rw [after1_13]
  unfold outsAt1
  dsimp only
  rw [blk_Y (n0 := n0 t) (hn := by rw [iblk1_11]; exact fun h d l => hn t h d l) (it := it) (hi := by rw [iblk1_5]; exact hi),
    iblk1_0, iblk1_1, iblk1_2, iblk1_3, iblk1_4, iblk1_8, iblk1_9, iblk1_10, iblk1_12]
  refine Eq.trans ?_ (yArr_at _ _ _ _ _ _ _ _ _ _ _ _ t (y 0) (y 1) (by blk_simp [e1_13]) (by blk_simp [e1_13])).symm
  refine congrArg _ ?_
  idx_ext

end Cert.SampleIdeal.Gen
end
-- ==== Proof.MeetB.lean ====
module

public import proofs.«01_k».proof.Proof.MeetA
public import proofs.«01_k».proof.Proof.Arr0
public import proofs.«01_k».proof.Proof.Arr1

/-! What the kernels leave is what the reference computes, given how the arrays they read come from the arguments. -/

@[expose] public section

set_option maxRecDepth 100000

noncomputable section

namespace Cert.SampleIdeal.Gen

open Idealize.ShloMosaic Idealize.ShloMosaic.TcCoe Idealize.ShloMosaic.Tactic Cert.RowMath Cert.Rec Cert.RefAt

/-- The lane of head `h`. -/
abbrev ln (h : Fin 8) : Fin 128 := ⟨h.val, by omega⟩

/-- Row `t` of request `s` among all rows. -/
abbrev rw0 (s : Fin 16) (t : Fin 64) : Fin 17664 := ⟨16384 + s.val * 64 + t.val, by omega⟩

variable (x0 : FVec Ideal S17664x14336 .bf16) (x1 : FVec Ideal S8x512x17664 .bf16) (x2 : FVec Ideal S17664x256 .f32)
  (x3 x4 : FVec Ideal S8 .f32) (x5 x6 : FVec Ideal S2048 .f32) (x7 : FVec Ideal S16x8x256x256 .f32) (x8 : FVec Ideal S16x8x256 .f32)
  (x9 : FVec Ideal S16x8 .f32) (x10 : FVec Ideal S16x8x256x256 .f32) (s : Fin 16) (h : Fin 8)
  (bi bf : Vec Ideal S1x128 .f32) (m0 : Vec Ideal S16x1x128 .f32)
  (hbi : ∀ h : Fin 8, bi (ix2 0 ⟨h.val, by omega⟩) = x3 (ix1 h)) (hbf : ∀ h : Fin 8, bf (ix2 0 ⟨h.val, by omega⟩) = x4 (ix1 h))
  (hm0 : ∀ (s : Fin 16) (h : Fin 8), m0 (ix3 s 0 ⟨h.val, by omega⟩) = x9 (ix2 s h))
  (hz : ∀ (s : Fin 16) (h : Fin 8) (t : Fin 64), zr x2 x4 s h t ≠ ⊥)

include hbf hz in
theorem lfg_eq (t : ℕ) : lfg (gB x2 s) bf (ln h) t = lfr x2 x4 s h t := by
  unfold lfg lfr
  split
  · rename_i ht
    rw [lsig_eq (hz s h ⟨t, ht⟩), hbf]
    rfl
  · rfl

include hbf hz in
theorem bcum_eq (t : ℕ) : bcum (gB x2 s) bf (ln h) t = br x2 x4 s h t := by
  unfold bcum br
  exact Finset.sum_congr rfl fun u _ => lfg_eq x2 x4 s h bf hbf hz u

include hz in
theorem br_real (t : Fin 64) : ∃ r : ℝ, br x2 x4 s h t.val = r := by
  unfold br
  refine sum_real _ _ fun u hu => ?_
  have hu' : u < 64 := by omega
  unfold lfr
  rw [dif_pos hu', lsig_eq (hz s h ⟨u, hu'⟩)]
  exact lsig_real (hz s h ⟨u, hu'⟩)

include hbi in
theorem igt_eq (t : Fin 64) : igt (gB x2 s) bi (ln h) t.val = igr x2 x3 s h t := by
  unfold igt
  rw [dif_pos t.isLt, hbi]
  rfl

include hbi hbf hz in
theorem crel_eq (t : Fin 64) : crel (gB x2 s) bi bf (ln h) t.val = igr x2 x3 s h t - br x2 x4 s h t.val := by
  unfold crel
  rw [bcum_eq x2 x4 s h bf hbf hz, igt_eq x2 x3 s h bi hbi]

include hm0 in
theorem mrel_eq (t : ℕ) : mrel (gB x2 s) bi bf (fun l => mB m0 s (ix3 0 0 l)) (ln h) t = mr (crel (gB x2 s) bi bf (ln h)) (x9 (ix2 s h)) t := by
  unfold mrel mr
  rw [← hm0]
  rfl

/-- The gate tables the recurrence reads. -/
theorem gA_eq (t : Fin 64) : gA (aweB (aweArr x2 bi bf m0) s) h t
    = (0 - mrel (gB x2 s) bi bf (fun l => mB m0 s (ix3 0 0 l)) (ln h) t.val) * ell := by
  refine (aweArr_at x2 bi bf m0 _ s t ⟨h.val, by omega⟩ rfl rfl).trans ?_
  exact aweBlk_a _ _ _ _ _ t (ln h) rfl rfl

theorem gW_eq (t : Fin 64) : gW (aweB (aweArr x2 bi bf m0) s) h t
    = Ideal.exp (mB m0 s (ix3 0 0 (ln h)) - mrel (gB x2 s) bi bf (fun l => mB m0 s (ix3 0 0 l)) (ln h) t.val) := by
  refine (aweArr_at x2 bi bf m0 _ s t ⟨128 + h.val, by omega⟩ rfl rfl).trans ?_
  exact aweBlk_w _ _ _ _ _ t (ln h) rfl rfl

theorem gE_eq (t : Fin 64) : gE (aweB (aweArr x2 bi bf m0) s) h t
    = Ideal.exp (0 - (bcum (gB x2 s) bf (ln h) t.val + mrel (gB x2 s) bi bf (fun l => mB m0 s (ix3 0 0 l)) (ln h) t.val)) := by
  refine (aweArr_at x2 bi bf m0 _ s t ⟨256 + h.val, by omega⟩ rfl rfl).trans ?_
  exact aweBlk_e _ _ _ _ _ t (ln h) rfl rfl

theorem crow_eq (u : Fin 64) : crowB (crowArr x2 bi bf) s (ix4 0 h 0 u) = crel (gB x2 s) bi bf (ln h) u.val * ell := by
  refine (crowArr_at x2 bi bf _ s h 0 u rfl rfl rfl).trans ?_
  exact crowBlk_at _ _ _ _ h u rfl rfl

include hbi hbf hm0 hz

theorem gW_win (t : Fin 64) : gW (aweB (aweArr x2 bi bf m0) s) h t = win (br x2 x4 s h) (igr x2 x3 s h) (x9 (ix2 s h)) t := by
  rw [gW_eq, mrel_eq x2 x9 s h bi bf m0 hm0,
    ← win_eq (br x2 x4 s h) _ _ _ (br_real x2 x4 s h hz) (crel_eq x2 x3 x4 s h bi bf hbi hbf hz), ← hm0]
  rfl

theorem gE_low (t : Fin 64) : gE (aweB (aweArr x2 bi bf m0) s) h t
    = Ideal.exp (-mst (br x2 x4 s h) (igr x2 x3 s h) (x9 (ix2 s h)) t) := by
  rw [gE_eq, mrel_eq x2 x9 s h bi bf m0 hm0, bcum_eq x2 x4 s h bf hbf hz,
    ← low_eq (br x2 x4 s h) _ _ _ (br_real x2 x4 s h hz) (crel_eq x2 x3 x4 s h bi bf hbi hbf hz)]

theorem cau_dwt : cau (gA (aweB (aweArr x2 bi bf m0) s) h) (fun u => crowB (crowArr x2 bi bf) s (ix4 0 h 0 u))
    = dwt (br x2 x4 s h) (igr x2 x3 s h) (x9 (ix2 s h)) := by
  rw [← cau_eq (br x2 x4 s h) _ _ _ (br_real x2 x4 s h hz) (crel_eq x2 x3 x4 s h bi bf hbi hbf hz)]
  exact congrArg₂ cau (funext fun t => by rw [gA_eq, mrel_eq x2 x9 s h bi bf m0 hm0]) (funext fun u => crow_eq x2 s h bi bf u)

theorem exp_wst (u : Fin 64) : Ideal.exp2 (gA (aweB (aweArr x2 bi bf m0) s) h 63 + crowB (crowArr x2 bi bf) s (ix4 0 h 0 u))
    = wst (br x2 x4 s h) (igr x2 x3 s h) (x9 (ix2 s h)) u := by
  rw [← wst_eq (br x2 x4 s h) _ _ _ (br_real x2 x4 s h hz) (crel_eq x2 x3 x4 s h bi bf hbi hbf hz), gA_eq,
    mrel_eq x2 x9 s h bi bf m0 hm0, crow_eq]
  rfl

/-- The maximum that is handed on. -/
theorem mout_eq : moutArr x2 bi bf m0 (ix3 s 0 (ln h)) = mst (br x2 x4 s h) (igr x2 x3 s h) (x9 (ix2 s h)) 63 := by
  rw [moutArr_at x2 bi bf m0 _ s 0 (ln h) rfl rfl, moutBlk_at _ _ _ _ _ (ln h) rfl, mrel_eq x2 x9 s h bi bf m0 hm0,
    bcum_eq x2 x4 s h bf hbf hz, mst_eq (br x2 x4 s h) _ _ _ (br_real x2 x4 s h hz) (crel_eq x2 x3 x4 s h bi bf hbi hbf hz)]
  rfl

section keys

omit hbi hbf hm0 hz

variable (kt : Vec Ideal S16x8x512x64 .bf16)
  (hkt : ∀ (s : Fin 16) (h : Fin 8) (r : Fin 512) (t : Fin 64), kt (ix4 s h r t) = x1 (ix3 h r (rw0 s t)))

include hkt

theorem kA_eq : kA (ktB kt s) h = kr x1 s h 0 := by
  funext d u
  refine (hkt s h _ u).trans (congrArg x1 (funext fun a => Fin.ext ?_))
  match a with
  | ⟨0, _⟩ => rfl
  | ⟨1, _⟩ => show d.val = 0 * 256 + d.val; omega
  | ⟨2, _⟩ => rfl

theorem kB_eq : kB (ktB kt s) h = kr x1 s h 1 := by
  funext d u
  refine (hkt s h _ u).trans (congrArg x1 (funext fun a => Fin.ext ?_))
  match a with
  | ⟨0, _⟩ => rfl
  | ⟨1, _⟩ => show 256 + d.val = 1 * 256 + d.val; omega
  | ⟨2, _⟩ => rfl

/-- The new retention state. -/
theorem s_eq (ws : Vec Ideal S8x1x64 .f32) (hws : ∀ (h : Fin 8) (t : Fin 64), ws (ix3 h 0 t) = wsr h t) (d e : Fin 256) :
    sArr x0 kt ws x10 glr (ix4 s h d e) = Cert.SampleRefIdeal.Read.val_main_v167 (F := Ideal) x0 x1 x10 (ix4 s h d e) := by
  rw [sArr_at _ _ _ _ _ _ s h d e rfl rfl rfl rfl, v167_at]
  unfold hS stC
  rw [kB_eq x1 s h kt hkt]
  refine congrArg₂ (· + ·) rfl (Finset.sum_congr rfl fun u _ => ?_)
  show kr x1 s h 1 d u * ws (ix3 h 0 u) * _ = _
  rw [hws, mul_comm (kr _ _ _ _ _ _)]
  rfl

end keys

section out

variable (kt : Vec Ideal S16x8x512x64 .bf16)
  (hkt : ∀ (s : Fin 16) (h : Fin 8) (r : Fin 512) (t : Fin 64), kt (ix4 s h r t) = x1 (ix3 h r (rw0 s t)))

include hkt

/-- The new matrix state. -/
theorem c_eq (d e : Fin 256) : cArr x0 kt (aweArr x2 bi bf m0) (crowArr x2 bi bf) x7 (ix4 s h d e)
    = Cert.SampleRefIdeal.Read.val_main_v92 (F := Ideal) x0 x1 x2 x3 x4 x7 x9 (ix4 s h d e) := by
  rw [cArr_at _ _ _ _ _ _ s h d e rfl rfl rfl rfl, v92_at]
  unfold hC stC
  rw [gW_win x2 x3 x4 x9 s h bi bf m0 hbi hbf hm0 hz, kA_eq x1 s h kt hkt]
  refine congrArg₂ (· + ·) rfl (Finset.sum_congr rfl fun u _ => ?_)
  dsimp only
  rw [exp_wst x2 x3 x4 x9 s h bi bf m0 hbi hbf hm0 hz, mul_comm (kr _ _ _ _ _ _)]
  rfl

/-- The new normaliser. -/
theorem n_eq (d : Fin 256) (l : Fin 128) : nArr kt (aweArr x2 bi bf m0) (crowArr x2 bi bf) (fun s h d => x8 (ix3 s h d)) (ix4 s h d l)
    = Cert.SampleRefIdeal.Read.val_main_v97 (F := Ideal) x1 x2 x3 x4 x8 x9 (ix3 s h d) := by
  rw [nArr_at _ _ _ _ _ s h d rfl rfl rfl, v97_at]
  unfold hN stN
  rw [gW_win x2 x3 x4 x9 s h bi bf m0 hbi hbf hm0 hz, kA_eq x1 s h kt hkt]
  refine congrArg₂ (· + ·) rfl (Finset.sum_congr rfl fun u _ => ?_)
  dsimp only
  rw [exp_wst x2 x3 x4 x9 s h bi bf m0 hbi hbf hm0 hz, mul_comm (kr _ _ _ _ _ _)]

/-- The output rows. -/
theorem y_eq (dec : Vec Ideal S8x64x64 .f32) (ga gb : Vec Ideal S8x1x256 .f32)
    (hdec : ∀ (h : Fin 8) (t u : Fin 64), dec (ix3 h t u) = decr h t u)
    (hga : ∀ (h : Fin 8) (e : Fin 256), ga (ix3 h 0 e) = x5 (ix1 (fl h e)))
    (hgb : ∀ (h : Fin 8) (e : Fin 256), gb (ix3 h 0 e) = x6 (ix1 (fl h e))) (i : S1024x4096.Idx) :
    yArr x0 kt (aweArr x2 bi bf m0) (crowArr x2 bi bf) dec ga gb x7 x10 (fun s h d => x8 (ix3 s h d)) itr i
      = Cert.SampleRefIdeal.Read.val_main_v220 (F := Ideal) x0 x1 x2 x3 x4 x5 x6 x7 x8 x9 x10 i := by
  have hi0 : (i 0).val < 1024 := (i 0).isLt
  have hi1 : (i 1).val < 4096 := (i 1).isLt
  obtain ⟨s, t, h0⟩ : ∃ (s : Fin 16) (t : Fin 64), (i 0).val = s.val * 64 + t.val :=
    ⟨⟨(i 0).val / 64, by omega⟩, ⟨(i 0).val % 64, by omega⟩, by show _ = (i 0).val / 64 * 64 + (i 0).val % 64; omega⟩
  rw [yArr_at _ _ _ _ _ _ _ _ _ _ _ i s t (i 1) h0 rfl]
  by_cases hl : (i 1).val % 512 < 256
  · obtain ⟨h, e, h1⟩ : ∃ (h : Fin 8) (e : Fin 256), (i 1).val = h.val * 512 + e.val :=
      ⟨⟨(i 1).val / 512, by omega⟩, ⟨(i 1).val % 512, hl⟩, by show _ = (i 1).val / 512 * 512 + (i 1).val % 512; omega⟩
    rw [yBlk_a _ _ _ h t e rfl h1, v220_gat x0 x1 x2 x3 x4 x5 x6 x7 x8 x9 x10 s h t e i h0 h1]
    unfold hYA
    rw [outA_eq _ _ _ _ _ _ _ _ _ _ _ _ t e (gE_low x2 x3 x4 x9 s h bi bf m0 hbi hbf hm0 hz t),
      cau_dwt x2 x3 x4 x9 s h bi bf m0 hbi hbf hm0 hz, kA_eq x1 s h kt hkt,
      show gW (aweB (aweArr x2 bi bf m0) s) h = win (br x2 x4 s h) (igr x2 x3 s h) (x9 (ix2 s h)) from
        funext (gW_win x2 x3 x4 x9 s h bi bf m0 hbi hbf hm0 hz), hga]
    refine congrArg₂ (fun f z => rnorm f e * x5 (ix1 (fl h e)) * z) (funext fun e => ?_) rfl
    rw [v69_at]
    rfl
  · obtain ⟨h, e, h1⟩ : ∃ (h : Fin 8) (e : Fin 256), (i 1).val = h.val * 512 + 256 + e.val :=
      ⟨⟨(i 1).val / 512, by omega⟩, ⟨(i 1).val % 512 - 256, by omega⟩, by
        show _ = (i 1).val / 512 * 512 + 256 + ((i 1).val % 512 - 256); omega⟩
    rw [yBlk_b _ _ _ h t e rfl h1, v220_ret x0 x1 x2 x3 x4 x5 x6 x7 x8 x9 x10 s h t e i h0 h1]
    unfold hYB outB
    dsimp only
    rw [hnorm_eq, kB_eq x1 s h kt hkt, hgb, show (fun t u => dec (ix3 h t u)) = decr h from funext fun t => funext fun u => hdec h t u]
    refine congrArg₂ (fun f z => rnorm f e * x6 (ix1 (fl h e)) * z) (funext fun e => ?_) rfl
    rw [v148_at]
    rfl

end out

end Cert.SampleIdeal.Gen

end
-- ==== Proof.Host.lean ====
module

public import proofs.«01_k».proof.Proof.MeetB
public import Idealize.ShloMosaic.Lib.StableHlo.RunRead
public import Idealize.ShloMosaic.Lib.Routing.OpsSet

/-! What the operations before and after the two kernels leave, read at an index. -/

@[expose] public section

set_option maxRecDepth 100000

noncomputable section

namespace Cert.SampleIdeal.Gen

open Idealize.ShloMosaic Idealize.ShloMosaic.TcCoe Idealize.ShloMosaic.Tactic Cert.RowMath Cert.Rec Cert.RefAt

/-- A row of eight numbers written into the first lanes of 128. -/
theorem lanes8 (a b : IVec S1 32) (ha : a = fun _ => 0#32) (hb : b = fun _ => 0#32) (x : Vec Ideal S1x128 .f32) (u : Vec Ideal S8 .f32) (h : Fin 8) :
    Host.scatter scatter_S1x128_S2_S8_0_0_01_0 (fun _ b => b) x (concatenate S2 0 [⟨S1, a⟩, ⟨S1, b⟩] concatenates_S1_S1_S2_d0) u (ix2 0 (ln h)) = u (ix1 h) := by
  subst ha hb
  have hi : (concatenate S2 0 [⟨S1, fun _ => 0#32⟩, ⟨S1, fun _ => 0#32⟩] concatenates_S1_S1_S2_d0 : IVec S2 32) = fun _ => 0#32 := by
    funext i
    revert i
    decide +kernel
  rw [hi]
  have hk : ∀ k h : Fin 8, scatter_S1x128_S2_S8_0_0_01_0.resultIdx? (ix1 k) (fun _ => 0#32 : IVec S2 32) = some (ix2 0 (ln h)) ↔ k = h := by
    decide +kernel
  refine Routing.scatter_set_hit _ _ _ _ _ _ (fun k e => ?_) (ix1 h) ((hk h h).2 rfl)
  have e' : k = ix1 (k 0) := funext fun a => match a with | ⟨0, _⟩ => rfl
  rw [e'] at e ⊢
  rw [(hk _ _).1 e]
  rfl

/-- The same for sixteen rows. -/
theorem lanes16 (a b : IVec S1 32) (ha : a = fun _ => 0#32) (hb : b = fun _ => 0#32) (x : Vec Ideal S16x1x128 .f32) (u : Vec Ideal S16x8 .f32)
    (s : Fin 16) (h : Fin 8) :
    Host.scatter scatter_S16x1x128_S2_S16x8_01_1_12_0 (fun _ b => b) x (concatenate S2 0 [⟨S1, a⟩, ⟨S1, b⟩] concatenates_S1_S1_S2_d0) u (ix3 s 0 (ln h))
      = u (ix2 s h) := by
  subst ha hb
  have hi : (concatenate S2 0 [⟨S1, fun _ => 0#32⟩, ⟨S1, fun _ => 0#32⟩] concatenates_S1_S1_S2_d0 : IVec S2 32) = fun _ => 0#32 := by
    funext i
    revert i
    decide +kernel
  rw [hi]
  have hk : ∀ (r : Fin 16) (k : Fin 8) (s : Fin 16) (h : Fin 8), scatter_S16x1x128_S2_S16x8_01_1_12_0.resultIdx? (ix2 r k) (fun _ => 0#32 : IVec S2 32)
      = some (ix3 s 0 (ln h)) ↔ r = s ∧ k = h := by
    decide +kernel
  refine Routing.scatter_set_hit _ _ _ _ _ _ (fun k e => ?_) (ix2 s h) ((hk s h s h).2 ⟨rfl, rfl⟩)
  have e' : k = ix2 (k 0) (k 1) := funext fun a => match a with | ⟨0, _⟩ => rfl | ⟨1, _⟩ => rfl
  rw [e'] at e ⊢
  obtain ⟨e0, e1⟩ := (hk _ _ _ _).1 e
  rw [e0, e1]
  rfl

variable (m : (ℓ : Loc nD τ sig) → Buf (Elt Ideal) ℓ) (ρ : Dev nD → PrngReg) (c : Dev nD)

theorem r4 (h : Fin 8) : (W3 m ρ c main_v4 : Vec Ideal S1x128 .f32) (ix2 0 (ln h))
    = (m ((c : Thread nD τ).loc main_arg3) : Vec Ideal S8 .f32) (ix1 h) := by
  refine congrFun ((W3_of m ρ c main_v4 (by decide)).trans (W2_of m ρ c main_v4 (by decide))) _ |>.trans ?_
  after_reads_simp
  refine lanes8 _ _ ?_ ?_ _ _ h
  · after_reads_simp
    rfl
  · after_reads_simp
    rfl

theorem r9 (h : Fin 8) : (W3 m ρ c main_v9 : Vec Ideal S1x128 .f32) (ix2 0 (ln h))
    = (m ((c : Thread nD τ).loc main_arg4) : Vec Ideal S8 .f32) (ix1 h) := by
  refine congrFun ((W3_of m ρ c main_v9 (by decide)).trans (W2_of m ρ c main_v9 (by decide))) _ |>.trans ?_
  after_reads_simp
  refine lanes8 _ _ ?_ ?_ _ _ h
  · after_reads_simp
    rfl
  · after_reads_simp
    rfl

theorem r21 (s : Fin 16) (h : Fin 8) : (W3 m ρ c main_v21 : Vec Ideal S16x1x128 .f32) (ix3 s 0 (ln h))
    = (m ((c : Thread nD τ).loc main_arg9) : Vec Ideal S16x8 .f32) (ix2 s h) := by
  refine congrFun ((W3_of m ρ c main_v21 (by decide)).trans (W2_of m ρ c main_v21 (by decide))) _ |>.trans ?_
  after_reads_simp
  refine lanes16 _ _ ?_ ?_ _ _ s h
  · after_reads_simp
    rfl
  · after_reads_simp
    rfl

theorem r14 (s : Fin 16) (h : Fin 8) (r : Fin 512) (t : Fin 64) : (W3 m ρ c main_v14 : Vec Ideal S16x8x512x64 .bf16) (ix4 s h r t)
    = (m ((c : Thread nD τ).loc main_arg1) : Vec Ideal S8x512x17664 .bf16) (ix3 h r (rw0 s t)) := by
  refine congrFun ((W3_of m ρ c main_v14 (by decide)).trans (W2_of m ρ c main_v14 (by decide))) _ |>.trans ?_
  after_reads_simp
  pointwise []
  exact congrArg _ (funext fun a => match a with | ⟨0, _⟩ => rfl | ⟨1, _⟩ => rfl | ⟨2, _⟩ => Fin.ext (Nat.add_assoc _ _ _).symm)

theorem r16 (s : Fin 16) (h : Fin 8) (d : Fin 256) (l : Fin 128) : (W3 m ρ c main_v16 : Vec Ideal S16x8x256x128 .f32) (ix4 s h d l)
    = (m ((c : Thread nD τ).loc main_arg8) : Vec Ideal S16x8x256 .f32) (ix3 s h d) := by
  refine congrFun ((W3_of m ρ c main_v16 (by decide)).trans (W2_of m ρ c main_v16 (by decide))) _ |>.trans ?_
  after_reads_simp
  pointwise []

theorem r10 (h : Fin 8) (e : Fin 256) : (W3 m ρ c main_v10 : Vec Ideal S8x1x256 .f32) (ix3 h 0 e)
    = (m ((c : Thread nD τ).loc main_arg5) : Vec Ideal S2048 .f32) (ix1 (fl h e)) := by
  refine congrFun ((W3_of m ρ c main_v10 (by decide)).trans (W2_of m ρ c main_v10 (by decide))) _ |>.trans ?_
  after_reads_simp
  pointwise []
  rfl

theorem r11 (h : Fin 8) (e : Fin 256) : (W3 m ρ c main_v11 : Vec Ideal S8x1x256 .f32) (ix3 h 0 e)
    = (m ((c : Thread nD τ).loc main_arg6) : Vec Ideal S2048 .f32) (ix1 (fl h e)) := by
  refine congrFun ((W3_of m ρ c main_v11 (by decide)).trans (W2_of m ρ c main_v11 (by decide))) _ |>.trans ?_
  after_reads_simp
  pointwise []
  rfl

theorem r45 (h : Fin 8) (t u : Fin 64) : (W3 m ρ c main_v45 : Vec Ideal S8x64x64 .f32) (ix3 h t u) = decr h t u := by
  refine congrFun ((W3_of m ρ c main_v45 (by decide))) _ |>.trans ?_
  after_reads_simp
  simp only [StableHlo.TRef.ofBuf_toBuf]
  rfl

theorem r55 (h : Fin 8) (t : Fin 64) (l : Fin 128) : (W3 m ρ c main_v55 : Vec Ideal S8x64x128 .f32) (ix3 h t l) = itr h t := by
  after_reads_simp
  rfl

theorem r64 (h : Fin 8) (t : Fin 64) : (W3 m ρ c main_v64 : Vec Ideal S8x1x64 .f32) (ix3 h 0 t) = wsr h t := by
  after_reads_simp
  rfl

theorem r69 (h : Fin 8) (l : Fin 128) : (W3 m ρ c main_v69 : Vec Ideal S8x1x128 .f32) (ix3 h 0 l) = glr h := by
  after_reads_simp
  rfl

theorem r75 (s : Fin 16) (h : Fin 8) : (W6 m ρ c main_v75 : Vec Ideal S16x8 .f32) (ix2 s h)
    = (W5 m ρ c main_v70_2 : Vec Ideal S16x1x128 .f32) (ix3 s 0 (ln h)) := by
  after_reads_simp
  pointwise []

theorem r73 (s : Fin 16) (h : Fin 8) (d : Fin 256) : (W6 m ρ c main_v73 : Vec Ideal S16x8x256 .f32) (ix3 s h d)
    = (W5 m ρ c main_v71_2 : Vec Ideal S16x8x256x128 .f32) (ix4 s h d 0) := by
  after_reads_simp
  pointwise []

end Cert.SampleIdeal.Gen

end
-- ==== Proof.Vals.lean ====
module

public import proofs.«01_k».proof.Proof.Host
public import proofs.«01_k».proof.Pre_forget_open
public import proofs.«01_k».proof.Proof.Gen.Pre_forget_open
public import Idealize.ShloMosaic.Lib.ReduceAll

/-! What a run of the two kernels leaves in each result, against the reference's values. -/

@[expose] public section

set_option maxRecDepth 100000

noncomputable section

namespace Cert.SampleIdeal.Gen

open Idealize.ShloMosaic Idealize.ShloMosaic.TcCoe Idealize.ShloMosaic.Tactic Cert.RowMath Cert.Rec Cert.RefAt

variable (m : (ℓ : Loc nD τ sig) → Buf (Elt Ideal) ℓ) (ρ : Dev nD → PrngReg) (c : Dev nD)

/-! The arguments, by position. -/

abbrev A0 : Vec Ideal S17664x14336 .bf16 := m ((c : Thread nD τ).loc main_arg0)
abbrev A1 : Vec Ideal S8x512x17664 .bf16 := m ((c : Thread nD τ).loc main_arg1)
abbrev A2 : Vec Ideal S17664x256 .f32 := m ((c : Thread nD τ).loc main_arg2)
abbrev A3 : Vec Ideal S8 .f32 := m ((c : Thread nD τ).loc main_arg3)
abbrev A4 : Vec Ideal S8 .f32 := m ((c : Thread nD τ).loc main_arg4)
abbrev A5 : Vec Ideal S2048 .f32 := m ((c : Thread nD τ).loc main_arg5)
abbrev A6 : Vec Ideal S2048 .f32 := m ((c : Thread nD τ).loc main_arg6)
abbrev A7 : Vec Ideal S16x8x256x256 .f32 := m ((c : Thread nD τ).loc main_arg7)
abbrev A8 : Vec Ideal S16x8x256 .f32 := m ((c : Thread nD τ).loc main_arg8)
abbrev A9 : Vec Ideal S16x8 .f32 := m ((c : Thread nD τ).loc main_arg9)
abbrev A10 : Vec Ideal S16x8x256x256 .f32 := m ((c : Thread nD τ).loc main_arg10)

/-- The precondition keeps every forget gate's input off negative infinity. -/
theorem open_gate (x0 : FVec Ideal S17664x14336 .bf16) (x1 : FVec Ideal S8x512x17664 .bf16) (x2 : FVec Ideal S17664x256 .f32)
    (x3 x4 : FVec Ideal S8 .f32) (x5 x6 : FVec Ideal S2048 .f32) (x7 : FVec Ideal S16x8x256x256 .f32) (x8 : FVec Ideal S16x8x256 .f32)
    (x9 : FVec Ideal S16x8 .f32) (x10 : FVec Ideal S16x8x256x256 .f32)
    (hp : Cert.Pre_forget_open.fn (F := Ideal) x0 x1 x2 x3 x4 x5 x6 x7 x8 x9 x10 = fun _ => 1#1) (s : Fin 16) (h : Fin 8) (t : Fin 64) :
    zr x2 x4 s h t ≠ ⊥ := by
  have hr := congrFun hp (fun a => a.elim0)
  unfold Cert.Pre_forget_open.fn at hr
  haveI : Subsingleton Cert.Pre_forget_open.S_.Idx := ⟨fun a b => funext fun x => x.elim0⟩
  have h1 := Host.reduce_andi_all _ _ _ _ _ hr (ix2 ⟨s.val * 64 + t.val, by omega⟩ h)
  intro hz
  have h2 : Ideal.cmp .ogt (zr x2 x4 s h t) (Ideal.ofBits .f32 0xFF800000#32) = 1#1 := by
    refine Eq.trans ?_ h1
    unfold zr
    pointwise []
    simp only [Nat.add_assoc]
  rw [hz, show Ideal.ofBits .f32 0xFF800000#32 = ⊥ from bot_f32] at h2
  simp [Ideal.cmp] at h2

theorem V4_arg0 : (V4 m ρ c main_arg0 : Vec Ideal S17664x14336 .bf16) = A0 m c := W4_args m ρ c main_arg0 (by decide)
theorem V4_arg7 : (V4 m ρ c main_arg7 : Vec Ideal S16x8x256x256 .f32) = A7 m c := W4_args m ρ c main_arg7 (by decide)
theorem V4_arg10 : (V4 m ρ c main_arg10 : Vec Ideal S16x8x256x256 .f32) = A10 m c := W4_args m ρ c main_arg10 (by decide)
theorem V3_arg2 : (V3 m ρ c main_arg2 : Vec Ideal S17664x256 .f32) = A2 m c := W3_args m ρ c main_arg2 (by decide)

/-- The three gate arrays. -/
theorem V4_awe : (V4 m ρ c main_v70_0 : Vec Ideal S1024x384 .f32)
    = aweArr (A2 m c) (V3 m ρ c main_v4) (V3 m ρ c main_v9) (V3 m ρ c main_v21) :=
  ((W4_arr m ρ c 4).trans (arr0_4 (V3 m ρ) c)).trans (by rw [V3_arg2])
theorem V4_crow : (V4 m ρ c main_v70_1 : Vec Ideal S16x8x1x64 .f32)
    = crowArr (A2 m c) (V3 m ρ c main_v4) (V3 m ρ c main_v9) :=
  ((W4_arr m ρ c 5).trans (arr0_5 (V3 m ρ) c)).trans (by rw [V3_arg2])
theorem W4_mout : (W4 m ρ c main_v70_2 : Vec Ideal S16x1x128 .f32)
    = moutArr (A2 m c) (V3 m ρ c main_v4) (V3 m ρ c main_v9) (V3 m ρ c main_v21) :=
  ((W4_arr m ρ c 6).trans (arr0_6 (V3 m ρ) c)).trans (by rw [V3_arg2])

/-- A host value the gate kernel leaves alone. -/
theorem V4_v14 (s : Fin 16) (h : Fin 8) (r : Fin 512) (t : Fin 64) : (V4 m ρ c main_v14 : Vec Ideal S16x8x512x64 .bf16) (ix4 s h r t)
    = A1 m c (ix3 h r (rw0 s t)) :=
  (congrFun (W4_of m ρ c main_v14 (by decide)) _).trans (r14 m ρ c s h r t)
theorem V4_v16 (s : Fin 16) (h : Fin 8) (d : Fin 256) (l : Fin 128) : (V4 m ρ c main_v16 : Vec Ideal S16x8x256x128 .f32) (ix4 s h d l)
    = A8 m c (ix3 s h d) :=
  (congrFun (W4_of m ρ c main_v16 (by decide)) _).trans (r16 m ρ c s h d l)

variable (hz : ∀ (s : Fin 16) (h : Fin 8) (t : Fin 64), zr (A2 m c) (A4 m c) s h t ≠ ⊥)

include hz

theorem y_val : (W6 m ρ c main_v71_0 : Vec Ideal S1024x4096 .bf16)
    = Cert.SampleRefIdeal.Read.val_main_v220 (F := Ideal) (A0 m c) (A1 m c) (A2 m c) (A3 m c) (A4 m c) (A5 m c) (A6 m c) (A7 m c) (A8 m c) (A9 m c) (A10 m c) := by
  refine (W6_of m ρ c main_v71_0 (by decide)).trans ((W5_arr m ρ c 13).trans
    ((arr1_13 (V4 m ρ) c (fun s h d => A8 m c (ix3 s h d)) (V4_v16 m ρ c) itr
      (fun h t l => (congrFun (W4_of m ρ c main_v55 (by decide)) _).trans (r55 m ρ c h t l))).trans (funext fun i => ?_)))
  rw [V4_awe, V4_crow, V4_arg0, V4_arg7, V4_arg10]
  exact y_eq _ _ _ _ _ _ _ _ _ _ _ _ _ _ (r4 m ρ c) (r9 m ρ c) (r21 m ρ c) hz _ (V4_v14 m ρ c) _ _ _
    (fun h t u => (congrFun (W4_of m ρ c main_v45 (by decide)) _).trans (r45 m ρ c h t u))
    (fun h e => (congrFun (W4_of m ρ c main_v10 (by decide)) _).trans (r10 m ρ c h e))
    (fun h e => (congrFun (W4_of m ρ c main_v11 (by decide)) _).trans (r11 m ρ c h e)) i

theorem c_val : (W6 m ρ c main_v71_1 : Vec Ideal S16x8x256x256 .f32)
    = Cert.SampleRefIdeal.Read.val_main_v92 (F := Ideal) (A0 m c) (A1 m c) (A2 m c) (A3 m c) (A4 m c) (A7 m c) (A9 m c) := by
  refine (W6_of m ρ c main_v71_1 (by decide)).trans ((W5_arr m ρ c 14).trans ((arr1_14 (V4 m ρ) c).trans (funext fun i => ?_)))
  rw [V4_awe, V4_crow, V4_arg0, V4_arg7, show i = ix4 (i 0) (i 1) (i 2) (i 3) from
    funext fun a => match a with | ⟨0, _⟩ => rfl | ⟨1, _⟩ => rfl | ⟨2, _⟩ => rfl | ⟨3, _⟩ => rfl]
  exact c_eq _ _ _ _ _ _ _ _ _ _ _ _ (r4 m ρ c) (r9 m ρ c) (r21 m ρ c) hz _ (V4_v14 m ρ c) _ _

theorem n_val : (W6 m ρ c main_v73 : Vec Ideal S16x8x256 .f32)
    = Cert.SampleRefIdeal.Read.val_main_v97 (F := Ideal) (A1 m c) (A2 m c) (A3 m c) (A4 m c) (A8 m c) (A9 m c) := by
  funext i
  rw [show i = ix3 (i 0) (i 1) (i 2) from funext fun a => match a with | ⟨0, _⟩ => rfl | ⟨1, _⟩ => rfl | ⟨2, _⟩ => rfl]
  refine (r73 m ρ c _ _ _).trans ((congrFun ((W5_arr m ρ c 15).trans
    (arr1_15 (V4 m ρ) c (fun s h d => A8 m c (ix3 s h d)) (V4_v16 m ρ c))) _).trans ?_)
  rw [V4_awe, V4_crow]
  exact n_eq _ _ _ _ _ _ _ _ _ _ _ (r4 m ρ c) (r9 m ρ c) (r21 m ρ c) hz _ (V4_v14 m ρ c) _ _

theorem m_val : (W6 m ρ c main_v75 : Vec Ideal S16x8 .f32)
    = Cert.SampleRefIdeal.Read.val_main_v71 (F := Ideal) (A2 m c) (A3 m c) (A4 m c) (A9 m c) := by
  have key : ∀ (s : Fin 16) (h : Fin 8), (W6 m ρ c main_v75 : Vec Ideal S16x8 .f32) (ix2 s h)
      = Cert.SampleRefIdeal.Read.val_main_v71 (F := Ideal) (A2 m c) (A3 m c) (A4 m c) (A9 m c) (ix2 s h) := fun s h => by
    refine (r75 m ρ c _ _).trans ((congrFun (W5_of m ρ c main_v70_2 (by decide)) _).trans ?_)
    rw [W4_mout, v71_at]
    exact mout_eq _ _ _ _ _ _ _ _ _ (r4 m ρ c) (r9 m ρ c) (r21 m ρ c) hz
  funext i
  have hi : i = ix2 (i 0) (i 1) := funext fun a => match a with | ⟨0, _⟩ => rfl | ⟨1, _⟩ => rfl
  rw [hi]
  exact key _ _

omit hz

theorem s_val : (W6 m ρ c main_v71_3 : Vec Ideal S16x8x256x256 .f32)
    = Cert.SampleRefIdeal.Read.val_main_v167 (F := Ideal) (A0 m c) (A1 m c) (A10 m c) := by
  refine (W6_of m ρ c main_v71_3 (by decide)).trans ((W5_arr m ρ c 16).trans
    ((arr1_16 (V4 m ρ) c glr (fun h l => (congrFun (W4_of m ρ c main_v69 (by decide)) _).trans (r69 m ρ c h l))).trans (funext fun i => ?_)))
  rw [V4_arg0, V4_arg10, show i = ix4 (i 0) (i 1) (i 2) (i 3) from
    funext fun a => match a with | ⟨0, _⟩ => rfl | ⟨1, _⟩ => rfl | ⟨2, _⟩ => rfl | ⟨3, _⟩ => rfl]
  exact s_eq _ _ _ _ _ _ (V4_v14 m ρ c) _ (fun h t => (congrFun (W4_of m ρ c main_v64 (by decide)) _).trans (r64 m ρ c h t)) _ _

end Cert.SampleIdeal.Gen

end
-- ==== Proof.Ends.lean ====
module

public import proofs.«01_k».proof.Proof.Gen.SampleIdeal.Frame

/-! A run of the kernels' program, with what each result holds at its end. -/

@[expose] public section

set_option maxRecDepth 16384

noncomputable section

namespace Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, each result holding what the last stretch of operations left, the arguments as they came. -/
theorem ends : θ_run defs (onTc (τ := τ) (main (F := F))) ⟨m, fun _ => 0, ρ⟩ (fun r => ∀ c : Dev nD,
      r.2.mem ((c.tc : Thread nD τ).loc main_v71_0) = W6 m ρ c (Proc.devRef .tc main_v71_0)
      ∧ r.2.mem ((c.tc : Thread nD τ).loc main_v71_1) = W6 m ρ c (Proc.devRef .tc main_v71_1)
      ∧ r.2.mem ((c.tc : Thread nD τ).loc main_v73) = W6 m ρ c (Proc.devRef .tc main_v73)
      ∧ r.2.mem ((c.tc : Thread nD τ).loc main_v75) = W6 m ρ c (Proc.devRef .tc main_v75)
      ∧ r.2.mem ((c.tc : Thread nD τ).loc main_v71_3) = W6 m ρ c (Proc.devRef .tc main_v71_3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v71_0 (by decide)),
       h c _ (mem_uc main_v71_1 (by decide)),
       h c _ (mem_uc main_v73 (by decide)),
       h c _ (mem_uc main_v75 (by decide)),
       h c _ (mem_uc main_v71_3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.SampleIdeal.Gen

end
-- ==== Proof.ProjSpec.lean ====
module

public import proofs.«01_k».proof.Proof.Gen.ProjIdeal.Frame
public import Idealize.ShloMosaic.Lib.Pipeline.Value
public import Idealize.ShloMosaic.Lib.Pointwise

/-! What one row and one head of the input projection holds: `a k` are the nine projections of the row in that head
(query, key, value, output gate, skip gate of the gated half, then query, key, value, skip gate of the retention half),
`c` and `s` the row's cosines and sines. -/

@[expose] public section

set_option maxRecDepth 100000

noncomputable section

namespace Cert.ProjAt

open Idealize.ShloMosaic

/-- The scale of the keys. -/
def sc : EReal := Ideal.ofBits FTy.f32 0x3D800000#32

/-- A row of 256 lanes rotated: lane `j` of the first half pairs with lane `j` of the second. -/
def rot (q : Fin 256 → EReal) (c s : Fin 128 → EReal) (d : Fin 256) : EReal :=
  if h : d.val < 128 then q ⟨d.val, by omega⟩ * c ⟨d.val, h⟩ - q ⟨128 + d.val, by omega⟩ * s ⟨d.val, h⟩
  else q ⟨d.val - 128, by omega⟩ * s ⟨d.val - 128, by omega⟩ + q d * c ⟨d.val - 128, by omega⟩

abbrev lo (j : Fin 128) : Fin 256 := ⟨j.val, by omega⟩
abbrev hi (j : Fin 128) : Fin 256 := ⟨128 + j.val, by omega⟩

theorem rot_lo (q : Fin 256 → EReal) (c s : Fin 128 → EReal) (j : Fin 128) :
    rot q c s (lo j) = q (lo j) * c j - q (hi j) * s j := by
  unfold rot
  rw [dif_pos j.isLt]

theorem rot_hi (q : Fin 256 → EReal) (c s : Fin 128 → EReal) (j : Fin 128) :
    rot q c s (hi j) = q (lo j) * s j + q (hi j) * c j := by
  unfold rot
  rw [dif_neg (by show ¬(128 + j.val < 128); omega)]
  have e : ∀ h, (⟨(hi j).val - 128, h⟩ : Fin 128) = j := fun h => Fin.ext (by show 128 + j.val - 128 = j.val; omega)
  have e' : ∀ h, (⟨(hi j).val - 128, h⟩ : Fin 256) = lo j := fun h => Fin.ext (by show 128 + j.val - 128 = j.val; omega)
  rw [e, e']

/-- The seven sections of a head in the first result. -/
def secF (a : Fin 9 → Fin 256 → EReal) (c s : Fin 128 → EReal) (i : Fin 7) (d : Fin 256) : EReal :=
  match i with
  | 0 => a 0 d
  | 1 => a 2 d
  | 2 => Ideal.logistic (a 3 d)
  | 3 => a 4 d * Ideal.logistic (a 4 d)
  | 4 => rot (a 5) c s d
  | 5 => a 7 d
  | 6 => a 8 d * Ideal.logistic (a 8 d)

/-- The two halves of a head's keys. -/
def keyF (a : Fin 9 → Fin 256 → EReal) (c s : Fin 128 → EReal) (i : Fin 2) (d : Fin 256) : EReal :=
  match i with
  | 0 => a 1 d * sc
  | 1 => rot (a 6) (fun j => c j * sc) (fun j => s j * sc) d

theorem secF_lo (a : Fin 9 → Fin 256 → EReal) (c s : Fin 128 → EReal) (j : Fin 128) :
    secF a c s 4 (lo j) = a 5 (lo j) * c j - a 5 (hi j) * s j := rot_lo _ _ _ _

theorem secF_hi (a : Fin 9 → Fin 256 → EReal) (c s : Fin 128 → EReal) (j : Fin 128) :
    secF a c s 4 (hi j) = a 5 (lo j) * s j + a 5 (hi j) * c j := rot_hi _ _ _ _

theorem keyF_lo (a : Fin 9 → Fin 256 → EReal) (c s : Fin 128 → EReal) (j : Fin 128) :
    keyF a c s 1 (lo j) = a 6 (lo j) * (c j * sc) - a 6 (hi j) * (s j * sc) :=
  rot_lo (a 6) (fun j => c j * sc) (fun j => s j * sc) j

theorem keyF_hi (a : Fin 9 → Fin 256 → EReal) (c s : Fin 128 → EReal) (j : Fin 128) :
    keyF a c s 1 (hi j) = a 6 (lo j) * (s j * sc) + a 6 (hi j) * (c j * sc) :=
  rot_hi (a 6) (fun j => c j * sc) (fun j => s j * sc) j

end Cert.ProjAt

namespace Cert.ProjIdeal.Gen

open Idealize.ShloMosaic Cert.ProjIdeal Cert.ProjAt

/-- A block of the first result, section by section. -/
def pBlk (f : Fin 768 → Fin 7 → Fin 256 → EReal) (y : S768x1792.Idx) : EReal :=
  f (y 0) ⟨(y 1).val / 256, by have : (y 1).val < 1792 := (y 1).isLt; omega⟩ ⟨(y 1).val % 256, by omega⟩

theorem pBlk_at (f : Fin 768 → Fin 7 → Fin 256 → EReal) (y : S768x1792.Idx) (t : Fin 768) (i : Fin 7) (d : Fin 256)
    (h0 : (y 0).val = t.val) (h1 : (y 1).val = i.val * 256 + d.val) : pBlk f y = f t i d := by
  unfold pBlk
  rw [show y 0 = t from Fin.ext h0, show (⟨(y 1).val / 256, _⟩ : Fin 7) = i from Fin.ext (by show (y 1).val / 256 = _; omega),
    show (⟨(y 1).val % 256, _⟩ : Fin 256) = d from Fin.ext (by show (y 1).val % 256 = _; omega)]

/-- A block of the second result. -/
def ktBlk (f : Fin 768 → Fin 2 → Fin 256 → EReal) (y : S1x512x768.Idx) : EReal :=
  f (y 2) ⟨(y 1).val / 256, by have : (y 1).val < 512 := (y 1).isLt; omega⟩ ⟨(y 1).val % 256, by omega⟩

theorem ktBlk_at (f : Fin 768 → Fin 2 → Fin 256 → EReal) (y : S1x512x768.Idx) (t : Fin 768) (i : Fin 2) (d : Fin 256)
    (h0 : (y 2).val = t.val) (h1 : (y 1).val = i.val * 256 + d.val) : ktBlk f y = f t i d := by
  unfold ktBlk
  rw [show y 2 = t from Fin.ext h0, show (⟨(y 1).val / 256, _⟩ : Fin 2) = i from Fin.ext (by show (y 1).val / 256 = _; omega),
    show (⟨(y 1).val % 256, _⟩ : Fin 256) = d from Fin.ext (by show (y 1).val % 256 = _; omega)]

/-- The nine weight blocks in the order of the projections. -/
def wsel (x1 x2 x3 x5 x6 x7 x8 x9 x10 : Vec Ideal S256x4096 .bf16) (k : Fin 9) : Vec Ideal S256x4096 .bf16 :=
  match k with
  | 0 => x1
  | 1 => x9
  | 2 => x2
  | 3 => x3
  | 4 => x5
  | 5 => x6
  | 6 => x10
  | 7 => x7
  | 8 => x8

end Cert.ProjIdeal.Gen

end
-- ==== Proof.ProjBlkP.lean ====
module
public import proofs.«01_k».proof.Proof.ProjSpec
@[expose] public section
set_option maxRecDepth 100000
noncomputable section
namespace Cert.ProjIdeal.Gen
open Idealize.ShloMosaic
open Idealize.ShloMosaic.TcCoe Idealize.ShloMosaic.Tactic
open Cert.ProjAt

set_option maxHeartbeats 0 in
theorem blk_p (c : Dev nD) (i : grid0.Coords) (arg2 : Memref sig .tc .vmem S768x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S768x128 .f32) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S768x128 .f32) (harg13 : arg13.IsWhole) (arg14 : Memref sig .tc .vmem S128x768 .f32) (harg14 : arg14.IsWhole) (arg15 : Memref sig .tc .vmem S128x768 .f32) (harg15 : arg15.IsWhole) (arg16 : Memref sig .tc .vmem S32x4096 .f32) (harg16 : arg16.IsWhole) (arg17 : Memref sig .tc .vmem S768x1792 .bf16) (harg17 : arg17.IsWhole) (arg18 : Memref sig .tc .vmem S1x512x768 .bf16) (harg18 : arg18.IsWhole) (arg19 : Memref sig .tc .vmem S32x4096 .bf16) (harg19 : arg19.IsWhole) (x0 : Vec Ideal S768x4096 .bf16) (x1 : Vec Ideal S256x4096 .bf16) (x2 : Vec Ideal S256x4096 .bf16) (x3 : Vec Ideal S256x4096 .bf16) (x4 : Vec Ideal S768x128 .f32) (x5 : Vec Ideal S256x4096 .bf16) (x6 : Vec Ideal S256x4096 .bf16) (x7 : Vec Ideal S256x4096 .bf16) (x8 : Vec Ideal S256x4096 .bf16) (x9 : Vec Ideal S256x4096 .bf16) (x10 : Vec Ideal S256x4096 .bf16) (x11 : Vec Ideal S768x128 .f32) (x12 : Vec Ideal S128x768 .f32) (x13 : Vec Ideal S128x768 .f32) (x14 : Vec Ideal S32x4096 .f32) :
    out0_A_15 (F:=Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 = (pBlk fun t i d => secF (fun k d => ∑ e : Fin 4096, x0 (ix2 t e) * wsel x1 x2 x3 x5 x6 x7 x8 x9 x10 k (ix2 d e)) (fun j => x4 (ix2 t j)) (fun j => x11 (ix2 t j)) i d) := by
  funext y
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14)]
  refine View.canon_apply_of_pieces _ _ ?_ y (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A
  dsimp only
  sl_unfold_words
  simp only [List.forall_mem_cons, View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread]
  refine ⟨fun j => ?_, fun j => ?_, fun j => ?_, fun j => ?_, fun j => ?_, fun j => ?_, fun j => ?_, fun j => ?_, by simp⟩
  · rw [pBlk_at _ _ (j 0) 6 (j 1) (by simp) (by simp)]
    unfold_payloads
    pointwise []
    rfl
  · rw [pBlk_at _ _ (j 0) 5 (j 1) (by simp) (by simp)]
    unfold_payloads
    pointwise []
    rfl
  · have hj : (j 1).val < 128 := (j 1).isLt
    rw [pBlk_at _ _ (j 0) 4 (hi (j 1)) (by simp) (by simp [hi]; try omega)]
    unfold_payloads
    pointwise []
    refine Eq.trans ?_ (secF_hi _ _ _ _).symm
    have e4 : x4 j = x4 (ix2 (j 0) (j 1)) := congrArg x4 (funext fun a => match a with | ⟨0, _⟩ => rfl | ⟨1, _⟩ => rfl)
    have e11 : x11 j = x11 (ix2 (j 0) (j 1)) := congrArg x11 (funext fun a => match a with | ⟨0, _⟩ => rfl | ⟨1, _⟩ => rfl)
    rw [e4, e11]
    rfl
  · have hj : (j 1).val < 128 := (j 1).isLt
    rw [pBlk_at _ _ (j 0) 4 (lo (j 1)) (by simp) (by simp [lo]; try omega)]
    unfold_payloads
    pointwise []
    refine Eq.trans ?_ (secF_lo _ _ _ _).symm
    have e4 : x4 j = x4 (ix2 (j 0) (j 1)) := congrArg x4 (funext fun a => match a with | ⟨0, _⟩ => rfl | ⟨1, _⟩ => rfl)
    have e11 : x11 j = x11 (ix2 (j 0) (j 1)) := congrArg x11 (funext fun a => match a with | ⟨0, _⟩ => rfl | ⟨1, _⟩ => rfl)
    rw [e4, e11]
    rfl
  · rw [pBlk_at _ _ (j 0) 3 (j 1) (by simp) (by simp)]
    unfold_payloads
    pointwise []
    rfl
  · rw [pBlk_at _ _ (j 0) 2 (j 1) (by simp) (by simp)]
    unfold_payloads
    pointwise []
    rfl
  · rw [pBlk_at _ _ (j 0) 1 (j 1) (by simp) (by simp)]
    unfold_payloads
    pointwise []
    rfl
  · rw [pBlk_at _ _ (j 0) 0 (j 1) (by simp) (by simp)]
    unfold_payloads
    pointwise []
    rfl

end Cert.ProjIdeal.Gen
end
-- ==== Proof.ProjBlkK.lean ====
module
public import proofs.«01_k».proof.Proof.ProjSpec
@[expose] public section
set_option maxRecDepth 100000
noncomputable section
namespace Cert.ProjIdeal.Gen
open Idealize.ShloMosaic
open Idealize.ShloMosaic.TcCoe Idealize.ShloMosaic.Tactic
open Cert.ProjAt

set_option maxHeartbeats 0 in
theorem blk_kt (c : Dev nD) (i : grid0.Coords) (arg2 : Memref sig .tc .vmem S768x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S768x128 .f32) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S768x128 .f32) (harg13 : arg13.IsWhole) (arg14 : Memref sig .tc .vmem S128x768 .f32) (harg14 : arg14.IsWhole) (arg15 : Memref sig .tc .vmem S128x768 .f32) (harg15 : arg15.IsWhole) (arg16 : Memref sig .tc .vmem S32x4096 .f32) (harg16 : arg16.IsWhole) (arg17 : Memref sig .tc .vmem S768x1792 .bf16) (harg17 : arg17.IsWhole) (arg18 : Memref sig .tc .vmem S1x512x768 .bf16) (harg18 : arg18.IsWhole) (arg19 : Memref sig .tc .vmem S32x4096 .bf16) (harg19 : arg19.IsWhole) (x0 : Vec Ideal S768x4096 .bf16) (x1 : Vec Ideal S256x4096 .bf16) (x2 : Vec Ideal S256x4096 .bf16) (x3 : Vec Ideal S256x4096 .bf16) (x4 : Vec Ideal S768x128 .f32) (x5 : Vec Ideal S256x4096 .bf16) (x6 : Vec Ideal S256x4096 .bf16) (x7 : Vec Ideal S256x4096 .bf16) (x8 : Vec Ideal S256x4096 .bf16) (x9 : Vec Ideal S256x4096 .bf16) (x10 : Vec Ideal S256x4096 .bf16) (x11 : Vec Ideal S768x128 .f32) (x12 : Vec Ideal S128x768 .f32) (x13 : Vec Ideal S128x768 .f32) (x14 : Vec Ideal S32x4096 .f32) :
    out0_A_16 (F:=Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 = (ktBlk fun t i d => keyF (fun k d => ∑ e : Fin 4096, wsel x1 x2 x3 x5 x6 x7 x8 x9 x10 k (ix2 d e) * x0 (ix2 t e)) (fun j => x12 (ix2 j t)) (fun j => x13 (ix2 j t)) i d) := by
  funext y
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14)]
  refine View.canon_apply_of_pieces _ _ ?_ y (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A
  dsimp only
  sl_unfold_words
  simp only [List.forall_mem_cons, View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread]
  refine ⟨fun j => ?_, fun j => ?_, fun j => ?_, by simp⟩
  · have hj : (j 1).val < 128 := (j 1).isLt
    rw [ktBlk_at _ _ (j 2) 1 (hi (j 1)) (by simp) (by simp [hi]; try omega)]
    unfold_payloads
    pointwise []
    refine Eq.trans ?_ (keyF_hi _ _ _ _).symm
    rfl
  · have hj : (j 1).val < 128 := (j 1).isLt
    rw [ktBlk_at _ _ (j 2) 1 (lo (j 1)) (by simp) (by simp [lo]; try omega)]
    unfold_payloads
    pointwise []
    refine Eq.trans ?_ (keyF_lo _ _ _ _).symm
    rfl
  · rw [ktBlk_at _ _ (j 2) 0 (j 1) (by simp) (by simp)]
    unfold_payloads
    pointwise []
    rfl

set_option maxHeartbeats 0 in
theorem blk_wo (c : Dev nD) (i : grid0.Coords) (arg2 : Memref sig .tc .vmem S768x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S768x128 .f32) (harg6 : arg6.IsWhole) (arg7 : Memref sig .tc .vmem S256x4096 .bf16) (harg7 : arg7.IsWhole) (arg8 : Memref sig .tc .vmem S256x4096 .bf16) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S768x128 .f32) (harg13 : arg13.IsWhole) (arg14 : Memref sig .tc .vmem S128x768 .f32) (harg14 : arg14.IsWhole) (arg15 : Memref sig .tc .vmem S128x768 .f32) (harg15 : arg15.IsWhole) (arg16 : Memref sig .tc .vmem S32x4096 .f32) (harg16 : arg16.IsWhole) (arg17 : Memref sig .tc .vmem S768x1792 .bf16) (harg17 : arg17.IsWhole) (arg18 : Memref sig .tc .vmem S1x512x768 .bf16) (harg18 : arg18.IsWhole) (arg19 : Memref sig .tc .vmem S32x4096 .bf16) (harg19 : arg19.IsWhole) (x0 : Vec Ideal S768x4096 .bf16) (x1 : Vec Ideal S256x4096 .bf16) (x2 : Vec Ideal S256x4096 .bf16) (x3 : Vec Ideal S256x4096 .bf16) (x4 : Vec Ideal S768x128 .f32) (x5 : Vec Ideal S256x4096 .bf16) (x6 : Vec Ideal S256x4096 .bf16) (x7 : Vec Ideal S256x4096 .bf16) (x8 : Vec Ideal S256x4096 .bf16) (x9 : Vec Ideal S256x4096 .bf16) (x10 : Vec Ideal S256x4096 .bf16) (x11 : Vec Ideal S768x128 .f32) (x12 : Vec Ideal S128x768 .f32) (x13 : Vec Ideal S128x768 .f32) (x14 : Vec Ideal S32x4096 .f32) :
    out0_A_17 (F:=Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 = (fun y => x14 y) := by
  funext y
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14)]
  refine View.canon_apply_of_pieces _ _ ?_ y (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
  unfold kernelRun0_A
  dsimp only
  sl_unfold_words
  simp only [List.forall_mem_cons, View.readAt_eq_ld, (harg2).read_unread, (harg3).read_unread, (harg4).read_unread, (harg5).read_unread, (harg6).read_unread, (harg7).read_unread, (harg8).read_unread, (harg9).read_unread, (harg10).read_unread, (harg11).read_unread, (harg12).read_unread, (harg13).read_unread, (harg14).read_unread, (harg15).read_unread, (harg16).read_unread, (harg17).read_unread, (harg18).read_unread, (harg19).read_unread]
  refine ⟨fun j => ?_, by simp⟩
  unfold_payloads
  pointwise []
  refine congrArg x14 ?_
  idx_ext

end Cert.ProjIdeal.Gen
end
-- ==== Proof.ProjArr.lean ====
module
public import proofs.«01_k».proof.Proof.ProjBlkP
public import proofs.«01_k».proof.Proof.ProjBlkK
public import Idealize.ShloMosaic.Lib.Pipeline.ValueKit

/-! The kernel's three result arrays, as functions of what the region finds. -/

@[expose] public section
set_option maxRecDepth 100000
noncomputable section
namespace Cert.ProjIdeal.Gen
open Idealize.ShloMosaic
open Idealize.ShloMosaic.TcCoe Idealize.ShloMosaic.Tactic
open Idealize.ShloMosaic.Pipeline (Dat)
open Cert.ProjAt

variable (m : (ℓ : Loc nD τ sig) → Buf (Elt Ideal) ℓ) (c : Dev nD)

/-- The head of a grid point, and a row of its block in the whole. -/
abbrev hd (t : Fin 184) : Fin 8 := ⟨t.val / 23, by omega⟩
abbrev rw' (t : Fin 184) (r : Fin 768) : Fin 17664 := ⟨t.val % 23 * 768 + r.val, by omega⟩
/-- A row of the weights. -/
abbrev wr (k : Fin 9) (h : Fin 8) (d : Fin 256) : Fin 18448 := ⟨k.val * 2048 + h.val * 256 + d.val, by omega⟩

theorem g0 : ∀ t : Fin cfg0.N, win0_0.index t = ![t.val % 23, 0] := by decide +kernel
theorem g1 : ∀ t : Fin cfg0.N, win0_1.index t = ![0 + t.val / 23, 0] := by decide +kernel
theorem g2 : ∀ t : Fin cfg0.N, win0_2.index t = ![16 + t.val / 23, 0] := by decide +kernel
theorem g3 : ∀ t : Fin cfg0.N, win0_3.index t = ![24 + t.val / 23, 0] := by decide +kernel
theorem g5 : ∀ t : Fin cfg0.N, win0_5.index t = ![32 + t.val / 23, 0] := by decide +kernel
theorem g6 : ∀ t : Fin cfg0.N, win0_6.index t = ![40 + t.val / 23, 0] := by decide +kernel
theorem g7 : ∀ t : Fin cfg0.N, win0_7.index t = ![56 + t.val / 23, 0] := by decide +kernel
theorem g8 : ∀ t : Fin cfg0.N, win0_8.index t = ![64 + t.val / 23, 0] := by decide +kernel
theorem g9 : ∀ t : Fin cfg0.N, win0_9.index t = ![8 + t.val / 23, 0] := by decide +kernel
theorem g10 : ∀ t : Fin cfg0.N, win0_10.index t = ![48 + t.val / 23, 0] := by decide +kernel
theorem g4 : ∀ t : Fin cfg0.N, win0_4.index t = ![t.val % 23, 0] := by decide +kernel
theorem g11 : ∀ t : Fin cfg0.N, win0_11.index t = ![t.val % 23, 0] := by decide +kernel
theorem g12 : ∀ t : Fin cfg0.N, win0_12.index t = ![0, t.val % 23] := by decide +kernel
theorem g13 : ∀ t : Fin cfg0.N, win0_13.index t = ![0, t.val % 23] := by decide +kernel
theorem g14 : ∀ t : Fin cfg0.N, win0_14.index t = ![min t.val 127, 0] := by decide +kernel
theorem g15 : ∀ t : Fin cfg0.N, win0_15.index t = ![t.val % 23, t.val / 23] := by decide +kernel
theorem g16 : ∀ t : Fin cfg0.N, win0_16.index t = ![t.val / 23, 0, t.val % 23] := by decide +kernel
theorem g17 : ∀ t : Fin cfg0.N, win0_17.index t = ![(min t.val 127 % 64 / 8 * 2 + min t.val 127 / 64) * 8 + min t.val 127 % 8, 0] := by decide +kernel

/-- What the region finds in the arrays it reads. -/
abbrev RX : Vec Ideal S17664x4096 .bf16 := V m c main_arg0
abbrev RW : Vec Ideal S18448x4096 .bf16 := V m c main_v1
abbrev RC : Vec Ideal S17664x128 .f32 := V m c main_v51
abbrev RS : Vec Ideal S17664x128 .f32 := V m c main_v59
abbrev RCt : Vec Ideal S128x17664 .f32 := V m c main_v60
abbrev RSt : Vec Ideal S128x17664 .f32 := V m c main_v61
abbrev RO : Vec Ideal S4096x4096 .f32 := V m c main_arg2

theorem b0 (t : Fin cfg0.N) (r : Fin 768) (e : Fin 4096) : (iblk m c 0 t : Vec Ideal S768x4096 .bf16) (ix2 r e) = RX m c (ix2 (rw' t r) e) := by
  blk_simp [iblk]
  refine congrArg (RX m c) ?_
  blk_ext [g0]

theorem b4 (t : Fin cfg0.N) (r : Fin 768) (e : Fin 128) : (iblk m c 4 t : Vec Ideal S768x128 .f32) (ix2 r e) = RC m c (ix2 (rw' t r) e) := by
  blk_simp [iblk]
  refine congrArg (RC m c) ?_
  blk_ext [g4]

theorem b11 (t : Fin cfg0.N) (r : Fin 768) (e : Fin 128) : (iblk m c 11 t : Vec Ideal S768x128 .f32) (ix2 r e) = RS m c (ix2 (rw' t r) e) := by
  blk_simp [iblk]
  refine congrArg (RS m c) ?_
  blk_ext [g11]

theorem b12 (t : Fin cfg0.N) (r : Fin 768) (e : Fin 128) : (iblk m c 12 t : Vec Ideal S128x768 .f32) (ix2 e r) = RCt m c (ix2 e (rw' t r)) := by
  blk_simp [iblk]
  refine congrArg (RCt m c) ?_
  blk_ext [g12]

theorem b13 (t : Fin cfg0.N) (r : Fin 768) (e : Fin 128) : (iblk m c 13 t : Vec Ideal S128x768 .f32) (ix2 e r) = RSt m c (ix2 e (rw' t r)) := by
  blk_simp [iblk]
  refine congrArg (RSt m c) ?_
  blk_ext [g13]

theorem b1 (t : Fin cfg0.N) (d : Fin 256) (e : Fin 4096) : (X0_1 m c t : Vec Ideal S256x4096 .bf16) (ix2 d e) = RW m c (ix2 (wr 0 (hd t) d) e) := by
  unfold X0_1 Pipeline.Window.fill
  rw [dif_pos (moved0_1 t _)]
  blk_simp [iblk]
  refine congrArg (RW m c) ?_
  blk_ext [g1]

theorem b2 (t : Fin cfg0.N) (d : Fin 256) (e : Fin 4096) : (X0_2 m c t : Vec Ideal S256x4096 .bf16) (ix2 d e) = RW m c (ix2 (wr 2 (hd t) d) e) := by
  unfold X0_2 Pipeline.Window.fill
  rw [dif_pos (moved0_2 t _)]
  blk_simp [iblk]
  refine congrArg (RW m c) ?_
  blk_ext [g2]

theorem b3 (t : Fin cfg0.N) (d : Fin 256) (e : Fin 4096) : (X0_3 m c t : Vec Ideal S256x4096 .bf16) (ix2 d e) = RW m c (ix2 (wr 3 (hd t) d) e) := by
  unfold X0_3 Pipeline.Window.fill
  rw [dif_pos (moved0_3 t _)]
  blk_simp [iblk]
  refine congrArg (RW m c) ?_
  blk_ext [g3]

theorem b5 (t : Fin cfg0.N) (d : Fin 256) (e : Fin 4096) : (X0_5 m c t : Vec Ideal S256x4096 .bf16) (ix2 d e) = RW m c (ix2 (wr 4 (hd t) d) e) := by
  unfold X0_5 Pipeline.Window.fill
  rw [dif_pos (moved0_5 t _)]
  blk_simp [iblk]
  refine congrArg (RW m c) ?_
  blk_ext [g5]

theorem b6 (t : Fin cfg0.N) (d : Fin 256) (e : Fin 4096) : (X0_6 m c t : Vec Ideal S256x4096 .bf16) (ix2 d e) = RW m c (ix2 (wr 5 (hd t) d) e) := by
  unfold X0_6 Pipeline.Window.fill
  rw [dif_pos (moved0_6 t _)]
  blk_simp [iblk]
  refine congrArg (RW m c) ?_
  blk_ext [g6]

theorem b7 (t : Fin cfg0.N) (d : Fin 256) (e : Fin 4096) : (X0_7 m c t : Vec Ideal S256x4096 .bf16) (ix2 d e) = RW m c (ix2 (wr 7 (hd t) d) e) := by
  unfold X0_7 Pipeline.Window.fill
  rw [dif_pos (moved0_7 t _)]
  blk_simp [iblk]
  refine congrArg (RW m c) ?_
  blk_ext [g7]

theorem b8 (t : Fin cfg0.N) (d : Fin 256) (e : Fin 4096) : (X0_8 m c t : Vec Ideal S256x4096 .bf16) (ix2 d e) = RW m c (ix2 (wr 8 (hd t) d) e) := by
  unfold X0_8 Pipeline.Window.fill
  rw [dif_pos (moved0_8 t _)]
  blk_simp [iblk]
  refine congrArg (RW m c) ?_
  blk_ext [g8]

theorem b9 (t : Fin cfg0.N) (d : Fin 256) (e : Fin 4096) : (X0_9 m c t : Vec Ideal S256x4096 .bf16) (ix2 d e) = RW m c (ix2 (wr 1 (hd t) d) e) := by
  unfold X0_9 Pipeline.Window.fill
  rw [dif_pos (moved0_9 t _)]
  blk_simp [iblk]
  refine congrArg (RW m c) ?_
  blk_ext [g9]

theorem b10 (t : Fin cfg0.N) (d : Fin 256) (e : Fin 4096) : (X0_10 m c t : Vec Ideal S256x4096 .bf16) (ix2 d e) = RW m c (ix2 (wr 6 (hd t) d) e) := by
  unfold X0_10 Pipeline.Window.fill
  rw [dif_pos (moved0_10 t _)]
  blk_simp [iblk]
  refine congrArg (RW m c) ?_
  blk_ext [g10]

theorem bw (t : Fin cfg0.N) (k : Fin 9) (d : Fin 256) (e : Fin 4096) :
    wsel (X0_1 m c t) (X0_2 m c t) (X0_3 m c t) (X0_5 m c t) (X0_6 m c t) (X0_7 m c t) (X0_8 m c t) (X0_9 m c t) (X0_10 m c t) k (ix2 d e)
      = RW m c (ix2 (wr k (hd t) d) e) := by
  match k with
  | 0 => exact b1 m c t d e
  | 1 => exact b9 m c t d e
  | 2 => exact b2 m c t d e
  | 3 => exact b3 m c t d e
  | 4 => exact b5 m c t d e
  | 5 => exact b6 m c t d e
  | 6 => exact b10 m c t d e
  | 7 => exact b7 m c t d e
  | 8 => exact b8 m c t d e

/-- The nine projections of a row in a head. -/
def prj (X : Vec Ideal S17664x4096 .bf16) (W : Vec Ideal S18448x4096 .bf16) (t : Fin 17664) (h : Fin 8) (k : Fin 9) (d : Fin 256) : EReal :=
  ∑ e : Fin 4096, X (ix2 t e) * W (ix2 (wr k h d) e)

/-- The first result. -/
def pArr (a : Fin 17664 → Fin 8 → Fin 9 → Fin 256 → EReal) (C S : Fin 17664 → Fin 128 → EReal) : Vec Ideal S17664x14336 .bf16 := fun i =>
  secF (a (i 0) ⟨(i 1).val / 1792, by have : (i 1).val < 14336 := (i 1).isLt; omega⟩) (C (i 0)) (S (i 0))
    ⟨(i 1).val % 1792 / 256, by omega⟩ ⟨(i 1).val % 256, by omega⟩

theorem pArr_at (a : Fin 17664 → Fin 8 → Fin 9 → Fin 256 → EReal) (C S : Fin 17664 → Fin 128 → EReal) (i : S17664x14336.Idx)
    (t : Fin 17664) (h : Fin 8) (k : Fin 7) (d : Fin 256) (h0 : (i 0).val = t.val) (h1 : (i 1).val = h.val * 1792 + k.val * 256 + d.val) :
    pArr a C S i = secF (a t h) (C t) (S t) k d := by
  unfold pArr
  rw [show i 0 = t from Fin.ext h0, show (⟨(i 1).val / 1792, _⟩ : Fin 8) = h from Fin.ext (by show (i 1).val / 1792 = _; omega),
    show (⟨(i 1).val % 1792 / 256, _⟩ : Fin 7) = k from Fin.ext (by show (i 1).val % 1792 / 256 = _; omega),
    show (⟨(i 1).val % 256, _⟩ : Fin 256) = d from Fin.ext (by show (i 1).val % 256 = _; omega)]

/-- The second result. -/
def ktArr (a : Fin 17664 → Fin 8 → Fin 9 → Fin 256 → EReal) (C S : Fin 17664 → Fin 128 → EReal) : Vec Ideal S8x512x17664 .bf16 := fun i =>
  keyF (a (i 2) (i 0)) (C (i 2)) (S (i 2)) ⟨(i 1).val / 256, by have : (i 1).val < 512 := (i 1).isLt; omega⟩ ⟨(i 1).val % 256, by omega⟩

theorem ktArr_at (a : Fin 17664 → Fin 8 → Fin 9 → Fin 256 → EReal) (C S : Fin 17664 → Fin 128 → EReal) (i : S8x512x17664.Idx)
    (t : Fin 17664) (h : Fin 8) (k : Fin 2) (d : Fin 256) (h0 : (i 0).val = h.val) (h1 : (i 1).val = k.val * 256 + d.val) (h2 : (i 2).val = t.val) :
    ktArr a C S i = keyF (a t h) (C t) (S t) k d := by
  unfold ktArr
  rw [show i 0 = h from Fin.ext h0, show i 2 = t from Fin.ext h2, show (⟨(i 1).val / 256, _⟩ : Fin 2) = k from Fin.ext (by show (i 1).val / 256 = _; omega),
    show (⟨(i 1).val % 256, _⟩ : Fin 256) = d from Fin.ext (by show (i 1).val % 256 = _; omega)]

/-- The third result: the rows of the output weights, the two halves of a head side by side. -/
def woArr (O : Vec Ideal S4096x4096 .f32) : Vec Ideal S4096x4096 .bf16 := fun i =>
  O (ix2 ⟨(i 0).val % 512 / 256 * 2048 + (i 0).val / 512 * 256 + (i 0).val % 256, by have : (i 0).val < 4096 := (i 0).isLt; omega⟩ (i 1))

section
variable (x0 : Vec Ideal S768x4096 .bf16) (ws : Fin 9 → Vec Ideal S256x4096 .bf16) (X : Vec Ideal S17664x4096 .bf16) (W : Vec Ideal S18448x4096 .bf16)
  (t : Fin 184) (hx : ∀ r e, x0 (ix2 r e) = X (ix2 (rw' t r) e)) (hw : ∀ k d e, ws k (ix2 d e) = W (ix2 (wr k (hd t) d) e))

include hx hw in
theorem p_step (x4 x11 : Vec Ideal S768x128 .f32) (C S : Vec Ideal S17664x128 .f32) (h4 : ∀ r j, x4 (ix2 r j) = C (ix2 (rw' t r) j))
    (h11 : ∀ r j, x11 (ix2 r j) = S (ix2 (rw' t r) j)) (y : S768x1792.Idx) (i : S17664x14336.Idx) (h0 : (i 0).val = t.val % 23 * 768 + (y 0).val)
    (h1 : (i 1).val = t.val / 23 * 1792 + (y 1).val) :
    pBlk (fun r i d => secF (fun k d => ∑ e : Fin 4096, x0 (ix2 r e) * ws k (ix2 d e)) (fun j => x4 (ix2 r j)) (fun j => x11 (ix2 r j)) i d) y
      = pArr (prj X W) (fun t j => C (ix2 t j)) (fun t j => S (ix2 t j)) i := by
  have hy : (y 1).val < 1792 := (y 1).isLt
  refine Eq.trans ?_ (pArr_at _ _ _ _ (rw' t (y 0)) (hd t) ⟨(y 1).val / 256, by omega⟩ ⟨(y 1).val % 256, by omega⟩
    h0 (by show (i 1).val = t.val / 23 * 1792 + (y 1).val / 256 * 256 + (y 1).val % 256; omega)).symm
  unfold pBlk prj
  have gx := hx (y 0)
  have g4 := h4 (y 0)
  have g11 := h11 (y 0)
  simp only [gx, hw, g4, g11]

include hx hw in
theorem k_step (x12 x13 : Vec Ideal S128x768 .f32) (C S : Vec Ideal S128x17664 .f32) (h12 : ∀ r j, x12 (ix2 j r) = C (ix2 j (rw' t r)))
    (h13 : ∀ r j, x13 (ix2 j r) = S (ix2 j (rw' t r))) (y : S1x512x768.Idx) (i : S8x512x17664.Idx) (h0 : (i 0).val = t.val / 23)
    (h1 : (i 1).val = (y 1).val) (h2 : (i 2).val = t.val % 23 * 768 + (y 2).val) :
    ktBlk (fun r i d => keyF (fun k d => ∑ e : Fin 4096, ws k (ix2 d e) * x0 (ix2 r e)) (fun j => x12 (ix2 j r)) (fun j => x13 (ix2 j r)) i d) y
      = ktArr (prj X W) (fun t j => C (ix2 j t)) (fun t j => S (ix2 j t)) i := by
  have hy : (y 1).val < 512 := (y 1).isLt
  refine Eq.trans ?_ (ktArr_at _ _ _ _ (rw' t (y 2)) (hd t) ⟨(y 1).val / 256, by omega⟩ ⟨(y 1).val % 256, by omega⟩
    h0 (by show (i 1).val = (y 1).val / 256 * 256 + (y 1).val % 256; omega) h2).symm
  unfold ktBlk prj
  have gx := hx (y 2)
  have g12 := h12 (y 2)
  have g13 := h13 (y 2)
  simp only [gx, hw, g12, g13, mul_comm (W _)]

end

set_option maxHeartbeats 1000000 in
theorem arr15 : (dats m 0 c).arrAt 15 cfg0.N
    = pArr (prj (RX m c) (RW m c)) (fun t j => RC m c (ix2 t j)) (fun t j => RS m c (ix2 t j)) := by
  refine (dats m 0 c).arrAt_eq_of_covers 15 _ (by decide +kernel) fun t hf y => ?_
  blk_simp
  rw [after0_15]
  unfold outsAt0
  dsimp only
  rw [blk_p]
  exact p_step _ _ (RX m c) (RW m c) t (b0 m c t) (bw m c t) _ _ (RC m c) (RS m c) (b4 m c t) (b11 m c t) y _ (by blk_simp [g15]) (by blk_simp [g15])

set_option maxHeartbeats 1000000 in
theorem arr16 : (dats m 0 c).arrAt 16 cfg0.N
    = ktArr (prj (RX m c) (RW m c)) (fun t j => RCt m c (ix2 j t)) (fun t j => RSt m c (ix2 j t)) := by
  refine (dats m 0 c).arrAt_eq_of_covers 16 _ (by decide +kernel) fun t hf y => ?_
  blk_simp
  rw [after0_16]
  unfold outsAt0
  dsimp only
  rw [blk_kt]
  have hy0 : (y 0).val < 1 := (y 0).isLt
  exact k_step _ _ (RX m c) (RW m c) t (b0 m c t) (bw m c t) _ _ (RCt m c) (RSt m c) (b12 m c t) (b13 m c t) y _
    (by blk_simp [g16]) (by blk_simp [g16]) (by blk_simp [g16])

theorem arr17 : (dats m 0 c).arrAt 17 cfg0.N = woArr (RO m c) := by
  refine (dats m 0 c).arrAt_eq_of_covers 17 _ (by decide +kernel) fun t hf y => ?_
  blk_simp
  rw [after0_17]
  unfold outsAt0
  dsimp only
  rw [blk_wo]
  unfold woArr
  blk_simp [iblk]
  refine congrArg (RO m c) ?_
  have ht : t.val < 184 := t.isLt
  have hy : (y 0).val < 32 := (y 0).isLt
  blk_ext [g14, g17]

end Cert.ProjIdeal.Gen
end
-- ==== Proof.ProjTab.lean ====
module

public import proofs.«01_k».proof.Proof.ProjSpec

/-! Positions, angles and their cosines and sines; the scale of the keys. -/

@[expose] public section

set_option maxRecDepth 100000

noncomputable section

namespace Cert.ProjAt

open Idealize.ShloMosaic

theorem w2 : Ideal.ofBits FTy.f32 1073741824#32 = ((2 : ℝ) : EReal) := by
  simp [Ideal.ofBits, Ideal.ieee]
  rw [← EReal.coe_mul]
  norm_num

theorem w256 : Ideal.ofBits FTy.f32 1132462080#32 = ((256 : ℝ) : EReal) := by
  simp [Ideal.ofBits, Ideal.ieee]
  rw [← EReal.coe_mul]
  norm_num

theorem w10000 : Ideal.ofBits FTy.f32 1176256512#32 = ((10000 : ℝ) : EReal) := by
  simp [Ideal.ofBits, Ideal.ieee]
  rw [← EReal.coe_mul]
  norm_num

theorem w16 : Ideal.ofBits FTy.f32 0x41800000#32 = ((16 : ℝ) : EReal) := by
  simp [Ideal.ofBits, Ideal.ieee]
  rw [← EReal.coe_mul]
  norm_num

theorem w2064 : Ideal.ofBits FTy.f32 0x45010000#32 = ((2064 : ℝ) : EReal) := by
  simp [Ideal.ofBits, Ideal.ieee]
  rw [← EReal.coe_mul]
  norm_num

theorem w1 : Ideal.ofBits FTy.f32 0x3F800000#32 = 1 := by
  simp [Ideal.ofBits, Ideal.ieee]
  rw [← EReal.coe_mul]
  norm_num

theorem sc_real : sc = ((1 / 16 : ℝ) : EReal) := by
  unfold sc
  simp [Ideal.ofBits, Ideal.ieee]
  rw [← EReal.coe_mul]
  norm_num

/-- A whole number read as a real one. -/
theorem num (n : ℕ) (h : n < 2 ^ 31) : (FloatOps.sitofp (F := Ideal) FTy.f32 (BitVec.ofNat 32 n) : EReal) = ((n : ℝ) : EReal) := by
  show (((BitVec.ofNat 32 n).toInt : ℝ) : EReal) = _
  have e : (BitVec.ofNat 32 n).toInt = (n : ℤ) := by
    have hm : (BitVec.ofNat 32 n).toNat = n := by rw [BitVec.toNat_ofNat]; omega
    rw [BitVec.toInt_eq_toNat_of_lt (by rw [hm]; omega), hm]
  rw [e]
  norm_num

/-- The frequency of a lane. -/
def frq (j : Fin 128) : EReal :=
  Ideal.pow (Ideal.ofBits FTy.f32 1176256512#32)
    (Ideal.div (-(Ideal.ofBits FTy.f32 1073741824#32 * (FloatOps.sitofp (F := Ideal) FTy.f32 (BitVec.ofNat 32 j.val) : EReal)))
      (Ideal.ofBits FTy.f32 1132462080#32))

theorem frq_real (j : Fin 128) : ∃ r : ℝ, frq j = (r : EReal) := by
  unfold frq
  rw [w10000, w2, w256, num _ (by omega), ← EReal.coe_mul, ← EReal.coe_neg]
  unfold Ideal.div
  rw [if_neg (by norm_num), ← EReal.coe_inv, ← EReal.coe_mul]
  exact ⟨_, Ideal.pow_coe_coe _ _⟩

/-- The position of a row: the prompt's rows follow the sixteen meta tokens, each of the sixteen running requests has
64 rows from 2064 on, and the last 256 rows (the meta tokens and padding) count from 0 in blocks of 64. -/
def posN (t : Fin 17664) : ℕ :=
  if t.val < 16384 then 16 + t.val else if t.val < 17408 then 2064 + (t.val - 16384) % 64 else (t.val - 17408) % 64

def ang (t : Fin 17664) (j : Fin 128) : EReal := ((posN t : ℝ) : EReal) * frq j
def cosT (t : Fin 17664) (j : Fin 128) : EReal := Ideal.cos (ang t j)
def sinT (t : Fin 17664) (j : Fin 128) : EReal := Ideal.sin (ang t j)

theorem cos_split (p o n : ℕ) (hn : n = p + o) (x y : EReal) (hx : x = ((p : ℝ) : EReal)) (hy : y = ((o : ℝ) : EReal)) (j : Fin 128) :
    Ideal.cos (x * frq j) * Ideal.cos (y * frq j) - Ideal.sin (x * frq j) * Ideal.sin (y * frq j) = Ideal.cos (((n : ℝ) : EReal) * frq j) := by
  obtain ⟨r, hr⟩ := frq_real j
  subst hx hy hn
  simp only [hr, ← EReal.coe_mul, Ideal.cos_coe, Ideal.sin_coe, ← EReal.coe_sub]
  rw [← Real.cos_add, ← add_mul]
  push_cast
  rfl

theorem sin_split (p o n : ℕ) (hn : n = p + o) (x y : EReal) (hx : x = ((p : ℝ) : EReal)) (hy : y = ((o : ℝ) : EReal)) (j : Fin 128) :
    Ideal.sin (x * frq j) * Ideal.cos (y * frq j) + Ideal.cos (x * frq j) * Ideal.sin (y * frq j) = Ideal.sin (((n : ℝ) : EReal) * frq j) := by
  obtain ⟨r, hr⟩ := frq_real j
  subst hx hy hn
  simp only [hr, ← EReal.coe_mul, Ideal.cos_coe, Ideal.sin_coe, ← EReal.coe_add]
  rw [← Real.sin_add, ← add_mul]
  push_cast
  rfl

theorem dist_add (x y : EReal) : (x + y) * sc = x * sc + y * sc := by
  rw [sc_real]
  exact EReal.right_distrib_of_nonneg_of_ne_top (by exact_mod_cast (by norm_num : (0 : ℝ) ≤ 1 / 16)) (EReal.coe_ne_top _) x y

theorem dist_sub (x y : EReal) : (x - y) * sc = x * sc - y * sc := by
  rw [sub_eq_add_neg, dist_add, EReal.neg_mul, ← sub_eq_add_neg]

/-- Scaling a rotated row is rotating by scaled cosines and sines. -/
theorem rot_sc (q : Fin 256 → EReal) (c s : Fin 128 → EReal) (d : Fin 256) :
    rot q (fun j => c j * sc) (fun j => s j * sc) d = rot q c s d * sc := by
  unfold rot
  split
  · rw [dist_sub, mul_assoc, mul_assoc]
  · rw [dist_add, mul_assoc, mul_assoc]

end Cert.ProjAt
end
-- ==== Proof.ProjHost.lean ====
module

public import proofs.«01_k».proof.Proof.ProjArr
public import proofs.«01_k».proof.Proof.ProjTab
public import Idealize.ShloMosaic.Lib.StableHlo.RunRead

/-! What the operations before the kernel leave, read at an index. -/

@[expose] public section

set_option maxRecDepth 100000

noncomputable section

namespace Cert.ProjIdeal.Gen

open Idealize.ShloMosaic Idealize.ShloMosaic.TcCoe Idealize.ShloMosaic.Tactic Cert.ProjAt

variable (m : (ℓ : Loc nD τ sig) → Buf (Elt Ideal) ℓ) (c : Dev nD)

theorem rW (r : Fin 18448) (e : Fin 4096) : RW m c (ix2 r e) = (m ((c : Thread nD τ).loc main_arg1) : Vec Ideal S4096x18448 .f32) (ix2 e r) := by
  unfold RW V
  simp only [List.flatten_cons, List.flatten_nil, List.append_nil, List.cons_append, List.nil_append]
  after_reads_simp
  pointwise []

/-- The position of the first row of a block of 64. -/
def baseN (b : Fin 276) : ℕ := if b.val < 256 then 16 + 64 * b.val else if b.val < 272 then 2064 else 0

theorem base_num (b : Fin 276) (v : BitVec 32) (hv : v = BitVec.ofNat 32 (baseN b)) :
    (FloatOps.sitofp (F := Ideal) FTy.f32 v : EReal) = ((baseN b : ℝ) : EReal) := by
  subst hv
  exact num _ (by unfold baseN; split_ifs <;> omega)

/-- The block of 64 rows a row lies in. -/
abbrev blk64 (t : Fin 17664) : Fin 276 := ⟨t.val / 64, by omega⟩

theorem posN_split (t : Fin 17664) : posN t = baseN (blk64 t) + t.val % 64 := by
  unfold posN baseN
  split_ifs <;> dsimp only at * <;> omega

theorem rC (t : Fin 17664) (j : Fin 128) : RC m c (ix2 t j) = cosT t j := by
  unfold RC V
  simp only [List.flatten_cons, List.flatten_nil, List.append_nil, List.cons_append, List.nil_append]
  after_reads_simp
  pointwise []
  refine cos_split (baseN (blk64 t)) (t.val % 64) (posN t) (posN_split t) _ _ ?_ (num _ (by omega)) j
  refine base_num (blk64 t) _ ?_
  unfold blk64
  generalize (⟨t.val / 64, by omega⟩ : Fin 276) = b
  revert b
  decide +kernel

theorem rS (t : Fin 17664) (j : Fin 128) : RS m c (ix2 t j) = sinT t j := by
  unfold RS V
  simp only [List.flatten_cons, List.flatten_nil, List.append_nil, List.cons_append, List.nil_append]
  after_reads_simp
  pointwise []
  refine sin_split (baseN (blk64 t)) (t.val % 64) (posN t) (posN_split t) _ _ ?_ (num _ (by omega)) j
  refine base_num (blk64 t) _ ?_
  unfold blk64
  generalize (⟨t.val / 64, by omega⟩ : Fin 276) = b
  revert b
  decide +kernel

theorem rCt (t : Fin 17664) (j : Fin 128) : RCt m c (ix2 j t) = RC m c (ix2 t j) := by
  unfold RC RCt V
  simp only [List.flatten_cons, List.flatten_nil, List.append_nil, List.cons_append, List.nil_append]
  after_reads_simp
  pointwise []

theorem rSt (t : Fin 17664) (j : Fin 128) : RSt m c (ix2 j t) = RS m c (ix2 t j) := by
  unfold RS RSt V
  simp only [List.flatten_cons, List.flatten_nil, List.append_nil, List.cons_append, List.nil_append]
  after_reads_simp
  pointwise []

/-- The nine projections of a row in a head, from the arguments. -/
def prA (X : Vec Ideal S17664x4096 .bf16) (W : Vec Ideal S4096x18448 .f32) (t : Fin 17664) (h : Fin 8) (k : Fin 9) (d : Fin 256) : EReal :=
  ∑ e : Fin 4096, X (ix2 t e) * W (ix2 e (wr k h d))

abbrev A0 : Vec Ideal S17664x4096 .bf16 := m ((c : Thread nD τ).loc main_arg0)
abbrev A1 : Vec Ideal S4096x18448 .f32 := m ((c : Thread nD τ).loc main_arg1)
abbrev A2 : Vec Ideal S4096x4096 .f32 := m ((c : Thread nD τ).loc main_arg2)

theorem prj_eq : prj (RX m c) (RW m c) = prA (A0 m c) (A1 m c) := by
  funext t h k d
  unfold prj prA
  rw [show RX m c = A0 m c from V_main_arg0 m c]
  exact Finset.sum_congr rfl fun e _ => congrArg _ (rW m c _ e)

theorem tabC : (fun t j => RC m c (ix2 t j)) = cosT := by
  funext t j
  exact rC m c t j

theorem tabCt : (fun t j => RCt m c (ix2 j t)) = cosT := by
  funext t j
  exact (rCt m c t j).trans (congrFun (congrFun (tabC m c) t) j)

theorem tabS : (fun t j => RS m c (ix2 t j)) = sinT := by
  funext t j
  exact rS m c t j

theorem tabSt : (fun t j => RSt m c (ix2 j t)) = sinT := by
  funext t j
  exact (rSt m c t j).trans (congrFun (congrFun (tabS m c) t) j)

theorem out15 : (dats m 0 c).arrAt 15 cfg0.N = pArr (prA (A0 m c) (A1 m c)) cosT sinT := by
  rw [arr15, prj_eq, tabC, tabS]

theorem out16 : (dats m 0 c).arrAt 16 cfg0.N = ktArr (prA (A0 m c) (A1 m c)) cosT sinT := by
  rw [arr16, prj_eq, tabCt, tabSt]

theorem out17 : (dats m 0 c).arrAt 17 cfg0.N = woArr (A2 m c) := by
  rw [arr17, show RO m c = A2 m c from V_main_arg2 m c]

end Cert.ProjIdeal.Gen
end
-- ==== Proof.ProjRef.lean ====
module

public import proofs.«01_k».proof.Proof.Gen.ProjRefIdeal.Read
public import proofs.«01_k».proof.Proof.ProjTab

/-! The reference's input projection, read at an index. -/

@[expose] public section

set_option maxRecDepth 100000

noncomputable section

namespace Cert.ProjRefAt

open Idealize.ShloMosaic Cert.ProjRefIdeal Cert.ProjRefIdeal.Read Cert.ProjAt

variable (x0 : FVec Ideal S17664x4096 .bf16) (x1 : FVec Ideal S4096x18448 .f32) (x2 : FVec Ideal S4096x4096 .f32)
  (t : Fin 17664) (h : Fin 8) (d : Fin 256) (j : Fin 128)

/-- A column of the weights. -/
abbrev wc (k : Fin 9) (h : Fin 8) (d : Fin 256) : Fin 18448 := ⟨k.val * 2048 + h.val * 256 + d.val, by omega⟩

/-- The nine projections of a row in a head. -/
def pj (t : Fin 17664) (h : Fin 8) (k : Fin 9) (d : Fin 256) : EReal := ∑ e : Fin 4096, x0 (ix2 t e) * x1 (ix2 e (wc k h d))

theorem p0_at : val_main_v15 (F := Ideal) x0 x1 (ix3 t h d) = pj x0 x1 t h 0 d := by
  rw [val_main_v15_apply, val_main_v14_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show ((t.val * 8 + h.val) * 256 + d.val) % 2048 = 0 * 2048 + h.val * 256 + d.val; omega

theorem p1_at : val_main_v17 (F := Ideal) x0 x1 (ix3 t h d) = pj x0 x1 t h 1 d := by
  rw [val_main_v17_apply, val_main_v16_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 2048 + ((t.val * 8 + h.val) * 256 + d.val) % 2048 = 1 * 2048 + h.val * 256 + d.val; omega

theorem p2_at : val_main_v19 (F := Ideal) x0 x1 (ix3 t h d) = pj x0 x1 t h 2 d := by
  rw [val_main_v19_apply, val_main_v18_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 4096 + ((t.val * 8 + h.val) * 256 + d.val) % 2048 = 2 * 2048 + h.val * 256 + d.val; omega

theorem p3_at : val_main_v21 (F := Ideal) x0 x1 (ix3 t h d) = pj x0 x1 t h 3 d := by
  rw [val_main_v21_apply, val_main_v20_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 6144 + ((t.val * 8 + h.val) * 256 + d.val) % 2048 = 3 * 2048 + h.val * 256 + d.val; omega

theorem p4_at : val_main_v23 (F := Ideal) x0 x1 (ix3 t h d) = pj x0 x1 t h 4 d := by
  rw [val_main_v23_apply, val_main_v22_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 8192 + ((t.val * 8 + h.val) * 256 + d.val) % 2048 = 4 * 2048 + h.val * 256 + d.val; omega

theorem p5_at : val_main_v25 (F := Ideal) x0 x1 (ix3 t h d) = pj x0 x1 t h 5 d := by
  rw [val_main_v25_apply, val_main_v24_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 10240 + ((t.val * 8 + h.val) * 256 + d.val) % 2048 = 5 * 2048 + h.val * 256 + d.val; omega

theorem p6_at : val_main_v27 (F := Ideal) x0 x1 (ix3 t h d) = pj x0 x1 t h 6 d := by
  rw [val_main_v27_apply, val_main_v26_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 12288 + ((t.val * 8 + h.val) * 256 + d.val) % 2048 = 6 * 2048 + h.val * 256 + d.val; omega

theorem p7_at : val_main_v29 (F := Ideal) x0 x1 (ix3 t h d) = pj x0 x1 t h 7 d := by
  rw [val_main_v29_apply, val_main_v28_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 14336 + ((t.val * 8 + h.val) * 256 + d.val) % 2048 = 7 * 2048 + h.val * 256 + d.val; omega

theorem p8_at : val_main_v31 (F := Ideal) x0 x1 (ix3 t h d) = pj x0 x1 t h 8 d := by
  rw [val_main_v31_apply, val_main_v30_apply, val_main_v13_apply]
  have := t.isLt; have := h.isLt; have := d.isLt
  refine Finset.sum_congr rfl fun e _ => ?_
  rw [val_main_v12_apply]
  refine congrArg₂ (fun a b : EReal => a * b) (congrArg x0 (funext fun a => Fin.ext ?_)) (congrArg x1 (funext fun a => Fin.ext ?_))
  · match a with
    | ⟨0, _⟩ => show ((t.val * 8 + h.val) * 256 + d.val) / 2048 = t.val; omega
    | ⟨1, _⟩ => rfl
  · match a with
    | ⟨0, _⟩ => rfl
    | ⟨1, _⟩ => show 16384 + ((t.val * 8 + h.val) * 256 + d.val) % 2048 = 8 * 2048 + h.val * 256 + d.val; omega

theorem pos_at : val_main_v11 (F := Ideal) (ix1 t) = ((posN t : ℝ) : EReal) := by
  unfold val_main_v11
  have ht := t.isLt
  by_cases h0 : t.val < 16384
  · refine (concatenate_apply_piece (t := S17664) 0 _ _ (ix1 t) 0 (by decide) S16384 _ rfl rfl 0 rfl (ix1 ⟨t.val, h0⟩)
      (fun b hb => match b with | ⟨0, _⟩ => absurd rfl hb) (by show 0 + t.val = t.val; omega)).trans ?_
    rw [val_main_v2_apply, val_main_v1_apply, val_main_cst_apply]
    show Ideal.ofBits FTy.f32 0x41800000#32 + (FloatOps.sitofp (F := Ideal) FTy.f32 (BitVec.ofNat 32 t.val) : EReal) = _
    rw [w16, num _ (by omega), ← EReal.coe_add, posN, if_pos h0]
    push_cast
    rfl
  · by_cases h1 : t.val < 17408
    · refine (concatenate_apply_piece (t := S17664) 0 _ _ (ix1 t) 1 (by decide) S1024 _ rfl rfl 16384 rfl (ix1 ⟨t.val - 16384, by omega⟩)
        (fun b hb => match b with | ⟨0, _⟩ => absurd rfl hb) (by show 16384 + (t.val - 16384) = t.val; omega)).trans ?_
      rw [val_main_v8_apply, val_main_v7_apply, val_main_v5_apply, val_main_v4_apply, val_main_cst_0_apply]
      show Ideal.ofBits FTy.f32 0x45010000#32 + (FloatOps.sitofp (F := Ideal) FTy.f32 (BitVec.ofNat 32 ((t.val - 16384) % 64)) : EReal) = _
      rw [w2064, num _ (by omega), ← EReal.coe_add, posN, if_neg h0, if_pos h1]
      push_cast
      rfl
    · refine (concatenate_apply_piece (t := S17664) 0 _ _ (ix1 t) 2 (by decide) S256 _ rfl rfl 17408 rfl (ix1 ⟨t.val - 17408, by omega⟩)
        (fun b hb => match b with | ⟨0, _⟩ => absurd rfl hb) (by show 17408 + (t.val - 17408) = t.val; omega)).trans ?_
      rw [val_main_v10_apply, val_main_v9_apply]
      show (FloatOps.sitofp (F := Ideal) FTy.f32 (BitVec.ofNat 32 ((t.val - 17408) % 64)) : EReal) = _
      rw [num _ (by omega), posN, if_neg h0, if_neg h1]

theorem frqq_at : val_main_v41 (F := Ideal) (ix1 j) = frq j := by
  rw [val_main_v41_apply, val_main_v40_apply, val_main_cst_4_apply, val_main_v39_apply, val_main_v38_apply, val_main_cst_3_apply,
    val_main_v37_apply, val_main_v36_apply, val_main_v35_apply, val_main_cst_2_apply, val_main_v34_apply, val_main_v33_apply, val_main_cst_1_apply]
  show Ideal.pow (Ideal.ofBits FTy.f32 1176256512#32)
    (Ideal.div (-(Ideal.ofBits FTy.f32 0x00000000#32 + Ideal.ofBits FTy.f32 1073741824#32 * (FloatOps.sitofp (F := Ideal) FTy.f32 (BitVec.ofNat 32 j.val) : EReal)))
      (Ideal.ofBits FTy.f32 1132462080#32)) = frq j
  rw [Ideal.ofBits_zero, zero_add]
  rfl

theorem angq_at : val_main_v46 (F := Ideal) (ix2 t j) = ang t j := by
  rw [val_main_v46_apply, val_main_v44_apply, val_main_v42_apply, val_main_v45_apply, val_main_v43_apply,
    show idx_main_v42 (idx_main_v44 (ix2 t j)) = ix1 t from funext fun a => match a with | ⟨0, _⟩ => rfl,
    show idx_main_v43 (idx_main_v45 (ix2 t j)) = ix1 j from funext fun a => match a with | ⟨0, _⟩ => rfl, pos_at, frqq_at]
  rfl

theorem qlo_at : val_main_v57 (F := Ideal) x0 x1 (ix3 t h j) = rot (pj x0 x1 t h 5) (cosT t) (sinT t) (lo j) := by
  rw [val_main_v57_apply, val_main_v54_apply, val_main_v56_apply, val_main_v51_apply, val_main_v52_apply, val_main_v53_apply, val_main_v55_apply,
    val_main_v48_apply, val_main_v50_apply, val_main_v47_apply, val_main_v49_apply,
    show idx_main_v51 (ix3 t h j) = ix3 t h (lo j) from funext fun a => match a with | ⟨0, _⟩ => rfl | ⟨1, _⟩ => rfl | ⟨2, _⟩ => rfl,
    show idx_main_v52 (ix3 t h j) = ix3 t h (hi j) from funext fun a => match a with | ⟨0, _⟩ => rfl | ⟨1, _⟩ => rfl | ⟨2, _⟩ => rfl,
    show idx_main_v48 (idx_main_v53 (ix3 t h j)) = ix2 t j from funext fun a => match a with | ⟨0, _⟩ => rfl | ⟨1, _⟩ => rfl,
    show idx_main_v50 (idx_main_v55 (ix3 t h j)) = ix2 t j from funext fun a => match a with | ⟨0, _⟩ => rfl | ⟨1, _⟩ => rfl, p5_at, p5_at, angq_at, rot_lo]
  rfl

theorem qhi_at : val_main_v62 (F := Ideal) x0 x1 (ix3 t h j) = rot (pj x0 x1 t h 5) (cosT t) (sinT t) (hi j) := by
  rw [val_main_v62_apply, val_main_v59_apply, val_main_v61_apply, val_main_v51_apply, val_main_v52_apply, val_main_v58_apply, val_main_v60_apply,
    val_main_v48_apply, val_main_v50_apply, val_main_v47_apply, val_main_v49_apply,
    show idx_main_v51 (ix3 t h j) = ix3 t h (lo j) from funext fun a => match a with | ⟨0, _⟩ => rfl | ⟨1, _⟩ => rfl | ⟨2, _⟩ => rfl,
    show idx_main_v52 (ix3 t h j) = ix3 t h (hi j) from funext fun a => match a with | ⟨0, _⟩ => rfl | ⟨1, _⟩ => rfl | ⟨2, _⟩ => rfl,
    show idx_main_v50 (idx_main_v58 (ix3 t h j)) = ix2 t j from funext fun a => match a with | ⟨0, _⟩ => rfl | ⟨1, _⟩ => rfl,
    show idx_main_v48 (idx_main_v60 (ix3 t h j)) = ix2 t j from funext fun a => match a with | ⟨0, _⟩ => rfl | ⟨1, _⟩ => rfl, p5_at, p5_at, angq_at, rot_hi]
  rfl

theorem qrot_at : val_main_v63 (F := Ideal) x0 x1 (ix3 t h d) = rot (pj x0 x1 t h 5) (cosT t) (sinT t) d := by
  unfold val_main_v63
  have hd := d.isLt
  by_cases hlo : d.val < 128
  · refine (concatenate_pair_apply_left (t := S17664x8x256) (s₁ := S17664x8x128) (s₂ := S17664x8x128) 2
      (val_main_v57 (F := Ideal) x0 x1) (val_main_v62 (F := Ideal) x0 x1) _ (ix3 t h d) rfl (ix3 t h ⟨d.val, hlo⟩)
      (fun b => match b with | ⟨0, _⟩ => rfl | ⟨1, _⟩ => rfl | ⟨2, _⟩ => rfl)).trans ?_
    rw [qlo_at]
  · refine (concatenate_pair_apply_right (t := S17664x8x256) (s₁ := S17664x8x128) (s₂ := S17664x8x128) 2
      (val_main_v57 (F := Ideal) x0 x1) (val_main_v62 (F := Ideal) x0 x1) _ (ix3 t h d) rfl rfl (ix3 t h ⟨d.val - 128, by omega⟩)
      (fun b => match b with | ⟨0, _⟩ => fun _ => rfl | ⟨1, _⟩ => fun _ => rfl | ⟨2, _⟩ => fun hb => absurd rfl hb)
      (by show d.val - 128 + 128 = d.val; omega)).trans ?_
    rw [qhi_at, show hi ⟨d.val - 128, by omega⟩ = d from Fin.ext (by show 128 + (d.val - 128) = d.val; omega)]

theorem frqk_at : val_main_v73 (F := Ideal) (ix1 j) = frq j := by
  rw [val_main_v73_apply, val_main_v72_apply, val_main_cst_8_apply, val_main_v71_apply, val_main_v70_apply, val_main_cst_7_apply,
    val_main_v69_apply, val_main_v68_apply, val_main_v67_apply, val_main_cst_6_apply, val_main_v66_apply, val_main_v65_apply, val_main_cst_5_apply]
  show Ideal.pow (Ideal.ofBits FTy.f32 1176256512#32)
    (Ideal.div (-(Ideal.ofBits FTy.f32 0x00000000#32 + Ideal.ofBits FTy.f32 1073741824#32 * (FloatOps.sitofp (F := Ideal) FTy.f32 (BitVec.ofNat 32 j.val) : EReal)))
      (Ideal.ofBits FTy.f32 1132462080#32)) = frq j
  rw [Ideal.ofBits_zero, zero_add]
  rfl

theorem angk_at : val_main_v78 (F := Ideal) (ix2 t j) = ang t j := by
  rw [val_main_v78_apply, val_main_v76_apply, val_main_v74_apply, val_main_v77_apply, val_main_v75_apply,
    show idx_main_v74 (idx_main_v76 (ix2 t j)) = ix1 t from funext fun a => match a with | ⟨0, _⟩ => rfl,
    show idx_main_v75 (idx_main_v77 (ix2 t j)) = ix1 j from funext fun a => match a with | ⟨0, _⟩ => rfl, pos_at, frqk_at]
  rfl

theorem klo_at : val_main_v89 (F := Ideal) x0 x1 (ix3 t h j) = rot (pj x0 x1 t h 6) (cosT t) (sinT t) (lo j) := by
  rw [val_main_v89_apply, val_main_v86_apply, val_main_v88_apply, val_main_v83_apply, val_main_v84_apply, val_main_v85_apply, val_main_v87_apply,
    val_main_v80_apply, val_main_v82_apply, val_main_v79_apply, val_main_v81_apply,
    show idx_main_v83 (ix3 t h j) = ix3 t h (lo j) from funext fun a => match a with | ⟨0, _⟩ => rfl | ⟨1, _⟩ => rfl | ⟨2, _⟩ => rfl,
    show idx_main_v84 (ix3 t h j) = ix3 t h (hi j) from funext fun a => match a with | ⟨0, _⟩ => rfl | ⟨1, _⟩ => rfl | ⟨2, _⟩ => rfl,
    show idx_main_v80 (idx_main_v85 (ix3 t h j)) = ix2 t j from funext fun a => match a with | ⟨0, _⟩ => rfl | ⟨1, _⟩ => rfl,
    show idx_main_v82 (idx_main_v87 (ix3 t h j)) = ix2 t j from funext fun a => match a with | ⟨0, _⟩ => rfl | ⟨1, _⟩ => rfl, p6_at, p6_at, angk_at, rot_lo]
  rfl

theorem khi_at : val_main_v94 (F := Ideal) x0 x1 (ix3 t h j) = rot (pj x0 x1 t h 6) (cosT t) (sinT t) (hi j) := by
  rw [val_main_v94_apply, val_main_v91_apply, val_main_v93_apply, val_main_v83_apply, val_main_v84_apply, val_main_v90_apply, val_main_v92_apply,
    val_main_v80_apply, val_main_v82_apply, val_main_v79_apply, val_main_v81_apply,
    show idx_main_v83 (ix3 t h j) = ix3 t h (lo j) from funext fun a => match a with | ⟨0, _⟩ => rfl | ⟨1, _⟩ => rfl | ⟨2, _⟩ => rfl,
    show idx_main_v84 (ix3 t h j) = ix3 t h (hi j) from funext fun a => match a with | ⟨0, _⟩ => rfl | ⟨1, _⟩ => rfl | ⟨2, _⟩ => rfl,
    show idx_main_v82 (idx_main_v90 (ix3 t h j)) = ix2 t j from funext fun a => match a with | ⟨0, _⟩ => rfl | ⟨1, _⟩ => rfl,
    show idx_main_v80 (idx_main_v92 (ix3 t h j)) = ix2 t j from funext fun a => match a with | ⟨0, _⟩ => rfl | ⟨1, _⟩ => rfl, p6_at, p6_at, angk_at, rot_hi]
  rfl

theorem krot_at : val_main_v95 (F := Ideal) x0 x1 (ix3 t h d) = rot (pj x0 x1 t h 6) (cosT t) (sinT t) d := by
  unfold val_main_v95
  have hd := d.isLt
  by_cases hlo : d.val < 128
  · refine (concatenate_pair_apply_left (t := S17664x8x256) (s₁ := S17664x8x128) (s₂ := S17664x8x128) 2
      (val_main_v89 (F := Ideal) x0 x1) (val_main_v94 (F := Ideal) x0 x1) _ (ix3 t h d) rfl (ix3 t h ⟨d.val, hlo⟩)
      (fun b => match b with | ⟨0, _⟩ => rfl | ⟨1, _⟩ => rfl | ⟨2, _⟩ => rfl)).trans ?_
    rw [klo_at]
  · refine (concatenate_pair_apply_right (t := S17664x8x256) (s₁ := S17664x8x128) (s₂ := S17664x8x128) 2
      (val_main_v89 (F := Ideal) x0 x1) (val_main_v94 (F := Ideal) x0 x1) _ (ix3 t h d) rfl rfl (ix3 t h ⟨d.val - 128, by omega⟩)
      (fun b => match b with | ⟨0, _⟩ => fun _ => rfl | ⟨1, _⟩ => fun _ => rfl | ⟨2, _⟩ => fun hb => absurd rfl hb)
      (by show d.val - 128 + 128 = d.val; omega)).trans ?_
    rw [khi_at, show hi ⟨d.val - 128, by omega⟩ = d from Fin.ext (by show 128 + (d.val - 128) = d.val; omega)]

theorem sig_at : val_main_v103 (F := Ideal) x0 x1 (ix3 t h d) = Ideal.logistic (pj x0 x1 t h 3 d) := by
  rw [val_main_v103_apply, val_main_v102_apply, val_main_cst_11_apply, val_main_v101_apply, val_main_v100_apply, val_main_cst_10_apply,
    val_main_v99_apply, val_main_v98_apply, p3_at]
  show Ideal.div (Ideal.ofBits FTy.f32 0x3F800000#32) (Ideal.ofBits FTy.f32 0x3F800000#32 + Ideal.exp (-(pj x0 x1 t h 3 d))) = _
  rw [w1]
  rfl

theorem sa_at : val_main_v104 (F := Ideal) x0 x1 (ix3 t h d) = pj x0 x1 t h 4 d * Ideal.logistic (pj x0 x1 t h 4 d) := by
  rw [val_main_v104_apply, val_main_call0_v5_apply, val_main_call0_v4_apply, val_main_call0_cst_0_apply, val_main_call0_v3_apply, val_main_call0_v2_apply, val_main_call0_cst_apply,
    val_main_call0_v1_apply, val_main_call0_v0_apply, p4_at]
  show pj x0 x1 t h 4 d * Ideal.div (Ideal.ofBits FTy.f32 0x3F800000#32) (Ideal.ofBits FTy.f32 0x3F800000#32 + Ideal.exp (-(pj x0 x1 t h 4 d))) = _
  rw [w1]
  rfl

theorem sb_at : val_main_v105 (F := Ideal) x0 x1 (ix3 t h d) = pj x0 x1 t h 8 d * Ideal.logistic (pj x0 x1 t h 8 d) := by
  rw [val_main_v105_apply, val_main_call1_v5_apply, val_main_call1_v4_apply, val_main_call1_cst_0_apply, val_main_call1_v3_apply, val_main_call1_v2_apply, val_main_call1_cst_apply,
    val_main_call1_v1_apply, val_main_call1_v0_apply, p8_at]
  show pj x0 x1 t h 8 d * Ideal.div (Ideal.ofBits FTy.f32 0x3F800000#32) (Ideal.ofBits FTy.f32 0x3F800000#32 + Ideal.exp (-(pj x0 x1 t h 8 d))) = _
  rw [w1]
  rfl

theorem v113_at (k : Fin 7) : val_main_v113 (F := Ideal) x0 x1 (ix4 t h k d) = secF (pj x0 x1 t h) (cosT t) (sinT t) k d := by
  unfold val_main_v113
  match k with
  | 0 =>
    refine (concatenate_apply_piece (t := S17664x8x7x256) 2 _ _ (ix4 t h 0 d) 0 (by show 0 < 7; decide) S17664x8x1x256 _ rfl rfl 0 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v106_apply, show idx_main_v106 (ix4 t h 0 d) = ix3 t h d from funext fun a => match a with | ⟨0, _⟩ => rfl | ⟨1, _⟩ => rfl | ⟨2, _⟩ => rfl, p0_at]
    rfl
  | 1 =>
    refine (concatenate_apply_piece (t := S17664x8x7x256) 2 _ _ (ix4 t h 1 d) 1 (by show 1 < 7; decide) S17664x8x1x256 _ rfl rfl 1 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v107_apply, show idx_main_v107 (ix4 t h 0 d) = ix3 t h d from funext fun a => match a with | ⟨0, _⟩ => rfl | ⟨1, _⟩ => rfl | ⟨2, _⟩ => rfl, p2_at]
    rfl
  | 2 =>
    refine (concatenate_apply_piece (t := S17664x8x7x256) 2 _ _ (ix4 t h 2 d) 2 (by show 2 < 7; decide) S17664x8x1x256 _ rfl rfl 2 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v108_apply, show idx_main_v108 (ix4 t h 0 d) = ix3 t h d from funext fun a => match a with | ⟨0, _⟩ => rfl | ⟨1, _⟩ => rfl | ⟨2, _⟩ => rfl, sig_at]
    rfl
  | 3 =>
    refine (concatenate_apply_piece (t := S17664x8x7x256) 2 _ _ (ix4 t h 3 d) 3 (by show 3 < 7; decide) S17664x8x1x256 _ rfl rfl 3 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v109_apply, show idx_main_v109 (ix4 t h 0 d) = ix3 t h d from funext fun a => match a with | ⟨0, _⟩ => rfl | ⟨1, _⟩ => rfl | ⟨2, _⟩ => rfl, sa_at]
    rfl
  | 4 =>
    refine (concatenate_apply_piece (t := S17664x8x7x256) 2 _ _ (ix4 t h 4 d) 4 (by show 4 < 7; decide) S17664x8x1x256 _ rfl rfl 4 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v110_apply, show idx_main_v110 (ix4 t h 0 d) = ix3 t h d from funext fun a => match a with | ⟨0, _⟩ => rfl | ⟨1, _⟩ => rfl | ⟨2, _⟩ => rfl, qrot_at]
    rfl
  | 5 =>
    refine (concatenate_apply_piece (t := S17664x8x7x256) 2 _ _ (ix4 t h 5 d) 5 (by show 5 < 7; decide) S17664x8x1x256 _ rfl rfl 5 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v111_apply, show idx_main_v111 (ix4 t h 0 d) = ix3 t h d from funext fun a => match a with | ⟨0, _⟩ => rfl | ⟨1, _⟩ => rfl | ⟨2, _⟩ => rfl, p7_at]
    rfl
  | 6 =>
    refine (concatenate_apply_piece (t := S17664x8x7x256) 2 _ _ (ix4 t h 6 d) 6 (by show 6 < 7; decide) S17664x8x1x256 _ rfl rfl 6 rfl (ix4 t h 0 d)
      (fun b => match b with | ⟨0, _⟩ => fun _ => rfl | ⟨1, _⟩ => fun _ => rfl | ⟨2, _⟩ => fun hb => absurd rfl hb | ⟨3, _⟩ => fun _ => rfl) rfl).trans ?_
    rw [val_main_v112_apply, show idx_main_v112 (ix4 t h 0 d) = ix3 t h d from funext fun a => match a with | ⟨0, _⟩ => rfl | ⟨1, _⟩ => rfl | ⟨2, _⟩ => rfl, sb_at]
    rfl

theorem v118_at (k : Fin 2) : val_main_v118 (F := Ideal) x0 x1 (ix4 t h k d) = keyF (pj x0 x1 t h) (cosT t) (sinT t) k d := by
  unfold val_main_v118
  match k with
  | 0 =>
    refine (concatenate_pair_apply_left (t := S17664x8x2x256) (s₁ := S17664x8x1x256) (s₂ := S17664x8x1x256) 2
      (val_main_v116 (F := Ideal) x0 x1) (val_main_v117 (F := Ideal) x0 x1) _ (ix4 t h 0 d) rfl (ix4 t h 0 d)
      (fun b => match b with | ⟨0, _⟩ => rfl | ⟨1, _⟩ => rfl | ⟨2, _⟩ => rfl | ⟨3, _⟩ => rfl)).trans ?_
    rw [val_main_v116_apply, show idx_main_v116 (ix4 t h 0 d) = ix3 t h d from funext fun a => match a with | ⟨0, _⟩ => rfl | ⟨1, _⟩ => rfl | ⟨2, _⟩ => rfl, val_main_v115_apply, val_main_v114_apply,
      val_main_cst_12_apply, p1_at]
    rfl
  | 1 =>
    refine (concatenate_pair_apply_right (t := S17664x8x2x256) (s₁ := S17664x8x1x256) (s₂ := S17664x8x1x256) 2
      (val_main_v116 (F := Ideal) x0 x1) (val_main_v117 (F := Ideal) x0 x1) _ (ix4 t h 1 d) rfl rfl (ix4 t h 0 d)
      (fun b => match b with | ⟨0, _⟩ => fun _ => rfl | ⟨1, _⟩ => fun _ => rfl | ⟨2, _⟩ => fun hb => absurd rfl hb | ⟨3, _⟩ => fun _ => rfl)
      rfl).trans ?_
    rw [val_main_v117_apply, show idx_main_v117 (ix4 t h 0 d) = ix3 t h d from funext fun a => match a with | ⟨0, _⟩ => rfl | ⟨1, _⟩ => rfl | ⟨2, _⟩ => rfl, val_main_v97_apply, val_main_v96_apply,
      val_main_cst_9_apply, krot_at]
    exact (rot_sc _ _ _ _).symm

theorem v120_at (k : Fin 7) (i : S17664x14336.Idx) (h0 : (i 0).val = t.val) (h1 : (i 1).val = h.val * 1792 + k.val * 256 + d.val) :
    val_main_v120 (F := Ideal) x0 x1 i = secF (pj x0 x1 t h) (cosT t) (sinT t) k d := by
  have := t.isLt; have := h.isLt; have := d.isLt; have := k.isLt
  rw [val_main_v120_apply, val_main_v119_apply]
  refine (congrArg (val_main_v113 (F := Ideal) x0 x1) (funext fun a => Fin.ext ?_)).trans (v113_at x0 x1 t h d k)
  match a with
  | ⟨0, _⟩ => show ((i 0).val * 14336 + (i 1).val) / 14336 = t.val; rw [h0, h1]; omega
  | ⟨1, _⟩ => show ((i 0).val * 14336 + (i 1).val) / 1792 % 8 = h.val; rw [h0, h1]; omega
  | ⟨2, _⟩ => show ((i 0).val * 14336 + (i 1).val) / 256 % 7 = k.val; rw [h0, h1]; omega
  | ⟨3, _⟩ => show ((i 0).val * 14336 + (i 1).val) % 256 = d.val; rw [h0, h1]; omega

theorem v123_at (k : Fin 2) (i : S8x512x17664.Idx) (h0 : (i 0).val = h.val) (h1 : (i 1).val = k.val * 256 + d.val) (h2 : (i 2).val = t.val) :
    val_main_v123 (F := Ideal) x0 x1 i = keyF (pj x0 x1 t h) (cosT t) (sinT t) k d := by
  have := t.isLt; have := h.isLt; have := d.isLt; have := k.isLt
  rw [val_main_v123_apply, val_main_v122_apply, val_main_v121_apply]
  refine (congrArg (val_main_v118 (F := Ideal) x0 x1) (funext fun a => Fin.ext ?_)).trans (v118_at x0 x1 t h d k)
  match a with
  | ⟨0, _⟩ => show (((i 2).val * 8 + (i 0).val) * 512 + (i 1).val) / 4096 = t.val; rw [h0, h1, h2]; omega
  | ⟨1, _⟩ => show (((i 2).val * 8 + (i 0).val) * 512 + (i 1).val) / 512 % 8 = h.val; rw [h0, h1, h2]; omega
  | ⟨2, _⟩ => show (((i 2).val * 8 + (i 0).val) * 512 + (i 1).val) / 256 % 2 = k.val; rw [h0, h1, h2]; omega
  | ⟨3, _⟩ => show (((i 2).val * 8 + (i 0).val) * 512 + (i 1).val) % 256 = d.val; rw [h0, h1, h2]; omega

theorem v127_at (i : S4096x4096.Idx) (r : Fin 4096) (hr : r.val = (i 0).val % 512 / 256 * 2048 + (i 0).val / 512 * 256 + (i 0).val % 256) :
    val_main_v127 (F := Ideal) x2 i = x2 (ix2 r (i 1)) := by
  have h0 : (i 0).val < 4096 := (i 0).isLt
  have h1 : (i 1).val < 4096 := (i 1).isLt
  rw [val_main_v127_apply, val_main_v126_apply, val_main_v125_apply, val_main_v124_apply]
  refine congrArg x2 (funext fun a => Fin.ext ?_)
  have e0 : ((i 0).val * 4096 + (i 1).val) / 2097152 = (i 0).val / 512 := by omega
  have e1 : ((i 0).val * 4096 + (i 1).val) / 1048576 % 2 = (i 0).val % 512 / 256 := by omega
  have e2 : ((i 0).val * 4096 + (i 1).val) / 4096 % 256 = (i 0).val % 256 := by omega
  have e3 : ((i 0).val * 4096 + (i 1).val) % 4096 = (i 1).val := by omega
  match a with
  | ⟨0, _⟩ =>
    show (((((i 0).val * 4096 + (i 1).val) / 1048576 % 2 * 8 + ((i 0).val * 4096 + (i 1).val) / 2097152) * 256
      + ((i 0).val * 4096 + (i 1).val) / 4096 % 256) * 4096 + ((i 0).val * 4096 + (i 1).val) % 4096) / 4096 = r.val
    rw [e0, e1, e2, e3, hr]
    omega
  | ⟨1, _⟩ =>
    show (((((i 0).val * 4096 + (i 1).val) / 1048576 % 2 * 8 + ((i 0).val * 4096 + (i 1).val) / 2097152) * 256
      + ((i 0).val * 4096 + (i 1).val) / 4096 % 256) * 4096 + ((i 0).val * 4096 + (i 1).val) % 4096) % 4096 = (i 1).val
    rw [e0, e1, e2, e3]
    omega

end Cert.ProjRefAt

end
-- ==== Proof.ProjVals.lean ====
module

public import proofs.«01_k».proof.Proof.ProjHost
public import proofs.«01_k».proof.Proof.ProjRef

/-! The kernel's three results are the reference's. -/

@[expose] public section

set_option maxRecDepth 100000

noncomputable section

namespace Cert.ProjIdeal.Gen

open Idealize.ShloMosaic Idealize.ShloMosaic.TcCoe Cert.ProjAt

variable (m : (ℓ : Loc nD τ sig) → Buf (Elt Ideal) ℓ) (c : Dev nD)

theorem prA_eq (X : Vec Ideal S17664x4096 .bf16) (W : Vec Ideal S4096x18448 .f32) : prA X W = Cert.ProjRefAt.pj X W := rfl

theorem p_val : (dats m 0 c).arrAt 15 cfg0.N = Cert.ProjRefIdeal.Read.val_main_v120 (F := Ideal) (A0 m c) (A1 m c) := by
  rw [out15, prA_eq]
  refine funext fun i => ?_
  have h1 : (i 1).val < 14336 := (i 1).isLt
  exact (Cert.ProjRefAt.v120_at (A0 m c) (A1 m c) (i 0) ⟨(i 1).val / 1792, by omega⟩ ⟨(i 1).val % 256, by omega⟩
    ⟨(i 1).val % 1792 / 256, by omega⟩ i rfl
    (by show (i 1).val = (i 1).val / 1792 * 1792 + (i 1).val % 1792 / 256 * 256 + (i 1).val % 256; omega)).symm

theorem kt_val : (dats m 0 c).arrAt 16 cfg0.N = Cert.ProjRefIdeal.Read.val_main_v123 (F := Ideal) (A0 m c) (A1 m c) := by
  rw [out16, prA_eq]
  refine funext fun i => ?_
  have h1 : (i 1).val < 512 := (i 1).isLt
  exact (Cert.ProjRefAt.v123_at (A0 m c) (A1 m c) (i 2) (i 0) ⟨(i 1).val % 256, by omega⟩ ⟨(i 1).val / 256, by omega⟩ i rfl
    (by show (i 1).val = (i 1).val / 256 * 256 + (i 1).val % 256; omega) rfl).symm

theorem wo_val : (dats m 0 c).arrAt 17 cfg0.N = Cert.ProjRefIdeal.Read.val_main_v127 (F := Ideal) (A2 m c) := by
  rw [out17]
  refine funext fun i => ?_
  exact (Cert.ProjRefAt.v127_at (A2 m c) i _ rfl).symm

end Cert.ProjIdeal.Gen
end
-- ==== Proof.OutSpec.lean ====
module

public import proofs.«01_k».proof.Proof.Gen.OutIdeal.Frame
public import Idealize.ShloMosaic.Lib.Pipeline.ValueKit
public import Idealize.ShloMosaic.Lib.Pointwise

/-! What one grid step of the output projection computes on its blocks. -/

@[expose] public section

set_option maxRecDepth 100000

noncomputable section

namespace Cert.OutIdeal.Gen

open Idealize.ShloMosaic Idealize.ShloMosaic.TcCoe Idealize.ShloMosaic.Tactic

/-- The product of a block of rows with a block of the weight. -/
def dotB (x0 : Vec Ideal S512x1024 .bf16) (x1 : Vec Ideal S1024x4096 .bf16) : Vec Ideal S512x4096 .f32 :=
  fun y => ∑ e : Fin 1024, x0 (ix2 (y 0) e) * x1 (ix2 e (y 1))

/-- A block plus another. -/
def addB (o z : Vec Ideal S512x4096 .f32) : Vec Ideal S512x4096 .f32 := fun y => o y + z y

/-- A block with the residual added to the `k`-th quarter of its columns. -/
def addS (k : Fin 4) (o : Vec Ideal S512x4096 .f32) (x2 : Vec Ideal S512x1024 .f32) : Vec Ideal S512x4096 .f32 :=
  fun y => if (y 1).val / 1024 = k.val then o y + x2 (ix2 (y 0) ⟨(y 1).val % 1024, Nat.mod_lt _ (by decide)⟩) else o y

/-- The last norm of a block of rows. -/
def normB (z : Vec Ideal S512x4096 .f32) (x3 : Vec Ideal S1x4096 .f32) : Vec Ideal S512x4096 .f32 :=
  fun y => z y * Ideal.rsqrt (Ideal.div (∑ e : Fin 4096, z (ix2 (y 0) e) * z (ix2 (y 0) e)) (Ideal.ofBits FTy.f32 0x45800000#32)
    + Ideal.ofBits FTy.f32 0x358637BD#32) * x3 (ix2 0 (y 1))

/-- A store of one quarter of the columns over what earlier stores left. -/
theorem canon_slab (k : Fin 4) {off : Fin S512x4096.rank → ℕ} (h0 : off 0 = 0) (h1 : off 1 = 1024 * k.val)
    (inb : ∀ a, off a + S512x1024.size a ≤ S512x4096.size a) (P : Vec Ideal S512x1024 .f32)
    (L : List (View.Piece (Elt Ideal) S512x4096 .f32)) (Z : Vec Ideal S512x4096 .f32) (x2 : Vec Ideal S512x1024 .f32)
    (hL : View.canon L = Z)
    (hP : ∀ j : S512x1024.Idx, P j = Z ((Rect.unit (s := S512x4096) off S512x1024.size inb).emb j) + x2 j) :
    View.canon ((⟨Rect.unit (s := S512x4096) off S512x1024.size inb, P⟩ : View.Piece (Elt Ideal) S512x4096 .f32) :: L) = addS k Z x2 := by
  funext y
  have hy : (y 1).val < 4096 := (y 1).isLt
  by_cases h : (y 1).val / 1024 = k.val
  · have e : (Rect.unit (s := S512x4096) off S512x1024.size inb).emb (ix2 (y 0) ⟨(y 1).val % 1024, Nat.mod_lt _ (by decide)⟩ : S512x1024.Idx) = y := by
      funext a
      match a with
      | ⟨0, _⟩ => exact Fin.ext (by show off 0 + 1 * (y 0).val = (y 0).val; omega)
      | ⟨1, _⟩ => exact Fin.ext (by show off 1 + 1 * ((y 1).val % 1024) = (y 1).val; omega)
    unfold addS
    rw [if_pos h]
    conv_lhs => rw [← e]
    refine (View.canon_cons_emb (Val := Elt Ideal) (Rect.unit (s := S512x4096) off S512x1024.size inb) P L _).trans ?_
    rw [hP, e]
  · unfold addS
    rw [if_neg h, ← hL]
    refine View.canon_cons_of_not_mem _ L fun hm => h ?_
    obtain ⟨x, hx⟩ := (Rect.unit (s := S512x4096) off S512x1024.size inb).exists_idx_of_mem hm
    have hx1 : (x 1).val < 1024 := (x 1).isLt
    have := congrArg (fun z => (z 1).val) hx
    have e : off 1 + 1 * (x 1).val = (y 1).val := this
    omega

end Cert.OutIdeal.Gen
end
-- ==== Proof.OutBlk.lean ====
module

public import proofs.«01_k».proof.Proof.OutSpec
public import Idealize.ShloMosaic.Lib.Pipeline.ReadBack

/-! Each case of a grid step leaves the block that `OutSpec` names. -/

@[expose] public section

set_option maxRecDepth 100000

noncomputable section

namespace Cert.OutIdeal.Gen

open Idealize.ShloMosaic Idealize.ShloMosaic.TcCoe Idealize.ShloMosaic.Tactic

theorem pay1_eq (x0 : Vec Ideal S512x1024 .bf16) (x1 : Vec Ideal S1024x4096 .bf16) : k0_pay1 (F := Ideal) x0 x1 = dotB x0 x1 := by
  funext y
  unfold_payloads
  pointwise []
  rfl

theorem pay2_eq (o : Vec Ideal S512x4096 .f32) (x0 : Vec Ideal S512x1024 .bf16) (x1 : Vec Ideal S1024x4096 .bf16) :
    k0_pay2 (F := Ideal) o x0 x1 = addB o (dotB x0 x1) := by
  funext y
  unfold_payloads
  pointwise []
  rfl

theorem pay3_eq (o x2 : Vec Ideal S512x1024 .f32) (j : S512x1024.Idx) : k0_pay3 (F := Ideal) o x2 j = o j + x2 j := by
  unfold_payloads
  pointwise []

theorem pay4_eq (o x2 : Vec Ideal S512x1024 .f32) (j : S512x1024.Idx) : k0_pay4 (F := Ideal) o x2 j = o j + x2 j := by
  unfold_payloads
  pointwise []

theorem pay5_eq (o x2 : Vec Ideal S512x1024 .f32) (j : S512x1024.Idx) : k0_pay5 (F := Ideal) o x2 j = o j + x2 j := by
  unfold_payloads
  pointwise []

theorem pay6_eq (o x2 : Vec Ideal S512x1024 .f32) (j : S512x1024.Idx) : k0_pay6 (F := Ideal) o x2 j = o j + x2 j := by
  unfold_payloads
  pointwise []

theorem pay7_eq (z : Vec Ideal S512x4096 .f32) (x3 : Vec Ideal S1x4096 .f32) : k0_pay7 (F := Ideal) z x3 = normB z x3 := by
  funext y
  unfold_payloads
  pointwise []
  rfl

theorem z2 : (![0, 0] : Fin 2 → ℕ) = fun _ => 0 := by decide
theorem zz (a : Fin 2) : (![0, 0] : Fin 2 → ℕ) a = 0 := by revert a; decide

theorem ldA {e : EltTy} (x : Vec Ideal S512x1024 e) : View.ld x (Rect.unit (s := S512x1024) ![0, 0] ![512, 1024] inb_S512x1024_S512x1024_0_0) = x :=
  View.ld_unit_zero z2 _ _
theorem ldW (x : Vec Ideal S1024x4096 .bf16) : View.ld x (Rect.unit (s := S1024x4096) ![0, 0] ![1024, 4096] inb_S1024x4096_S1024x4096_0_0) = x :=
  View.ld_unit_zero z2 _ _
theorem ldG (x : Vec Ideal S1x4096 .f32) : View.ld x (Rect.unit (s := S1x4096) ![0, 0] ![1, 4096] inb_S1x4096_S1x4096_0_0) = x :=
  View.ld_unit_zero z2 _ _
theorem ldO (x : Vec Ideal S512x4096 .f32) : View.ld x (Rect.unit (s := S512x4096) ![0, 0] ![512, 4096] inb_S512x4096_S512x4096_0_0) = x :=
  View.ld_unit_zero z2 _ _

theorem blk_A (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (hc0 : cond0_0 i) (hc1 : ¬cond0_1 i) (hc2 : cond0_2 i) (hc3 : ¬cond0_3 i) (hc4 : ¬cond0_4 i) (hc5 : ¬cond0_5 i) (hc6 : ¬cond0_6 i)
    (x0 : Vec Ideal S512x1024 .bf16) (x1 : Vec Ideal S1024x4096 .bf16) (x2 : Vec Ideal S512x1024 .f32) (x3 : Vec Ideal S1x4096 .f32) :
    out0_A_4 (F := Ideal) c i arg2 harg2 arg3 harg3 arg4 harg4 arg5 harg5 arg6 harg6 hc0 hc1 hc2 hc3 hc4 hc5 hc6 x0 x1 x2 x3 = addS 0 (dotB x0 x1) x2 := by
  unfold out0_A_4
  rw [View.read_writes_junk_eq_canon]
  unfold kernelRun0_A
  dsimp only
  sl_unfold_words
  simp only [View.readAt_eq_ld, harg2.read_unread, harg3.read_unread, harg4.read_unread, harg5.read_unread, harg6.read_unread]
  simp only [ldA x0, ldW x1, ldA x2, ldG x3, pay1_eq]
  simp only [View.readCov_fill arg6.view inb_S512x4096_S512x4096_0_0 (dotB x0 x1) [] _ zz]
  exact canon_slab 0 rfl rfl _ _ _ (dotB x0 x1) x2 (View.canon_unit_zero z2 _ _)
    fun j => pay3_eq _ _ j

theorem blk_B (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (hc0 : ¬cond0_0 i) (hc1 : cond0_1 i) (hc2 : ¬cond0_2 i) (hc3 : cond0_3 i) (hc4 : ¬cond0_4 i) (hc5 : ¬cond0_5 i) (hc6 : ¬cond0_6 i)
    (x0 : Vec Ideal S512x1024 .bf16) (x1 : Vec Ideal S1024x4096 .bf16) (x2 : Vec Ideal S512x1024 .f32) (x3 : Vec Ideal S1x4096 .f32) (xo4 : Vec Ideal S512x4096 .f32) :
    out0_B_4 (F := Ideal) c i arg2 harg2 arg3 harg3 arg4 harg4 arg5 harg5 arg6 harg6 hc0 hc1 hc2 hc3 hc4 hc5 hc6 x0 x1 x2 x3 xo4 = addS 1 (addB xo4 (dotB x0 x1)) x2 := by
  unfold out0_B_4
  rw [View.read_writes_junk_eq_canon]
  unfold kernelRun0_B
  dsimp only
  sl_unfold_words
  simp only [View.readAt_eq_ld, harg2.read_unread, harg3.read_unread, harg4.read_unread, harg5.read_unread, harg6.read_unread]
  simp only [ldA x0, ldW x1, ldA x2, ldG x3, ldO xo4, pay2_eq]
  simp only [View.readCov_fill arg6.view inb_S512x4096_S512x4096_0_0 (addB xo4 (dotB x0 x1)) [] _ zz]
  exact canon_slab 1 rfl rfl _ _ _ (addB xo4 (dotB x0 x1)) x2 (View.canon_unit_zero z2 _ _)
    fun j => pay4_eq _ _ j

theorem blk_C (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (hc0 : ¬cond0_0 i) (hc1 : cond0_1 i) (hc2 : ¬cond0_2 i) (hc3 : ¬cond0_3 i) (hc4 : cond0_4 i) (hc5 : ¬cond0_5 i) (hc6 : ¬cond0_6 i)
    (x0 : Vec Ideal S512x1024 .bf16) (x1 : Vec Ideal S1024x4096 .bf16) (x2 : Vec Ideal S512x1024 .f32) (x3 : Vec Ideal S1x4096 .f32) (xo4 : Vec Ideal S512x4096 .f32) :
    out0_C_4 (F := Ideal) c i arg2 harg2 arg3 harg3 arg4 harg4 arg5 harg5 arg6 harg6 hc0 hc1 hc2 hc3 hc4 hc5 hc6 x0 x1 x2 x3 xo4 = addS 2 (addB xo4 (dotB x0 x1)) x2 := by
  unfold out0_C_4
  rw [View.read_writes_junk_eq_canon]
  unfold kernelRun0_C
  dsimp only
  sl_unfold_words
  simp only [View.readAt_eq_ld, harg2.read_unread, harg3.read_unread, harg4.read_unread, harg5.read_unread, harg6.read_unread]
  simp only [ldA x0, ldW x1, ldA x2, ldG x3, ldO xo4, pay2_eq]
  simp only [View.readCov_fill arg6.view inb_S512x4096_S512x4096_0_0 (addB xo4 (dotB x0 x1)) [] _ zz]
  exact canon_slab 2 rfl rfl _ _ _ (addB xo4 (dotB x0 x1)) x2 (View.canon_unit_zero z2 _ _)
    fun j => pay5_eq _ _ j

theorem blk_D (c : Dev nD) (i : grid0.Coords) (arg2 : Memref sig .tc .vmem S512x1024 .bf16) (harg2 : arg2.IsWhole) (arg3 : Memref sig .tc .vmem S1024x4096 .bf16) (harg3 : arg3.IsWhole) (arg4 : Memref sig .tc .vmem S512x1024 .f32) (harg4 : arg4.IsWhole) (arg5 : Memref sig .tc .vmem S1x4096 .f32) (harg5 : arg5.IsWhole) (arg6 : Memref sig .tc .vmem S512x4096 .f32) (harg6 : arg6.IsWhole) (hc0 : ¬cond0_0 i) (hc1 : cond0_1 i) (hc2 : ¬cond0_2 i) (hc3 : ¬cond0_3 i) (hc4 : ¬cond0_4 i) (hc5 : cond0_5 i) (hc6 : cond0_6 i)
    (x0 : Vec Ideal S512x1024 .bf16) (x1 : Vec Ideal S1024x4096 .bf16) (x2 : Vec Ideal S512x1024 .f32) (x3 : Vec Ideal S1x4096 .f32) (xo4 : Vec Ideal S512x4096 .f32) :
    out0_D_4 (F := Ideal) c i arg2 harg2 arg3 harg3 arg4 harg4 arg5 harg5 arg6 harg6 hc0 hc1 hc2 hc3 hc4 hc5 hc6 x0 x1 x2 x3 xo4 = normB (addS 3 (addB xo4 (dotB x0 x1)) x2) x3 := by
  unfold out0_D_4
  rw [View.read_writes_junk_eq_canon]
  unfold kernelRun0_D
  dsimp only
  sl_unfold_words
  simp only [View.readAt_eq_ld, harg2.read_unread, harg3.read_unread, harg4.read_unread, harg5.read_unread, harg6.read_unread]
  simp only [ldA x0, ldW x1, ldA x2, ldG x3, ldO xo4, pay2_eq]
  simp only [View.readCov_fill arg6.view inb_S512x4096_S512x4096_0_0 (addB xo4 (dotB x0 x1)) [] _ zz]
  refine (View.canon_cons_unit_zero z2 _ _ _).trans ((pay7_eq _ x3).trans (congrArg (fun v => normB v x3) ?_))
  rw [View.readCov_eq_canon']
  refine (congrArg (fun v : Vec Ideal S512x4096 .f32 => View.ld v (Rect.unit (s := S512x4096) ![0, 0] S512x4096.size inb_S512x4096_S512x4096_0_0)) (?_ : _ = addS 3 (addB xo4 (dotB x0 x1)) x2)).trans (View.ld_unit_zero z2 _ _)
  exact canon_slab 3 rfl rfl _ _ _ (addB xo4 (dotB x0 x1)) x2 (View.canon_unit_zero z2 _ _)
    fun j => pay6_eq _ _ j

end Cert.OutIdeal.Gen
end
-- ==== Proof.OutSum.lean ====
module

public import proofs.«01_k».proof.Proof.OutSpec

/-! Four grid steps make one row block: the residual plus the whole product, then the norm. -/

@[expose] public section

set_option maxRecDepth 100000

noncomputable section

namespace Cert.OutIdeal.Gen

open Idealize.ShloMosaic Idealize.ShloMosaic.TcCoe Idealize.ShloMosaic.Tactic

/-- A row of a block in the whole, and a column of a quarter in the whole. -/
abbrev rowO (i : Fin 2) (r : Fin 512) : Fin 1024 := ⟨i.val * 512 + r.val, by omega⟩
abbrev colO (k : Fin 4) (e : Fin 1024) : Fin 4096 := ⟨k.val * 1024 + e.val, by omega⟩

/-- A sum over the columns, quarter by quarter. -/
theorem sum_quarters (f : Fin 4096 → EReal) : ∑ e : Fin 4096, f e = ∑ k : Fin 4, ∑ e : Fin 1024, f (colO k e) := by
  rw [← Fintype.sum_prod_type']
  refine (Equiv.sum_comp (finProdFinEquiv (m := 4) (n := 1024)) f).symm.trans (Finset.sum_congr rfl fun p _ => congrArg f (Fin.ext ?_))
  show p.2.val + 1024 * p.1.val = p.1.val * 1024 + p.2.val
  omega

/-- The residual plus the product, at a row and a column. -/
def zO (Y : Vec Ideal S1024x4096 .bf16) (W : Vec Ideal S4096x4096 .bf16) (X : Vec Ideal S1024x4096 .f32) (t : Fin 1024) (d : Fin 4096) : EReal :=
  X (ix2 t d) + ∑ e : Fin 4096, Y (ix2 t e) * W (ix2 e d)

/-- The result: the last norm of the residual plus the product. -/
def outArr (Y : Vec Ideal S1024x4096 .bf16) (W : Vec Ideal S4096x4096 .bf16) (X : Vec Ideal S1024x4096 .f32) (G : Vec Ideal S1x4096 .f32) :
    Vec Ideal S1024x4096 .f32 := fun i =>
  zO Y W X (i 0) (i 1) * Ideal.rsqrt (Ideal.div (∑ e : Fin 4096, zO Y W X (i 0) e * zO Y W X (i 0) e) (Ideal.ofBits FTy.f32 0x45800000#32)
    + Ideal.ofBits FTy.f32 0x358637BD#32) * G (ix2 0 (i 1))

theorem ac0 (a b c d x : EReal) : a + x + b + c + d = x + (a + b + c + d) := by
  ac_rfl
theorem ac1 (a b c d x : EReal) : a + b + x + c + d = x + (a + b + c + d) := by
  ac_rfl
theorem ac2 (a b c d x : EReal) : a + b + c + x + d = x + (a + b + c + d) := by
  ac_rfl
theorem ac3 (a b c d x : EReal) : a + b + c + d + x = x + (a + b + c + d) := by
  ac_rfl

theorem addS_hit (k : Fin 4) (o : Vec Ideal S512x4096 .f32) (x2 : Vec Ideal S512x1024 .f32) (y : S512x4096.Idx) (h : (y 1).val / 1024 = k.val) :
    addS k o x2 y = o y + x2 (ix2 (y 0) ⟨(y 1).val % 1024, Nat.mod_lt _ (by decide)⟩) := if_pos h
theorem addS_miss (k : Fin 4) (o : Vec Ideal S512x4096 .f32) (x2 : Vec Ideal S512x1024 .f32) (y : S512x4096.Idx) (h : ¬(y 1).val / 1024 = k.val) :
    addS k o x2 y = o y := if_neg h
theorem addB_at (o z : Vec Ideal S512x4096 .f32) (y : S512x4096.Idx) : addB o z y = o y + z y := rfl

section
variable (x0 : Fin 4 → Vec Ideal S512x1024 .bf16) (x1 : Fin 4 → Vec Ideal S1024x4096 .bf16) (x2 : Fin 4 → Vec Ideal S512x1024 .f32)

/-- The block after the four steps, before the norm. -/
def accB : Vec Ideal S512x4096 .f32 :=
  addS 3 (addB (addS 2 (addB (addS 1 (addB (addS 0 (dotB (x0 0) (x1 0)) (x2 0)) (dotB (x0 1) (x1 1))) (x2 1)) (dotB (x0 2) (x1 2))) (x2 2)) (dotB (x0 3) (x1 3))) (x2 3)

variable (Y : Vec Ideal S1024x4096 .bf16) (W : Vec Ideal S4096x4096 .bf16) (X : Vec Ideal S1024x4096 .f32) (i : Fin 2)
  (h0 : ∀ k r e, x0 k (ix2 r e) = Y (ix2 (rowO i r) (colO k e)))
  (h1 : ∀ k e d, x1 k (ix2 e d) = W (ix2 (colO k e) d))
  (h2 : ∀ k r e, x2 k (ix2 r e) = X (ix2 (rowO i r) (colO k e)))

include h0 h1 h2 in
theorem acc_eq (y : S512x4096.Idx) : accB x0 x1 x2 y = zO Y W X (rowO i (y 0)) (y 1) := by
  have hy : (y 1).val < 4096 := (y 1).isLt
  have hd : ∀ k, dotB (x0 k) (x1 k) y = ∑ e : Fin 1024, Y (ix2 (rowO i (y 0)) (colO k e)) * W (ix2 (colO k e) (y 1)) := fun k =>
    Finset.sum_congr rfl fun e _ => congrArg₂ (· * ·) (h0 k (y 0) e) (h1 k e (y 1))
  have hr : ∀ k : Fin 4, (y 1).val / 1024 = k.val →
      x2 k (ix2 (y 0) ⟨(y 1).val % 1024, Nat.mod_lt _ (by decide)⟩) = X (ix2 (rowO i (y 0)) (y 1)) := fun k hk =>
    (h2 k (y 0) _).trans (congrArg (fun d => X (ix2 (rowO i (y 0)) d)) (Fin.ext (by show k.val * 1024 + (y 1).val % 1024 = (y 1).val; omega)))
  unfold zO
  rw [sum_quarters, Fin.sum_univ_four, ← hd 0, ← hd 1, ← hd 2, ← hd 3]
  unfold accB
  have hq : (y 1).val / 1024 = 0 ∨ (y 1).val / 1024 = 1 ∨ (y 1).val / 1024 = 2 ∨ (y 1).val / 1024 = 3 := by omega
  rcases hq with h | h | h | h
  · rw [addS_miss 3 _ _ y (by rw [h]; decide), addB_at, addS_miss 2 _ _ y (by rw [h]; decide), addB_at, addS_miss 1 _ _ y (by rw [h]; decide), addB_at, addS_hit 0 _ _ y h, hr 0 h]
    exact ac0 _ _ _ _ _
  · rw [addS_miss 3 _ _ y (by rw [h]; decide), addB_at, addS_miss 2 _ _ y (by rw [h]; decide), addB_at, addS_hit 1 _ _ y h, hr 1 h, addB_at, addS_miss 0 _ _ y (by rw [h]; decide)]
    exact ac1 _ _ _ _ _
  · rw [addS_miss 3 _ _ y (by rw [h]; decide), addB_at, addS_hit 2 _ _ y h, hr 2 h, addB_at, addS_miss 1 _ _ y (by rw [h]; decide), addB_at, addS_miss 0 _ _ y (by rw [h]; decide)]
    exact ac2 _ _ _ _ _
  · rw [addS_hit 3 _ _ y h, hr 3 h, addB_at, addS_miss 2 _ _ y (by rw [h]; decide), addB_at, addS_miss 1 _ _ y (by rw [h]; decide), addB_at, addS_miss 0 _ _ y (by rw [h]; decide)]
    exact ac3 _ _ _ _ _

include h0 h1 h2 in
theorem norm_step (x3 G : Vec Ideal S1x4096 .f32) (h3 : ∀ d, x3 (ix2 0 d) = G (ix2 0 d)) (y : S512x4096.Idx) (j : S1024x4096.Idx)
    (e0 : (j 0).val = i.val * 512 + (y 0).val) (e1 : (j 1).val = (y 1).val) :
    normB (accB x0 x1 x2) x3 y = outArr Y W X G j := by
  have ha := acc_eq x0 x1 x2 Y W X i h0 h1 h2
  have f0 : j 0 = rowO i (y 0) := Fin.ext e0
  have f1 : j 1 = y 1 := Fin.ext e1
  unfold normB outArr
  rw [f0, f1, ha y, h3 (y 1)]
  have hs : ∀ e : Fin 4096, accB x0 x1 x2 (ix2 (y 0) e) = zO Y W X (rowO i (y 0)) e := fun e => ha (ix2 (y 0) e)
  simp only [hs]

end

end Cert.OutIdeal.Gen
end
-- ==== Proof.OutArr.lean ====
module

public import proofs.«01_k».proof.Proof.OutBlk
public import proofs.«01_k».proof.Proof.OutSum
public import Idealize.ShloMosaic.Lib.StableHlo.RunRead

/-! The kernel's result, as a function of what the region finds and of the arguments. -/

@[expose] public section

set_option maxRecDepth 100000

noncomputable section

namespace Cert.OutIdeal.Gen

open Idealize.ShloMosaic Idealize.ShloMosaic.TcCoe Idealize.ShloMosaic.Tactic
open Idealize.ShloMosaic.Pipeline (Dat)

variable (m : (ℓ : Loc nD τ sig) → Buf (Elt Ideal) ℓ) (c : Dev nD)

theorem g0 : ∀ t : Fin cfg0.N, win0_0.index t = ![t.val / 4, t.val % 4] := by decide +kernel
theorem g1 : ∀ t : Fin cfg0.N, win0_1.index t = ![t.val % 4, 0] := by decide +kernel
theorem g2 : ∀ t : Fin cfg0.N, win0_2.index t = ![t.val / 4, t.val % 4] := by decide +kernel
theorem g3 : ∀ t : Fin cfg0.N, win0_3.index t = ![0, 0] := by decide +kernel
theorem g4 : ∀ t : Fin cfg0.N, win0_4.index t = ![t.val / 4, 0] := by decide +kernel

/-- What the region finds in the arrays it reads. -/
abbrev RY : Vec Ideal S1024x4096 .bf16 := V m c main_arg0
abbrev RW : Vec Ideal S4096x4096 .bf16 := V m c main_arg1
abbrev RX : Vec Ideal S1024x4096 .f32 := V m c main_v0
abbrev RG : Vec Ideal S1x4096 .f32 := V m c main_v1

/-- The row block and the quarter of a grid point. -/
abbrev iO (t : Fin 8) : Fin 2 := ⟨t.val / 4, by omega⟩
abbrev kO (t : Fin 8) : Fin 4 := ⟨t.val % 4, by omega⟩

theorem b0 (t : Fin cfg0.N) (r : Fin 512) (e : Fin 1024) :
    (iblk m c 0 t : Vec Ideal S512x1024 .bf16) (ix2 r e) = RY m c (ix2 (rowO (iO t) r) (colO (kO t) e)) := by
  blk_simp [iblk]
  refine congrArg (RY m c) ?_
  blk_ext [g0]

theorem b1 (t : Fin cfg0.N) (e : Fin 1024) (d : Fin 4096) :
    (iblk m c 1 t : Vec Ideal S1024x4096 .bf16) (ix2 e d) = RW m c (ix2 (colO (kO t) e) d) := by
  blk_simp [iblk]
  refine congrArg (RW m c) ?_
  blk_ext [g1]

theorem b2 (t : Fin cfg0.N) (r : Fin 512) (e : Fin 1024) :
    (iblk m c 2 t : Vec Ideal S512x1024 .f32) (ix2 r e) = RX m c (ix2 (rowO (iO t) r) (colO (kO t) e)) := by
  blk_simp [iblk]
  refine congrArg (RX m c) ?_
  blk_ext [g2]

theorem b3 (t : Fin cfg0.N) (d : Fin 4096) :
    (iblk m c 3 t : Vec Ideal S1x4096 .f32) (ix2 0 d) = RG m c (ix2 0 d) := by
  blk_simp [iblk]
  refine congrArg (RG m c) ?_
  blk_ext [g3]

/-- The grid point of a row block and a quarter. -/
abbrev tO (i : Fin 2) (k : Fin 4) : Fin cfg0.N := ⟨i.val * 4 + k.val, by show _ < 8; omega⟩

theorem s0 (i : Fin 2) : outsAt0 m c (tO i 0).val (tO i 0).isLt
    = addS 0 (dotB (iblk m c 0 (tO i 0)) (iblk m c 1 (tO i 0))) (iblk m c 2 (tO i 0)) := by
  rw [outsAt0_A m c (tO i 0) (by show (i.val * 4 + 0) % 4 = 0; omega) (by show ¬1 ≤ (i.val * 4 + 0) % 4; omega)
    (by show (i.val * 4 + 0) % 4 = 0; omega) (by show ¬(i.val * 4 + 0) % 4 = 1; omega) (by show ¬(i.val * 4 + 0) % 4 = 2; omega)
    (by show ¬(i.val * 4 + 0) % 4 = 3; omega) (by show ¬(i.val * 4 + 0) % 4 = 3; omega)]
  exact blk_A _ _ _ _ _ _ _ _ _ _ _ _ _ _ _ _ _ _ _ _ _ _ _

theorem s1 (i : Fin 2) : outsAt0 m c (tO i 1).val (tO i 1).isLt
    = addS 1 (addB (outsAt0 m c (tO i 0).val (tO i 0).isLt) (dotB (iblk m c 0 (tO i 1)) (iblk m c 1 (tO i 1)))) (iblk m c 2 (tO i 1)) := by
  rw [outsAt0_B m c (tO i 1) (by show ¬(i.val * 4 + 1) % 4 = 0; omega) (by show 1 ≤ (i.val * 4 + 1) % 4; omega)
    (by show ¬(i.val * 4 + 1) % 4 = 0; omega) (by show (i.val * 4 + 1) % 4 = 1; omega) (by show ¬(i.val * 4 + 1) % 4 = 2; omega)
    (by show ¬(i.val * 4 + 1) % 4 = 3; omega) (by show ¬(i.val * 4 + 1) % 4 = 3; omega)]
  exact blk_B _ _ _ _ _ _ _ _ _ _ _ _ _ _ _ _ _ _ _ _ _ _ _ _

theorem s2 (i : Fin 2) : outsAt0 m c (tO i 2).val (tO i 2).isLt
    = addS 2 (addB (outsAt0 m c (tO i 1).val (tO i 1).isLt) (dotB (iblk m c 0 (tO i 2)) (iblk m c 1 (tO i 2)))) (iblk m c 2 (tO i 2)) := by
  rw [outsAt0_C m c (tO i 2) (by show ¬(i.val * 4 + 2) % 4 = 0; omega) (by show 1 ≤ (i.val * 4 + 2) % 4; omega)
    (by show ¬(i.val * 4 + 2) % 4 = 0; omega) (by show ¬(i.val * 4 + 2) % 4 = 1; omega) (by show (i.val * 4 + 2) % 4 = 2; omega)
    (by show ¬(i.val * 4 + 2) % 4 = 3; omega) (by show ¬(i.val * 4 + 2) % 4 = 3; omega)]
  exact blk_C _ _ _ _ _ _ _ _ _ _ _ _ _ _ _ _ _ _ _ _ _ _ _ _

theorem s3 (i : Fin 2) : outsAt0 m c (tO i 3).val (tO i 3).isLt
    = normB (addS 3 (addB (outsAt0 m c (tO i 2).val (tO i 2).isLt) (dotB (iblk m c 0 (tO i 3)) (iblk m c 1 (tO i 3)))) (iblk m c 2 (tO i 3)))
        (iblk m c 3 (tO i 3)) := by
  rw [outsAt0_D m c (tO i 3) (by show ¬(i.val * 4 + 3) % 4 = 0; omega) (by show 1 ≤ (i.val * 4 + 3) % 4; omega)
    (by show ¬(i.val * 4 + 3) % 4 = 0; omega) (by show ¬(i.val * 4 + 3) % 4 = 1; omega) (by show ¬(i.val * 4 + 3) % 4 = 2; omega)
    (by show (i.val * 4 + 3) % 4 = 3; omega) (by show (i.val * 4 + 3) % 4 = 3; omega)]
  exact blk_D _ _ _ _ _ _ _ _ _ _ _ _ _ _ _ _ _ _ _ _ _ _ _ _

theorem io_t (i : Fin 2) (k : Fin 4) : iO (tO i k) = i := Fin.ext (by show (i.val * 4 + k.val) / 4 = i.val; omega)
theorem ko_t (i : Fin 2) (k : Fin 4) : kO (tO i k) = k := Fin.ext (by show (i.val * 4 + k.val) % 4 = k.val; omega)

theorem s_all (i : Fin 2) : outsAt0 m c (tO i 3).val (tO i 3).isLt
    = normB (accB (fun k => iblk m c 0 (tO i k)) (fun k => iblk m c 1 (tO i k)) (fun k => iblk m c 2 (tO i k))) (iblk m c 3 (tO i 3)) := by
  rw [s3, s2, s1, s0]
  rfl

theorem arr4 : (dats m 0 c).arrAt 4 cfg0.N = outArr (RY m c) (RW m c) (RX m c) (RG m c) := by
  refine (dats m 0 c).arrAt_eq_of_covers 4 _ (by decide +kernel) fun t hf y => ?_
  have hl : ∀ t : Fin cfg0.N, win0_4.flush t = true → t.val % 4 = 3 := by decide +kernel
  have ht3 : t.val % 4 = 3 := hl t hf
  have ht8 : t.val < 8 := t.isLt
  obtain ⟨i, rfl⟩ : ∃ i : Fin 2, t = tO i 3 := ⟨⟨t.val / 4, by omega⟩, Fin.ext (by show t.val = t.val / 4 * 4 + 3; omega)⟩
  blk_simp
  rw [after0_4, s_all]
  refine norm_step _ _ _ (RY m c) (RW m c) (RX m c) i (fun k r e => ?_) (fun k e d => ?_) (fun k r e => ?_) _ (RG m c) (b3 m c _) y _ ?_ ?_
  · exact (b0 m c (tO i k) r e).trans (by rw [io_t, ko_t])
  · exact (b1 m c (tO i k) e d).trans (by rw [ko_t])
  · exact (b2 m c (tO i k) r e).trans (by rw [io_t, ko_t])
  · have h3 : (tO i 3).val / 4 = i.val := by show (i.val * 4 + 3) / 4 = i.val; omega
    blk_simp [g4]
    omega
  · blk_simp [g4]

/-- The arguments. -/
abbrev A0 : Vec Ideal S1024x4096 .bf16 := m ((c : Thread nD τ).loc main_arg0)
abbrev A1 : Vec Ideal S4096x4096 .bf16 := m ((c : Thread nD τ).loc main_arg1)
abbrev A2 : Vec Ideal S16x64x4096 .f32 := m ((c : Thread nD τ).loc main_arg2)
abbrev A3 : Vec Ideal S4096 .f32 := m ((c : Thread nD τ).loc main_arg3)

theorem rX (t : Fin 1024) (d : Fin 4096) : RX m c (ix2 t d) = A2 m c (ix3 ⟨t.val / 64, by omega⟩ ⟨t.val % 64, by omega⟩ d) := by
  unfold RX V
  after_reads_simp
  pointwise []

theorem rG (d : Fin 4096) : RG m c (ix2 0 d) = A3 m c (ix1 d) := by
  unfold RG V
  after_reads_simp
  pointwise []

end Cert.OutIdeal.Gen
end
-- ==== Proof.OutVals.lean ====
module

public import proofs.«01_k».proof.Proof.OutArr
public import proofs.«01_k».proof.Proof.Gen.OutRefIdeal.Read

/-! The kernel's result is the reference's. -/

@[expose] public section

set_option maxRecDepth 100000

noncomputable section

namespace Cert.OutIdeal.Gen

open Idealize.ShloMosaic Idealize.ShloMosaic.TcCoe
open Cert.OutRefIdeal.Read

theorem ref_z (x0 : Vec Ideal S1024x4096 .bf16) (x1 : Vec Ideal S4096x4096 .bf16) (x2 : Vec Ideal S16x64x4096 .f32) (X : Vec Ideal S1024x4096 .f32)
    (hX : ∀ t d, X (ix2 t d) = x2 (ix3 ⟨t.val / 64, by omega⟩ ⟨t.val % 64, by omega⟩ d)) (t : Fin 1024) (d : Fin 4096) :
    val_main_v4 (F := Ideal) x0 x1 x2 (ix2 t d) = zO x0 x1 X t d := by
  rw [val_main_v4_apply, val_main_v0_apply, val_main_v3_apply]
  unfold zO
  rw [hX]
  refine congrArg₂ (· + ·) (congrArg x2 (funext fun a => ?_)) (Finset.sum_congr rfl fun e _ => congrArg₂ (· * ·) (congrArg x0 (funext fun a => ?_)) (congrArg x1 (funext fun a => ?_)))
  · match a with
    | ⟨0, _⟩ => exact Fin.ext (by show (t.val * 4096 + d.val) / 262144 = t.val / 64; omega)
    | ⟨1, _⟩ => exact Fin.ext (by show (t.val * 4096 + d.val) / 4096 % 64 = t.val % 64; omega)
    | ⟨2, _⟩ => exact Fin.ext (by show (t.val * 4096 + d.val) % 4096 = d.val; omega)
  · match a with
    | ⟨0, _⟩ => rfl
    | ⟨1, _⟩ => rfl
  · match a with
    | ⟨0, _⟩ => rfl
    | ⟨1, _⟩ => rfl

theorem ref_out (x0 : Vec Ideal S1024x4096 .bf16) (x1 : Vec Ideal S4096x4096 .bf16) (x2 : Vec Ideal S16x64x4096 .f32) (x3 : Vec Ideal S4096 .f32)
    (X : Vec Ideal S1024x4096 .f32) (G : Vec Ideal S1x4096 .f32)
    (hX : ∀ t d, X (ix2 t d) = x2 (ix3 ⟨t.val / 64, by omega⟩ ⟨t.val % 64, by omega⟩ d)) (hG : ∀ d, G (ix2 0 d) = x3 (ix1 d)) (t : Fin 1024) (d : Fin 4096) :
    val_main_v17 (F := Ideal) x0 x1 x2 x3 (ix2 t d) = outArr x0 x1 X G (ix2 t d) := by
  have hz := ref_z x0 x1 x2 X hX
  have hs : val_main_v6 (F := Ideal) x0 x1 x2 (idx_main_v7 (idx_main_v13 (ix2 t d))) = ∑ e : Fin 4096, zO x0 x1 X t e * zO x0 x1 X t e := by
    rw [val_main_v6_apply, val_main_cst_apply]
    refine (congrArg (fun v : EReal => v + _) (Ideal.ofBits_zero _)).trans ((zero_add _).trans (Finset.sum_congr rfl fun e _ => ?_))
    rw [val_main_v5_apply, show idx_main_v6 (idx_main_v7 (idx_main_v13 (ix2 t d))) e = ix2 t e from funext fun a => by
      match a with
      | ⟨0, _⟩ => rfl
      | ⟨1, _⟩ => rfl, hz]
    rfl
  rw [val_main_v17_apply, val_main_v14_apply, val_main_v13_apply, val_main_v12_apply, val_main_v11_apply, val_main_v9_apply,
    val_main_v7_apply, hs, val_main_v8_apply, val_main_v10_apply, val_main_cst_0_apply, val_main_cst_1_apply, val_main_v16_apply, val_main_v15_apply,
    hz]
  unfold outArr
  refine congrArg₂ (fun a b : EReal => a * b) rfl ((congrArg x3 (funext fun a => ?_)).trans (hG d).symm)
  match a with
  | ⟨0, _⟩ => rfl

variable (m : (ℓ : Loc nD τ sig) → Buf (Elt Ideal) ℓ) (c : Dev nD)

theorem out_val : (dats m 0 c).arrAt 4 cfg0.N = val_main_v17 (F := Ideal) (A0 m c) (A1 m c) (A2 m c) (A3 m c) := by
  rw [arr4, show RY m c = A0 m c from V_main_arg0 m c, show RW m c = A1 m c from V_main_arg1 m c]
  refine funext fun i => ?_
  have hi : i = (ix2 (i 0 : Fin 1024) (i 1 : Fin 4096) : S1024x4096.Idx) := funext fun a => by
    match a with
    | ⟨0, _⟩ => rfl
    | ⟨1, _⟩ => rfl
  exact (congrArg _ hi).trans ((ref_out (A0 m c) (A1 m c) (A2 m c) (A3 m c) (RX m c) (RG m c) (rX m c) (rG m c) (i 0) (i 1)).symm.trans (congrArg _ hi.symm))

end Cert.OutIdeal.Gen
end
-- ==== Proof.NormHost.lean ====
module

public import proofs.«01_k».proof.Proof.Gen.NormIdeal.Value
public import Idealize.ShloMosaic.Lib.Pipeline.ValueKit
public import Idealize.ShloMosaic.Lib.Pointwise
public import Idealize.ShloMosaic.Lib.Routing.OpsSet
public import Idealize.ShloMosaic.Lib.Routing.OpsOne
public import Idealize.ShloMosaic.Lib.KernelVsHost

/-! Eight rows written into an array of 256 rows, read at an index. -/

@[expose] public section

set_option maxRecDepth 100000

noncomputable section

namespace Cert.NormIdeal.Gen

open Idealize.ShloMosaic Idealize.ShloMosaic.TcCoe Idealize.ShloMosaic.Tactic

abbrev dW : ScatterDims S256x4096 S1 S8x4096 := scatter_S256x4096_S1_S8x4096_01_n_0_0

theorem lands_rows (w : BitVec 32) (o : ℕ) (ho : w.toInt = (o : Int)) (k : Fin 8) (d : Fin 4096) (r : Fin 256) (e : Fin 4096) :
    dW.resultIdx? (ix2 k d) (fun _ => w : IVec S1 32) = some (ix2 r e) ↔ o + k.val = r.val ∧ d = e := by
  have hs0 : dW.start (ix2 k d) (fun _ => w : IVec S1 32) 0 = (o : Int) := ho
  have hs1 : dW.start (ix2 k d) (fun _ => w : IVec S1 32) 1 = 0 := rfl
  have hw0 : dW.window (ix2 k d) 0 = k.val := rfl
  have hw1 : dW.window (ix2 k d) 1 = d.val := rfl
  rw [Fin.ext_iff (a := d)]
  have key := Routing.resultIdx?_ix2 dW (ix2 k d) (fun _ => w : IVec S1 32) r e
  rw [hs0, hs1, hw0, hw1] at key
  refine key.trans ?_
  omega

theorem rows_hit (i : IVec S1 32) (w : BitVec 32) (hi : i = fun _ => w) (o : ℕ) (ho : w.toInt = (o : Int)) (x : Vec Ideal S256x4096 .f32) (u : Vec Ideal S8x4096 .f32)
    (k : Fin 8) (r : Fin 256) (hr : o + k.val = r.val) (e : Fin 4096) :
    Host.scatter dW (fun _ b => b) x i u (ix2 r e) = u (ix2 k e) := by
  subst hi
  refine Routing.scatter_set_hit _ _ _ _ _ _ (fun q hq => ?_) (ix2 k e) ((lands_rows w o ho k e r e).2 ⟨hr, rfl⟩)
  have e' : q = ix2 (q 0 : Fin 8) (q 1 : Fin 4096) := funext fun a => match a with | ⟨0, _⟩ => rfl | ⟨1, _⟩ => rfl
  rw [e'] at hq ⊢
  obtain ⟨h0, h1⟩ := (lands_rows w o ho _ _ _ _).1 hq
  have h0' : (q 0 : Fin 8) = k := Fin.ext (by omega)
  rw [h0', h1]
  rfl

theorem rows_miss (i : IVec S1 32) (w : BitVec 32) (hi : i = fun _ => w) (o : ℕ) (ho : w.toInt = (o : Int)) (x : Vec Ideal S256x4096 .f32) (u : Vec Ideal S8x4096 .f32)
    (r : Fin 256) (hr : r.val < o ∨ o + 8 ≤ r.val) (e : Fin 4096) :
    Host.scatter dW (fun _ b => b) x i u (ix2 r e) = x (ix2 r e) := by
  subst hi
  refine Routing.scatter_set_miss _ _ _ _ _ fun q hq => ?_
  have e' : q = ix2 (q 0 : Fin 8) (q 1 : Fin 4096) := funext fun a => match a with | ⟨0, _⟩ => rfl | ⟨1, _⟩ => rfl
  rw [e'] at hq
  have h0 := ((lands_rows w o ho _ _ _ _).1 hq).1
  have h8 : (q 0 : Fin 8).val < 8 := (q 0 : Fin 8).isLt
  omega

theorem trunc_at (x : Vec Ideal S256x4096 .f32) (i : S256x4096.Idx) : truncf (F := Ideal) (φ := .f32) .bf16 x bitsLt_bf16_f32 i = x i := rfl

section
variable (z : Vec Ideal S256x4096 .f32) (i0 i1 : IVec S1 32) (u0 u1 : Vec Ideal S8x4096 .f32) (h0 : i0 = fun _ => 0#32) (h1 : i1 = fun _ => 128#32)
include h0 h1

theorem w_lo (k : Fin 8) (r : Fin 256) (hr : r.val = k.val) (e : Fin 4096) :
    (truncf (F := Ideal) (φ := .f32) .bf16 (Host.scatter scatter_S256x4096_S1_S8x4096_01_n_0_0 (fun _ b => b) (Host.scatter scatter_S256x4096_S1_S8x4096_01_n_0_0 (fun _ b => b) z i0 u0) i1 u1)
      bitsLt_bf16_f32) (ix2 r e) = u0 (ix2 k e) :=
  (trunc_at _ _).trans ((rows_miss i1 128#32 h1 128 (by decide) _ u1 r (by omega) e).trans (rows_hit i0 0#32 h0 0 (by decide) z u0 k r (by omega) e))

theorem w_hi (k : Fin 8) (r : Fin 256) (hr : r.val = 128 + k.val) (e : Fin 4096) :
    (truncf (F := Ideal) (φ := .f32) .bf16 (Host.scatter scatter_S256x4096_S1_S8x4096_01_n_0_0 (fun _ b => b) (Host.scatter scatter_S256x4096_S1_S8x4096_01_n_0_0 (fun _ b => b) z i0 u0) i1 u1)
      bitsLt_bf16_f32) (ix2 r e) = u1 (ix2 k e) :=
  (trunc_at _ _).trans (rows_hit i1 128#32 h1 128 (by decide) _ u1 k r (by omega) e)

theorem w_no (r : Fin 256) (hl : 8 ≤ r.val) (hh : r.val < 128 ∨ 136 ≤ r.val) (e : Fin 4096) :
    (truncf (F := Ideal) (φ := .f32) .bf16 (Host.scatter scatter_S256x4096_S1_S8x4096_01_n_0_0 (fun _ b => b) (Host.scatter scatter_S256x4096_S1_S8x4096_01_n_0_0 (fun _ b => b) z i0 u0) i1 u1)
      bitsLt_bf16_f32) (ix2 r e) = z (ix2 r e) :=
  (trunc_at _ _).trans ((rows_miss i1 128#32 h1 128 (by decide) _ u1 r (by omega) e).trans (rows_miss i0 0#32 h0 0 (by decide) z u0 r (by omega) e))

end

/-- The sixteen rows over 240 more, inside and outside. -/
theorem pad_in (x : Vec Ideal S16x4096 .f32) (v : Vec Ideal S_ .f32) (t : Fin 256) (ht : t.val < 16) (d : Fin 4096) :
    pad S256x4096 ![0, 0] ![240, 0] ![0, 0] x v pads_S16x4096_S256x4096_02400_000 h_S_ (ix2 t d) = x (ix2 ⟨t.val, ht⟩ d) := by
  refine pad_apply_of_inside ![0, 0] ![240, 0] ![0, 0] x v pads_S16x4096_S256x4096_02400_000 h_S_ (ix2 t d) (ix2 ⟨t.val, ht⟩ d) fun a => ?_
  match a with
  | ⟨0, _⟩ => show t.val = 0 + t.val * 1; omega
  | ⟨1, _⟩ => show d.val = 0 + d.val * 1; omega

theorem pad_out (x : Vec Ideal S16x4096 .f32) (v : Vec Ideal S_ .f32) (t : Fin 256) (ht : ¬t.val < 16) (d : Fin 4096) :
    pad S256x4096 ![0, 0] ![240, 0] ![0, 0] x v pads_S16x4096_S256x4096_02400_000 h_S_ (ix2 t d) = v (Shape.Idx.first h_S_) := by
  refine pad_apply_of_not_inside ![0, 0] ![240, 0] ![0, 0] x v pads_S16x4096_S256x4096_02400_000 h_S_ (ix2 t d) 0 ?_
  show ¬(0 ≤ t.val ∧ (t.val - 0) % 1 = 0 ∧ (t.val - 0) / 1 < 16)
  omega

end Cert.NormIdeal.Gen
end
-- ==== Proof.NormBlk.lean ====
module

public import proofs.«01_k».proof.Proof.Gen.NormIdeal.Value
public import Idealize.ShloMosaic.Lib.Pipeline.ValueKit
public import Idealize.ShloMosaic.Lib.Pointwise
public import Idealize.ShloMosaic.Lib.Pipeline.ReadBack

/-! What one grid step of the first norm leaves in its two blocks. -/

@[expose] public section

set_option maxRecDepth 100000

noncomputable section

namespace Cert.NormIdeal.Gen

open Idealize.ShloMosaic Idealize.ShloMosaic.TcCoe Idealize.ShloMosaic.Tactic

/-- The norm of a block of rows. -/
def nrmB (z : Vec Ideal S256x4096 .f32) (g : Vec Ideal S1x4096 .f32) : Vec Ideal S256x4096 .bf16 :=
  fun y => z y * Ideal.rsqrt (Ideal.div (∑ e : Fin 4096, z (ix2 (y 0) e) * z (ix2 (y 0) e)) (Ideal.ofBits FTy.f32 0x45800000#32)
    + Ideal.ofBits FTy.f32 0x358637BD#32) * g (ix2 0 (y 1))

/-- The gate columns of a block of normed rows. -/
def gateB (z : Vec Ideal S256x4096 .f32) (g : Vec Ideal S1x4096 .f32) (w : Vec Ideal S256x4096 .bf16) : Vec Ideal S256x256 .f32 :=
  fun y => ∑ e : Fin 4096, nrmB z g (ix2 (y 0) e) * w (ix2 (y 1) e)

theorem pay1_eq (z : Vec Ideal S256x4096 .f32) (g : Vec Ideal S1x4096 .f32) : k0_pay1 (F := Ideal) z g = nrmB z g := by
  funext y
  unfold_payloads
  pointwise []
  rfl

theorem pay2_eq (z : Vec Ideal S256x4096 .f32) (g : Vec Ideal S1x4096 .f32) (w : Vec Ideal S256x4096 .bf16) :
    k0_pay2 (F := Ideal) z g w = gateB z g w := by
  funext y
  unfold k0_pay2
  rw [pay1_eq]
  pointwise []
  rfl

theorem pay3_eq (z : Vec Ideal S256x4096 .f32) (g : Vec Ideal S1x4096 .f32) : k0_pay3 (F := Ideal) z g = nrmB z g := by
  funext y
  unfold_payloads
  pointwise []
  rfl

theorem pay4_eq (z : Vec Ideal S256x4096 .f32) (g : Vec Ideal S1x4096 .f32) (w : Vec Ideal S256x4096 .bf16) :
    k0_pay4 (F := Ideal) z g w = gateB z g w := by
  funext y
  unfold k0_pay4
  rw [pay3_eq]
  pointwise []
  rfl

theorem pay5_eq (z : Vec Ideal S256x4096 .f32) (g : Vec Ideal S1x4096 .f32) : k0_pay5 (F := Ideal) z g = nrmB z g := by
  funext y
  unfold_payloads
  pointwise []
  rfl

theorem pay6_eq (z : Vec Ideal S256x4096 .f32) (g : Vec Ideal S1x4096 .f32) (w : Vec Ideal S256x4096 .bf16) :
    k0_pay6 (F := Ideal) z g w = gateB z g w := by
  funext y
  unfold k0_pay6
  rw [pay5_eq]
  pointwise []
  rfl

theorem z2 : (![0, 0] : Fin 2 → ℕ) = fun _ => 0 := by decide

theorem ldX {e : EltTy} (x : Vec Ideal S256x4096 e) : View.ld x (Rect.unit (s := S256x4096) ![0, 0] ![256, 4096] inb_S256x4096_S256x4096_0_0) = x :=
  View.ld_unit_zero z2 _ _
theorem ldG (x : Vec Ideal S1x4096 .f32) : View.ld x (Rect.unit (s := S1x4096) ![0, 0] ![1, 4096] inb_S1x4096_S1x4096_0_0) = x :=
  View.ld_unit_zero z2 _ _

theorem blk_A_5 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x256 .f32) (harg7 : arg7.IsWhole) (hc0 : cond0_0 i) (hc1 : ¬cond0_1 i) (hc2 : ¬cond0_2 i)
    (x0 : Vec Ideal S256x4096 .f32) (x1 : Vec Ideal S256x4096 .f32) (x2 : Vec Ideal S256x4096 .f32) (x3 : Vec Ideal S1x4096 .f32) (x4 : Vec Ideal S256x4096 .bf16) :
    out0_A_5 (F := Ideal) c i arg1 harg1 arg2 harg2 arg3 harg3 arg4 harg4 arg5 harg5 arg6 harg6 arg7 harg7 hc0 hc1 hc2 x0 x1 x2 x3 x4 = nrmB x0 x3 := by
  unfold out0_A_5
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread]
  simp only [ldX x0, ldG x3, pay1_eq]
  exact View.canon_unit_zero z2 _ _

theorem blk_A_6 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x256 .f32) (harg7 : arg7.IsWhole) (hc0 : cond0_0 i) (hc1 : ¬cond0_1 i) (hc2 : ¬cond0_2 i)
    (x0 : Vec Ideal S256x4096 .f32) (x1 : Vec Ideal S256x4096 .f32) (x2 : Vec Ideal S256x4096 .f32) (x3 : Vec Ideal S1x4096 .f32) (x4 : Vec Ideal S256x4096 .bf16) :
    out0_A_6 (F := Ideal) c i arg1 harg1 arg2 harg2 arg3 harg3 arg4 harg4 arg5 harg5 arg6 harg6 arg7 harg7 hc0 hc1 hc2 x0 x1 x2 x3 x4 = gateB x0 x3 x4 := by
  unfold out0_A_6
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread]
  simp only [ldX x0, ldG x3, ldX x4, pay2_eq]
  exact View.canon_unit_zero z2 _ _

theorem blk_B_5 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x256 .f32) (harg7 : arg7.IsWhole) (hc0 : ¬cond0_0 i) (hc1 : cond0_1 i) (hc2 : ¬cond0_2 i)
    (x0 : Vec Ideal S256x4096 .f32) (x1 : Vec Ideal S256x4096 .f32) (x2 : Vec Ideal S256x4096 .f32) (x3 : Vec Ideal S1x4096 .f32) (x4 : Vec Ideal S256x4096 .bf16) :
    out0_B_5 (F := Ideal) c i arg1 harg1 arg2 harg2 arg3 harg3 arg4 harg4 arg5 harg5 arg6 harg6 arg7 harg7 hc0 hc1 hc2 x0 x1 x2 x3 x4 = nrmB x1 x3 := by
  unfold out0_B_5
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread]
  simp only [ldX x1, ldG x3, pay3_eq]
  exact View.canon_unit_zero z2 _ _

theorem blk_B_6 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x256 .f32) (harg7 : arg7.IsWhole) (hc0 : ¬cond0_0 i) (hc1 : cond0_1 i) (hc2 : ¬cond0_2 i)
    (x0 : Vec Ideal S256x4096 .f32) (x1 : Vec Ideal S256x4096 .f32) (x2 : Vec Ideal S256x4096 .f32) (x3 : Vec Ideal S1x4096 .f32) (x4 : Vec Ideal S256x4096 .bf16) :
    out0_B_6 (F := Ideal) c i arg1 harg1 arg2 harg2 arg3 harg3 arg4 harg4 arg5 harg5 arg6 harg6 arg7 harg7 hc0 hc1 hc2 x0 x1 x2 x3 x4 = gateB x1 x3 x4 := by
  unfold out0_B_6
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread]
  simp only [ldX x1, ldG x3, ldX x4, pay4_eq]
  exact View.canon_unit_zero z2 _ _

theorem blk_C_5 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x256 .f32) (harg7 : arg7.IsWhole) (hc0 : ¬cond0_0 i) (hc1 : ¬cond0_1 i) (hc2 : cond0_2 i)
    (x0 : Vec Ideal S256x4096 .f32) (x1 : Vec Ideal S256x4096 .f32) (x2 : Vec Ideal S256x4096 .f32) (x3 : Vec Ideal S1x4096 .f32) (x4 : Vec Ideal S256x4096 .bf16) :
    out0_C_5 (F := Ideal) c i arg1 harg1 arg2 harg2 arg3 harg3 arg4 harg4 arg5 harg5 arg6 harg6 arg7 harg7 hc0 hc1 hc2 x0 x1 x2 x3 x4 = nrmB x2 x3 := by
  unfold out0_C_5
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread]
  simp only [ldX x2, ldG x3, pay5_eq]
  exact View.canon_unit_zero z2 _ _

theorem blk_C_6 (c : Dev nD) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S256x256 .f32) (harg7 : arg7.IsWhole) (hc0 : ¬cond0_0 i) (hc1 : ¬cond0_1 i) (hc2 : cond0_2 i)
    (x0 : Vec Ideal S256x4096 .f32) (x1 : Vec Ideal S256x4096 .f32) (x2 : Vec Ideal S256x4096 .f32) (x3 : Vec Ideal S1x4096 .f32) (x4 : Vec Ideal S256x4096 .bf16) :
    out0_C_6 (F := Ideal) c i arg1 harg1 arg2 harg2 arg3 harg3 arg4 harg4 arg5 harg5 arg6 harg6 arg7 harg7 hc0 hc1 hc2 x0 x1 x2 x3 x4 = gateB x2 x3 x4 := by
  unfold out0_C_6
  rw [View.read_writes_junk_eq_canon]
  unfold kernelRun0_C
  dsimp only
  sl_unfold_words
  simp only [View.readAt_eq_ld, harg1.read_unread, harg2.read_unread, harg3.read_unread, harg4.read_unread, harg5.read_unread, harg6.read_unread, harg7.read_unread]
  simp only [ldX x2, ldG x3, ldX x4, pay6_eq]
  exact View.canon_unit_zero z2 _ _

end Cert.NormIdeal.Gen
end
-- ==== Proof.NormArr.lean ====
module

public import proofs.«01_k».proof.Proof.NormBlk
public import Idealize.ShloMosaic.Lib.StableHlo.RunRead

/-! The two results, as functions of what the region finds. -/

@[expose] public section

set_option maxRecDepth 100000
set_option backward.proofsInPublic true

noncomputable section

namespace Cert.NormIdeal.Gen

open Idealize.ShloMosaic Idealize.ShloMosaic.TcCoe Idealize.ShloMosaic.Tactic
open Idealize.ShloMosaic.Pipeline (Dat)

/-- The norm of all rows. -/
def nrmA (X : Vec Ideal S17664x4096 .f32) (g : Vec Ideal S1x4096 .f32) : Vec Ideal S17664x4096 .bf16 :=
  fun i => X i * Ideal.rsqrt (Ideal.div (∑ e : Fin 4096, X (ix2 (i 0) e) * X (ix2 (i 0) e)) (Ideal.ofBits FTy.f32 0x45800000#32)
    + Ideal.ofBits FTy.f32 0x358637BD#32) * g (ix2 0 (i 1))

/-- The gate columns of all rows. -/
def gateA (X : Vec Ideal S17664x4096 .f32) (g : Vec Ideal S1x4096 .f32) (w : Vec Ideal S256x4096 .bf16) : Vec Ideal S17664x256 .f32 :=
  fun i => ∑ e : Fin 4096, nrmA X g (ix2 (i 0) e) * w (ix2 (i 1) e)

/-- The row of a grid point and a row of its block. -/
abbrev rowN (t : Fin 69) (r : Fin 256) : Fin 17664 := ⟨t.val * 256 + r.val, by omega⟩

theorem nrm_step (z : Vec Ideal S256x4096 .f32) (g G : Vec Ideal S1x4096 .f32) (X : Vec Ideal S17664x4096 .f32) (t : Fin 69)
    (hz : ∀ r e, z (ix2 r e) = X (ix2 (rowN t r) e)) (hg : ∀ d, g (ix2 0 d) = G (ix2 0 d)) (r : Fin 256) (d : Fin 4096) :
    nrmB z g (ix2 r d) = nrmA X G (ix2 (rowN t r) d) := by
  show z (ix2 r d) * Ideal.rsqrt (Ideal.div (∑ e : Fin 4096, z (ix2 r e) * z (ix2 r e)) (Ideal.ofBits FTy.f32 0x45800000#32)
    + Ideal.ofBits FTy.f32 0x358637BD#32) * g (ix2 0 d) = _
  rw [hz, hg, Finset.sum_congr rfl fun e _ => by rw [hz r e]]
  rfl

theorem gate_step (z : Vec Ideal S256x4096 .f32) (g G : Vec Ideal S1x4096 .f32) (w W : Vec Ideal S256x4096 .bf16) (X : Vec Ideal S17664x4096 .f32) (t : Fin 69)
    (hz : ∀ r e, z (ix2 r e) = X (ix2 (rowN t r) e)) (hg : ∀ d, g (ix2 0 d) = G (ix2 0 d)) (hw : ∀ k e, w (ix2 k e) = W (ix2 k e)) (r : Fin 256) (k : Fin 256) :
    gateB z g w (ix2 r k) = gateA X G W (ix2 (rowN t r) k) := by
  show ∑ e : Fin 4096, nrmB z g (ix2 r e) * w (ix2 k e) = ∑ e : Fin 4096, nrmA X G (ix2 (rowN t r) e) * W (ix2 k e)
  exact Finset.sum_congr rfl fun e _ => by rw [nrm_step z g G X t hz hg, hw]

variable (m : (ℓ : Loc nD τ sig) → Buf (Elt Ideal) ℓ) (c : Dev nD)

theorem g0 : ∀ t : Fin cfg0.N, win0_0.index t = ![min t.val 63, 0] := by decide +kernel
theorem g1 : ∀ t : Fin cfg0.N, win0_1.index t = ![min (t.val - 64) 3, 0] := by decide +kernel
theorem g2 : ∀ t : Fin cfg0.N, win0_2.index t = ![0, 0] := by decide +kernel
theorem g3 : ∀ t : Fin cfg0.N, win0_3.index t = ![0, 0] := by decide +kernel
theorem g4 : ∀ t : Fin cfg0.N, win0_4.index t = ![0, 0] := by decide +kernel
theorem g5 : ∀ t : Fin cfg0.N, win0_5.index t = ![t.val, 0] := by decide +kernel
theorem g6 : ∀ t : Fin cfg0.N, win0_6.index t = ![t.val, 0] := by decide +kernel

/-- What the region finds in the arrays it reads. -/
abbrev RX : Vec Ideal S16384x4096 .f32 := V m c main_arg0
abbrev RS : Vec Ideal S1024x4096 .f32 := V m c main_v10
abbrev RM : Vec Ideal S256x4096 .f32 := V m c main_v11
abbrev RG : Vec Ideal S1x4096 .f32 := V m c main_v9
abbrev RW : Vec Ideal S256x4096 .bf16 := V m c main_v8

theorem b0 (t : Fin cfg0.N) (ht : t.val < 64) (r : Fin 256) (e : Fin 4096) :
    (iblk m c 0 t : Vec Ideal S256x4096 .f32) (ix2 r e) = RX m c (ix2 ⟨t.val * 256 + r.val, by omega⟩ e) := by
  blk_simp [iblk]
  refine congrArg (RX m c) ?_
  blk_ext [g0]

theorem b1 (t : Fin cfg0.N) (h0 : 64 ≤ t.val) (ht : t.val < 68) (r : Fin 256) (e : Fin 4096) :
    (iblk m c 1 t : Vec Ideal S256x4096 .f32) (ix2 r e) = RS m c (ix2 ⟨(t.val - 64) * 256 + r.val, by omega⟩ e) := by
  blk_simp [iblk]
  refine congrArg (RS m c) ?_
  blk_ext [g1]

theorem b2 (t : Fin cfg0.N) (r : Fin 256) (e : Fin 4096) :
    (iblk m c 2 t : Vec Ideal S256x4096 .f32) (ix2 r e) = RM m c (ix2 r e) := by
  blk_simp [iblk]
  refine congrArg (RM m c) ?_
  blk_ext [g2]

theorem b3 (t : Fin cfg0.N) (d : Fin 4096) :
    (iblk m c 3 t : Vec Ideal S1x4096 .f32) (ix2 0 d) = RG m c (ix2 0 d) := by
  blk_simp [iblk]
  refine congrArg (RG m c) ?_
  blk_ext [g3]

theorem b4 (t : Fin cfg0.N) (k : Fin 256) (e : Fin 4096) :
    (iblk m c 4 t : Vec Ideal S256x4096 .bf16) (ix2 k e) = RW m c (ix2 k e) := by
  blk_simp [iblk]
  refine congrArg (RW m c) ?_
  blk_ext [g4]

theorem sA (t : Fin cfg0.N) (ha : t.val < 64) :
    outsAt0 m c t.val t.isLt = (nrmB (iblk m c 0 t) (iblk m c 3 t), gateB (iblk m c 0 t) (iblk m c 3 t) (iblk m c 4 t)) := by
  have hN : t.val < 69 := t.isLt
  rw [outsAt0_A m c t ha (by omega) (by omega), blk_A_5, blk_A_6]

theorem sB (t : Fin cfg0.N) (ha : ¬t.val < 64) (hb : t.val < 68) :
    outsAt0 m c t.val t.isLt = (nrmB (iblk m c 1 t) (iblk m c 3 t), gateB (iblk m c 1 t) (iblk m c 3 t) (iblk m c 4 t)) := by
  have hN : t.val < 69 := t.isLt
  rw [outsAt0_B m c t ha (by omega) (by omega), blk_B_5, blk_B_6]

theorem sC (t : Fin cfg0.N) (ha : ¬t.val < 64) (hb : ¬t.val < 68) :
    outsAt0 m c t.val t.isLt = (nrmB (iblk m c 2 t) (iblk m c 3 t), gateB (iblk m c 2 t) (iblk m c 3 t) (iblk m c 4 t)) := by
  have hN : t.val < 69 := t.isLt
  rw [outsAt0_C m c t ha (by omega) (by omega), blk_C_5, blk_C_6]

section
variable (X : Vec Ideal S17664x4096 .f32)
  (h0 : ∀ (t : Fin 16384) e, RX m c (ix2 t e) = X (ix2 ⟨t.val, by omega⟩ e))
  (h1 : ∀ (t : Fin 1024) e, RS m c (ix2 t e) = X (ix2 ⟨16384 + t.val, by omega⟩ e))
  (h2 : ∀ (t : Fin 256) e, RM m c (ix2 t e) = X (ix2 ⟨17408 + t.val, by omega⟩ e))

theorem sX (t : Fin cfg0.N) (z : Vec Ideal S256x4096 .f32) (hz : ∀ r e, z (ix2 r e) = X (ix2 (rowN t r) e))
    (o : Vec Ideal S256x4096 .bf16 × Vec Ideal S256x256 .f32) (ho : o = (nrmB z (iblk m c 3 t), gateB z (iblk m c 3 t) (iblk m c 4 t))) (r : Fin 256) :
    (∀ d : Fin 4096, o.1 (ix2 r d) = nrmA X (RG m c) (ix2 (rowN t r) d))
    ∧ (∀ k : Fin 256, o.2 (ix2 r k) = gateA X (RG m c) (RW m c) (ix2 (rowN t r) k)) := by
  subst ho
  exact ⟨fun d => nrm_step z _ _ X t hz (b3 m c t) r d, fun k => gate_step z _ _ _ _ X t hz (b3 m c t) (b4 m c t) r k⟩

include h0 h1 h2

theorem s_all (t : Fin cfg0.N) (r : Fin 256) :
    (∀ d : Fin 4096, (outsAt0 m c t.val t.isLt).1 (ix2 r d) = nrmA X (RG m c) (ix2 (rowN t r) d))
    ∧ (∀ k : Fin 256, (outsAt0 m c t.val t.isLt).2 (ix2 r k) = gateA X (RG m c) (RW m c) (ix2 (rowN t r) k)) := by
  have hN : t.val < 69 := t.isLt
  by_cases ha : t.val < 64
  · exact sX m c X t (iblk m c 0 t) (fun r e => (b0 m c t ha r e).trans (h0 _ e)) _ (sA m c t ha) r
  · by_cases hb : t.val < 68
    · exact sX m c X t (iblk m c 1 t) (fun r e => (b1 m c t (by omega) hb r e).trans ((h1 _ e).trans
        (congrArg (fun q : Fin 17664 => X (ix2 q e)) (Fin.ext (by show 16384 + ((t.val - 64) * 256 + r.val) = t.val * 256 + r.val; omega))))) _ (sB m c t ha hb) r
    · exact sX m c X t (iblk m c 2 t) (fun r e => (b2 m c t r e).trans ((h2 _ e).trans
        (congrArg (fun q : Fin 17664 => X (ix2 q e)) (Fin.ext (by show 17408 + r.val = t.val * 256 + r.val; omega))))) _ (sC m c t ha hb) r

theorem arr5 : (dats m 0 c).arrAt 5 cfg0.N = nrmA X (RG m c) := by
  refine (dats m 0 c).arrAt_eq_of_covers 5 _ (by decide +kernel) fun t hf y => ?_
  blk_simp
  rw [after0_5]
  have hy : y = (ix2 (y 0 : Fin 256) (y 1 : Fin 4096) : S256x4096.Idx) := funext fun a => by
    match a with
    | ⟨0, _⟩ => rfl
    | ⟨1, _⟩ => rfl
  refine (congrArg _ hy).trans (((s_all m c X h0 h1 h2 t (y 0)).1 (y 1)).trans (congrArg (nrmA X (RG m c)) ?_))
  blk_ext [g5]

theorem arr6 : (dats m 0 c).arrAt 6 cfg0.N = gateA X (RG m c) (RW m c) := by
  refine (dats m 0 c).arrAt_eq_of_covers 6 _ (by decide +kernel) fun t hf y => ?_
  blk_simp
  rw [after0_6]
  have hy : y = (ix2 (y 0 : Fin 256) (y 1 : Fin 256) : S256x256.Idx) := funext fun a => by
    match a with
    | ⟨0, _⟩ => rfl
    | ⟨1, _⟩ => rfl
  refine (congrArg _ hy).trans (((s_all m c X h0 h1 h2 t (y 0)).2 (y 1)).trans (congrArg (gateA X (RG m c) (RW m c)) ?_))
  blk_ext [g6]

end

end Cert.NormIdeal.Gen
end
-- ==== Proof.NormRead.lean ====
module

public import proofs.«01_k».proof.Proof.NormHost
public import Idealize.ShloMosaic.Lib.StableHlo.RunRead
public import Idealize.ShloMosaic.Lib.KernelVsHost
public import proofs.«01_k».proof.Proof.NormArr

/-! What the region finds, as a function of the arguments. -/

@[expose] public section

set_option maxRecDepth 100000

noncomputable section

namespace Cert.NormIdeal.Gen

open Idealize.ShloMosaic Idealize.ShloMosaic.TcCoe Idealize.ShloMosaic.Tactic

variable (m : (ℓ : Loc nD τ sig) → Buf (Elt Ideal) ℓ) (c : Dev nD)

/-- The arguments. -/
abbrev A0 : Vec Ideal S16384x4096 .f32 := m ((c : Thread nD τ).loc main_arg0)
abbrev A1 : Vec Ideal S16x64x4096 .f32 := m ((c : Thread nD τ).loc main_arg1)
abbrev A2 : Vec Ideal S16x4096 .f32 := m ((c : Thread nD τ).loc main_arg2)
abbrev A3 : Vec Ideal S4096 .f32 := m ((c : Thread nD τ).loc main_arg3)
abbrev A4 : Vec Ideal S4096x18448 .f32 := m ((c : Thread nD τ).loc main_arg4)

theorem rS (t : Fin 1024) (d : Fin 4096) : RS m c (ix2 t d) = A1 m c (ix3 ⟨t.val / 64, by omega⟩ ⟨t.val % 64, by omega⟩ d) := by
  unfold RS V
  after_reads_simp
  pointwise []

theorem rG (d : Fin 4096) : RG m c (ix2 0 d) = A3 m c (ix1 d) := by
  unfold RG V
  after_reads_simp
  pointwise []

theorem rM_in (t : Fin 256) (ht : t.val < 16) (d : Fin 4096) : RM m c (ix2 t d) = A2 m c (ix2 ⟨t.val, ht⟩ d) := by
  unfold RM V
  after_reads_simp
  exact pad_in _ _ t ht d

theorem rM_out (t : Fin 256) (ht : ¬t.val < 16) (d : Fin 4096) : RM m c (ix2 t d) = (0 : EReal) := by
  unfold RM V
  after_reads_simp
  refine (pad_out _ _ t ht d).trans ?_
  show (((0#32 : BitVec 32).toInt : ℝ) : EReal) = 0
  simp

theorem rW_lo (k : Fin 8) (r : Fin 256) (hr : r.val = k.val) (e : Fin 4096) : RW m c (ix2 r e) = A4 m c (ix2 e ⟨18432 + k.val, by omega⟩) := by
  unfold RW V
  after_reads_simp
  refine (w_lo _ _ _ _ _ ?_ ?_ k r hr e).trans ?_
  · rfl
  · rfl
  pointwise []

theorem rW_hi (k : Fin 8) (r : Fin 256) (hr : r.val = 128 + k.val) (e : Fin 4096) : RW m c (ix2 r e) = A4 m c (ix2 e ⟨18440 + k.val, by omega⟩) := by
  unfold RW V
  after_reads_simp
  refine (w_hi _ _ _ _ _ ?_ ?_ k r hr e).trans ?_
  · rfl
  · rfl
  pointwise []

theorem rW_no (r : Fin 256) (h0 : 8 ≤ r.val) (h1 : r.val < 128 ∨ 136 ≤ r.val) (e : Fin 4096) : RW m c (ix2 r e) = (0 : EReal) := by
  unfold RW V
  after_reads_simp
  refine (w_no _ _ _ _ _ ?_ ?_ r h0 h1 e).trans ?_
  · rfl
  · rfl
  pointwise []
  try exact Ideal.ofBits_zero _

end Cert.NormIdeal.Gen
end
-- ==== Proof.NormVals.lean ====
module

public import proofs.«01_k».proof.Proof.NormRead
public import proofs.«01_k».proof.Proof.Gen.NormRefIdeal.Read

/-! The kernel's two results are the reference's. -/

@[expose] public section

set_option maxRecDepth 100000

noncomputable section

namespace Cert.NormIdeal.Gen

open Idealize.ShloMosaic Idealize.ShloMosaic.TcCoe
open Cert.NormRefIdeal.Read
open Cert.NormRefIdeal (S17664x8 S17664x120 S240x4096)

section
variable (x0 : Vec Ideal S16384x4096 .f32) (x1 : Vec Ideal S16x64x4096 .f32) (x2 : Vec Ideal S16x4096 .f32) (x3 : Vec Ideal S4096 .f32) (x4 : Vec Ideal S4096x18448 .f32)

/-- The reference's rows in one array. -/
abbrev rowsR : Vec Ideal S17664x4096 .f32 := val_main_v2 (F := Ideal) x0 x1 x2

theorem rows0 (t : Fin 16384) (e : Fin 4096) : x0 (ix2 t e) = rowsR x0 x1 x2 (ix2 ⟨t.val, by omega⟩ e) := by
  refine Eq.symm ?_
  unfold rowsR val_main_v2
  exact concatenate_apply_piece (t := S17664x4096) 0 _ _ (ix2 ⟨t.val, by omega⟩ e) 0 (by show 0 < 4; decide) S16384x4096 _ rfl rfl 0 rfl (ix2 t e)
    (fun b hb => match b with | ⟨0, _⟩ => absurd rfl hb | ⟨1, _⟩ => rfl) (by show 0 + t.val = t.val; omega)

theorem rows1 (t : Fin 1024) (e : Fin 4096) :
    x1 (ix3 ⟨t.val / 64, by omega⟩ ⟨t.val % 64, by omega⟩ e) = rowsR x0 x1 x2 (ix2 ⟨16384 + t.val, by omega⟩ e) := by
  refine Eq.symm ?_
  unfold rowsR val_main_v2
  refine (concatenate_apply_piece (t := S17664x4096) 0 _ _ (ix2 ⟨16384 + t.val, by omega⟩ e) 1 (by show 1 < 4; decide) S1024x4096 _ rfl rfl 16384 rfl (ix2 t e)
    (fun b hb => match b with | ⟨0, _⟩ => absurd rfl hb | ⟨1, _⟩ => rfl) (by show 16384 + t.val = 16384 + t.val; omega)).trans ?_
  rw [val_main_v0_apply]
  refine congrArg x1 (funext fun a => ?_)
  match a with
  | ⟨0, _⟩ => exact Fin.ext (by show (t.val * 4096 + e.val) / 262144 = t.val / 64; omega)
  | ⟨1, _⟩ => exact Fin.ext (by show (t.val * 4096 + e.val) / 4096 % 64 = t.val % 64; omega)
  | ⟨2, _⟩ => exact Fin.ext (by show (t.val * 4096 + e.val) % 4096 = e.val; omega)

theorem rows2 (t : Fin 256) (ht : t.val < 16) (e : Fin 4096) : x2 (ix2 ⟨t.val, ht⟩ e) = rowsR x0 x1 x2 (ix2 ⟨17408 + t.val, by omega⟩ e) := by
  refine Eq.symm ?_
  unfold rowsR val_main_v2
  exact concatenate_apply_piece (t := S17664x4096) 0 _ _ (ix2 ⟨17408 + t.val, by omega⟩ e) 2 (by show 2 < 4; decide) S16x4096 _ rfl rfl 17408 rfl (ix2 ⟨t.val, ht⟩ e)
    (fun b hb => match b with | ⟨0, _⟩ => absurd rfl hb | ⟨1, _⟩ => rfl) (by show 17408 + t.val = 17408 + t.val; omega)

theorem rows3 (t : Fin 256) (ht : ¬t.val < 16) (e : Fin 4096) : (0 : EReal) = rowsR x0 x1 x2 (ix2 ⟨17408 + t.val, by omega⟩ e) := by
  refine Eq.symm ?_
  unfold rowsR val_main_v2
  refine (concatenate_apply_piece (t := S17664x4096) 0 _ _ (ix2 ⟨17408 + t.val, by omega⟩ e) 3 (by show 3 < 4; decide) S240x4096 _ rfl rfl 17424 rfl (ix2 ⟨t.val - 16, by omega⟩ e)
    (fun b hb => match b with | ⟨0, _⟩ => absurd rfl hb | ⟨1, _⟩ => rfl) (by show 17424 + (t.val - 16) = 17408 + t.val; omega)).trans ?_
  rw [val_main_v1_apply, val_main_cst_apply]
  exact Ideal.ofBits_zero _

variable (G : Vec Ideal S1x4096 .f32) (hG : ∀ d, G (ix2 0 d) = x3 (ix1 d))
include hG

theorem ref_nrm (t : Fin 17664) (d : Fin 4096) :
    val_main_v15 (F := Ideal) x0 x1 x2 x3 (ix2 t d) = nrmA (rowsR x0 x1 x2) G (ix2 t d) := by
  have hs : val_main_v4 (F := Ideal) x0 x1 x2 (idx_main_v5 (idx_main_v11 (ix2 t d))) = ∑ e : Fin 4096, rowsR x0 x1 x2 (ix2 t e) * rowsR x0 x1 x2 (ix2 t e) := by
    rw [val_main_v4_apply, val_main_cst_0_apply]
    refine (congrArg (fun v : EReal => v + _) (Ideal.ofBits_zero _)).trans ((zero_add _).trans (Finset.sum_congr rfl fun e _ => ?_))
    rw [val_main_v3_apply, show idx_main_v4 (idx_main_v5 (idx_main_v11 (ix2 t d))) e = ix2 t e from funext fun a => by
      match a with
      | ⟨0, _⟩ => rfl
      | ⟨1, _⟩ => rfl]
    rfl
  rw [val_main_v15_apply, val_main_v12_apply, val_main_v11_apply, val_main_v10_apply, val_main_v9_apply, val_main_v7_apply,
    val_main_v5_apply, hs, val_main_v6_apply, val_main_v8_apply, val_main_cst_1_apply, val_main_cst_2_apply, val_main_v14_apply, val_main_v13_apply]
  unfold nrmA
  refine congrArg₂ (fun a b : EReal => a * b) rfl ((congrArg x3 (funext fun a => ?_)).trans (hG d).symm)
  match a with
  | ⟨0, _⟩ => rfl

theorem ref_dot (t : Fin 17664) (k : Fin 16) :
    val_main_v17 (F := Ideal) x0 x1 x2 x3 x4 (ix2 t k) = ∑ e : Fin 4096, nrmA (rowsR x0 x1 x2) G (ix2 t e) * x4 (ix2 e ⟨18432 + k.val, by omega⟩) := by
  rw [val_main_v17_apply]
  refine Finset.sum_congr rfl fun e _ => ?_
  rw [show lidx_main_v17 (ix2 t k) e = ix2 t e from funext fun a => by
      match a with
      | ⟨0, _⟩ => rfl
      | ⟨1, _⟩ => rfl, ref_nrm x0 x1 x2 x3 G hG, val_main_v16_apply]
  refine congrArg₂ (fun a b : EReal => a * b) rfl (congrArg x4 (funext fun a => ?_))
  match a with
  | ⟨0, _⟩ => rfl
  | ⟨1, _⟩ => rfl

variable (W : Vec Ideal S256x4096 .bf16)
  (hlo : ∀ (k : Fin 8) (r : Fin 256) (_ : r.val = k.val) (e : Fin 4096), W (ix2 r e) = x4 (ix2 e ⟨18432 + k.val, by omega⟩))
  (hhi : ∀ (k : Fin 8) (r : Fin 256) (_ : r.val = 128 + k.val) (e : Fin 4096), W (ix2 r e) = x4 (ix2 e ⟨18440 + k.val, by omega⟩))
  (hno : ∀ (r : Fin 256) (_ : 8 ≤ r.val) (_ : r.val < 128 ∨ 136 ≤ r.val) (e : Fin 4096), W (ix2 r e) = (0 : EReal))
include hlo hhi hno

theorem ref_gate (t : Fin 17664) (k : Fin 256) :
    val_main_v21 (F := Ideal) x0 x1 x2 x3 x4 (ix2 t k) = gateA (rowsR x0 x1 x2) G W (ix2 t k) := by
  have hg : gateA (rowsR x0 x1 x2) G W (ix2 t k) = ∑ e : Fin 4096, nrmA (rowsR x0 x1 x2) G (ix2 t e) * W (ix2 k e) := rfl
  have hz : (8 ≤ k.val) → (k.val < 128 ∨ 136 ≤ k.val) → (0 : EReal) = gateA (rowsR x0 x1 x2) G W (ix2 t k) := fun a b => by
    rw [hg]
    refine (Finset.sum_eq_zero fun e _ => ?_).symm
    rw [hno k a b e]
    exact mul_zero _
  have hk := k.isLt
  unfold val_main_v21
  by_cases c0 : k.val < 8
  · refine (concatenate_apply_piece (t := S17664x256) 1 _ _ (ix2 t k) 0 (by show 0 < 4; decide) S17664x8 _ rfl rfl 0 rfl (ix2 t ⟨k.val, c0⟩)
      (fun b hb => match b with | ⟨0, _⟩ => rfl | ⟨1, _⟩ => absurd rfl hb) (by show 0 + k.val = k.val; omega)).trans ?_
    rw [val_main_v19_apply, show idx_main_v19 (ix2 t ⟨k.val, c0⟩) = ix2 t (⟨k.val, by omega⟩ : Fin 16) from funext fun a => by
      match a with
      | ⟨0, _⟩ => rfl
      | ⟨1, _⟩ => rfl, ref_dot x0 x1 x2 x3 x4 G hG, hg]
    exact Finset.sum_congr rfl fun e _ => by rw [hlo ⟨k.val, c0⟩ k rfl e]
  by_cases c1 : k.val < 128
  · refine (concatenate_apply_piece (t := S17664x256) 1 _ _ (ix2 t k) 1 (by show 1 < 4; decide) S17664x120 _ rfl rfl 8 rfl (ix2 t ⟨k.val - 8, by omega⟩)
      (fun b hb => match b with | ⟨0, _⟩ => rfl | ⟨1, _⟩ => absurd rfl hb) (by show 8 + (k.val - 8) = k.val; omega)).trans ?_
    rw [val_main_v18_apply, val_main_cst_3_apply]
    exact (Ideal.ofBits_zero _).trans (hz (by omega) (by omega))
  by_cases c2 : k.val < 136
  · refine (concatenate_apply_piece (t := S17664x256) 1 _ _ (ix2 t k) 2 (by show 2 < 4; decide) S17664x8 _ rfl rfl 128 rfl (ix2 t ⟨k.val - 128, by omega⟩)
      (fun b hb => match b with | ⟨0, _⟩ => rfl | ⟨1, _⟩ => absurd rfl hb) (by show 128 + (k.val - 128) = k.val; omega)).trans ?_
    rw [val_main_v20_apply, show idx_main_v20 (ix2 t ⟨k.val - 128, by omega⟩) = ix2 t (⟨8 + (k.val - 128), by omega⟩ : Fin 16) from funext fun a => by
      match a with
      | ⟨0, _⟩ => rfl
      | ⟨1, _⟩ => rfl, ref_dot x0 x1 x2 x3 x4 G hG, hg]
    refine Finset.sum_congr rfl fun e _ => ?_
    rw [hhi ⟨k.val - 128, by omega⟩ k (by show k.val = 128 + (k.val - 128); omega) e]
    refine congrArg₂ (fun a b : EReal => a * b) rfl (congrArg (fun q : Fin 18448 => x4 (ix2 e q)) (Fin.ext ?_))
    show 18432 + (8 + (k.val - 128)) = 18440 + (k.val - 128)
    omega
  · refine (concatenate_apply_piece (t := S17664x256) 1 _ _ (ix2 t k) 3 (by show 3 < 4; decide) S17664x120 _ rfl rfl 136 rfl (ix2 t ⟨k.val - 136, by omega⟩)
      (fun b hb => match b with | ⟨0, _⟩ => rfl | ⟨1, _⟩ => absurd rfl hb) (by show 136 + (k.val - 136) = k.val; omega)).trans ?_
    rw [val_main_v18_apply, val_main_cst_3_apply]
    exact (Ideal.ofBits_zero _).trans (hz (by omega) (by omega))

end

variable (m : (ℓ : Loc nD τ sig) → Buf (Elt Ideal) ℓ) (c : Dev nD)

theorem i0 (t : Fin 16384) (e : Fin 4096) : RX m c (ix2 t e) = rowsR (A0 m c) (A1 m c) (A2 m c) (ix2 ⟨t.val, by omega⟩ e) := by
  rw [show RX m c = A0 m c from V_main_arg0 m c]
  exact rows0 (A0 m c) (A1 m c) (A2 m c) t e
theorem i1 (t : Fin 1024) (e : Fin 4096) : RS m c (ix2 t e) = rowsR (A0 m c) (A1 m c) (A2 m c) (ix2 ⟨16384 + t.val, by omega⟩ e) :=
  (rS m c t e).trans (rows1 (A0 m c) (A1 m c) (A2 m c) t e)
theorem i2 (t : Fin 256) (e : Fin 4096) : RM m c (ix2 t e) = rowsR (A0 m c) (A1 m c) (A2 m c) (ix2 ⟨17408 + t.val, by omega⟩ e) := by
  by_cases ht : t.val < 16
  · exact (rM_in m c t ht e).trans (rows2 (A0 m c) (A1 m c) (A2 m c) t ht e)
  · exact (rM_out m c t ht e).trans (rows3 (A0 m c) (A1 m c) (A2 m c) t ht e)

theorem xn_val : (dats m 0 c).arrAt 5 cfg0.N = val_main_v22 (F := Ideal) (A0 m c) (A1 m c) (A2 m c) (A3 m c) := by
  rw [arr5 m c _ (i0 m c) (i1 m c) (i2 m c)]
  refine funext fun i => ?_
  have hi : i = (ix2 (i 0 : Fin 17664) (i 1 : Fin 4096) : S17664x4096.Idx) := funext fun a => by
    match a with
    | ⟨0, _⟩ => rfl
    | ⟨1, _⟩ => rfl
  refine (congrArg _ hi).trans ((ref_nrm (A0 m c) (A1 m c) (A2 m c) (A3 m c) (RG m c) (rG m c) (i 0) (i 1)).symm.trans ?_)
  exact (congrArg (val_main_v15 (F := Ideal) (A0 m c) (A1 m c) (A2 m c) (A3 m c)) hi.symm)

theorem gate_val : (dats m 0 c).arrAt 6 cfg0.N = val_main_v21 (F := Ideal) (A0 m c) (A1 m c) (A2 m c) (A3 m c) (A4 m c) := by
  rw [arr6 m c _ (i0 m c) (i1 m c) (i2 m c)]
  refine funext fun i => ?_
  have hi : i = (ix2 (i 0 : Fin 17664) (i 1 : Fin 256) : S17664x256.Idx) := funext fun a => by
    match a with
    | ⟨0, _⟩ => rfl
    | ⟨1, _⟩ => rfl
  exact (congrArg _ hi).trans ((ref_gate (A0 m c) (A1 m c) (A2 m c) (A3 m c) (A4 m c) (RG m c) (rG m c) (RW m c) (rW_lo m c) (rW_hi m c) (rW_no m c)
    (i 0) (i 1)).symm.trans (congrArg _ hi.symm))

end Cert.NormIdeal.Gen
end
-- ==== Proof.lean ====
module

public import proofs.«01_k».proof.Defs
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleRefIdeal.Run
public import proofs.«01_k».proof.Proof.Gen.SampleRefIdeal.Read
public import proofs.«01_k».proof.Proof.Gen.Pre_forget_open
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import Idealize.ShloMosaic.Adequacy
public import Idealize.ShloMosaic.Init
public import Idealize.ShloMosaic.Lib.Quiescent
public import proofs.«01_k».proof.Proof.Vals
public import proofs.«01_k».proof.Proof.Ends
public import proofs.«01_k».proof.Proof.ProjVals
public import proofs.«01_k».proof.Proof.OutVals
public import proofs.«01_k».proof.Proof.NormVals

@[expose] public section

noncomputable section

namespace Cert.Proof

open Idealize.ShloMosaic Idealize.ShloMosaic.TcCoe Idealize.SL.Sem

/-- The reference declares no semaphore and leaves its arguments alone. -/
theorem frame_ref : Cert.quiescent_SampleRefIdeal := fun m ρ _ =>
  (θ_run (Cert.SampleRefIdeal.defs (F := Ideal)) _ _).mono (fun r h => ⟨fun c => (h c).2.2.2.2.2,
      Idealize.ShloMosaic.sem_eq_zero_of_no_sems (by decide) r.2⟩)
    (Cert.SampleRefIdeal.Value.run (F := Ideal) m ρ)

/-- On every device the kernels and the reference end with the same five results. -/
theorem values : Cert.algebraic_SampleIdeal_SampleRefIdeal_pre_forget_open := by
  intro m g m' g' hp hag
  have hz := fun c => Cert.SampleIdeal.Gen.open_gate _ _ _ _ _ _ _ _ _ _ _ (hp c)
  refine ⟨fun c => Cert.SampleRefIdeal.Read.val_main_v220 (F := Ideal) (Cert.SampleIdeal.Gen.A0 m c) (Cert.SampleIdeal.Gen.A1 m c) (Cert.SampleIdeal.Gen.A2 m c) (Cert.SampleIdeal.Gen.A3 m c) (Cert.SampleIdeal.Gen.A4 m c) (Cert.SampleIdeal.Gen.A5 m c) (Cert.SampleIdeal.Gen.A6 m c) (Cert.SampleIdeal.Gen.A7 m c) (Cert.SampleIdeal.Gen.A8 m c) (Cert.SampleIdeal.Gen.A9 m c) (Cert.SampleIdeal.Gen.A10 m c),
    fun c => Cert.SampleRefIdeal.Read.val_main_v92 (F := Ideal) (Cert.SampleIdeal.Gen.A0 m c) (Cert.SampleIdeal.Gen.A1 m c) (Cert.SampleIdeal.Gen.A2 m c) (Cert.SampleIdeal.Gen.A3 m c) (Cert.SampleIdeal.Gen.A4 m c) (Cert.SampleIdeal.Gen.A7 m c) (Cert.SampleIdeal.Gen.A9 m c),
    fun c => Cert.SampleRefIdeal.Read.val_main_v97 (F := Ideal) (Cert.SampleIdeal.Gen.A1 m c) (Cert.SampleIdeal.Gen.A2 m c) (Cert.SampleIdeal.Gen.A3 m c) (Cert.SampleIdeal.Gen.A4 m c) (Cert.SampleIdeal.Gen.A8 m c) (Cert.SampleIdeal.Gen.A9 m c),
    fun c => Cert.SampleRefIdeal.Read.val_main_v71 (F := Ideal) (Cert.SampleIdeal.Gen.A2 m c) (Cert.SampleIdeal.Gen.A3 m c) (Cert.SampleIdeal.Gen.A4 m c) (Cert.SampleIdeal.Gen.A9 m c),
    fun c => Cert.SampleRefIdeal.Read.val_main_v167 (F := Ideal) (Cert.SampleIdeal.Gen.A0 m c) (Cert.SampleIdeal.Gen.A1 m c) (Cert.SampleIdeal.Gen.A10 m c), ?_, ?_⟩
  · exact (θ_run (Cert.SampleIdeal.defs (F := Ideal)) _ _).mono (fun _ h c =>
      ⟨(h c).1.trans (Cert.SampleIdeal.Gen.y_val m g c (hz c)), (h c).2.1.trans (Cert.SampleIdeal.Gen.c_val m g c (hz c)),
       (h c).2.2.1.trans (Cert.SampleIdeal.Gen.n_val m g c (hz c)), (h c).2.2.2.1.trans (Cert.SampleIdeal.Gen.m_val m g c (hz c)),
       (h c).2.2.2.2.1.trans (Cert.SampleIdeal.Gen.s_val m g c), (h c).2.2.2.2.2⟩) (Cert.SampleIdeal.Gen.ends (F := Ideal) m g)
  · refine (θ_run (Cert.SampleRefIdeal.defs (F := Ideal)) _ _).mono (fun _ h c => ?_) (Cert.SampleRefIdeal.Value.run (F := Ideal) m' g')
    obtain ⟨e0, e1, e2, e3, e4, e5, e6, e7, e8, e9, e10⟩ := hag c
    obtain ⟨hy, hC, hn, hm, hS, hr⟩ := h c
    refine ⟨hy.trans ((Cert.SampleRefIdeal.Read.val_main_v220_eq (StableHlo.launchContents m' c)).trans ?_),
      hC.trans ((Cert.SampleRefIdeal.Read.val_main_v92_eq (StableHlo.launchContents m' c)).trans ?_),
      hn.trans ((Cert.SampleRefIdeal.Read.val_main_v97_eq (StableHlo.launchContents m' c)).trans ?_),
      hm.trans ((Cert.SampleRefIdeal.Read.val_main_v71_eq (StableHlo.launchContents m' c)).trans ?_),
      hS.trans ((Cert.SampleRefIdeal.Read.val_main_v167_eq (StableHlo.launchContents m' c)).trans ?_), hr⟩
    · show Cert.SampleRefIdeal.Read.val_main_v220 (F := Ideal) (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg5)) (m' ((c.tc : Thread Cert.SampleRefIdeal.nD Cert.SampleRefIdeal.τ).loc Cert.SampleRefIdeal.main_arg6)) (m' ((c.tc : Thread Cert.SampleRefIdeal.nD Cert.SampleRefIdeal.τ).loc Cert.SampleRefIdeal.main_arg7)) (m' ((c.tc : Thread Cert.SampleRefIdeal.nD Cert.SampleRefIdeal.τ).loc Cert.SampleRefIdeal.main_arg8)) (m' ((c.tc : Thread Cert.SampleRefIdeal.nD Cert.SampleRefIdeal.τ).loc Cert.SampleRefIdeal.main_arg9)) (m' ((c.tc : Thread Cert.SampleRefIdeal.nD Cert.SampleRefIdeal.τ).loc Cert.SampleRefIdeal.main_arg10)) = _
      rw [e0, e1, e2, e3, e4, e5, e6, e7, e8, e9, e10]
    · show Cert.SampleRefIdeal.Read.val_main_v92 (F := Ideal) (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg7)) (m' ((c.tc : Thread Cert.SampleRefIdeal.nD Cert.SampleRefIdeal.τ).loc Cert.SampleRefIdeal.main_arg9)) = _
      rw [e0, e1, e2, e3, e4, e7, e9]
    · show Cert.SampleRefIdeal.Read.val_main_v97 (F := Ideal) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg8)) (m' ((c.tc : Thread Cert.SampleRefIdeal.nD Cert.SampleRefIdeal.τ).loc Cert.SampleRefIdeal.main_arg9)) = _
      rw [e1, e2, e3, e4, e8, e9]
    · show Cert.SampleRefIdeal.Read.val_main_v71 (F := Ideal) (m' ((c.tc : Thread Cert.SampleRefIdeal.nD Cert.SampleRefIdeal.τ).loc Cert.SampleRefIdeal.main_arg2)) (m' ((c.tc : Thread Cert.SampleRefIdeal.nD Cert.SampleRefIdeal.τ).loc Cert.SampleRefIdeal.main_arg3)) (m' ((c.tc : Thread Cert.SampleRefIdeal.nD Cert.SampleRefIdeal.τ).loc Cert.SampleRefIdeal.main_arg4)) (m' ((c.tc : Thread Cert.SampleRefIdeal.nD Cert.SampleRefIdeal.τ).loc Cert.SampleRefIdeal.main_arg9)) = _
      rw [e2, e3, e4, e9]
    · show Cert.SampleRefIdeal.Read.val_main_v167 (F := Ideal) (m' ((c.tc : Thread Cert.SampleRefIdeal.nD Cert.SampleRefIdeal.τ).loc Cert.SampleRefIdeal.main_arg0)) (m' ((c.tc : Thread Cert.SampleRefIdeal.nD Cert.SampleRefIdeal.τ).loc Cert.SampleRefIdeal.main_arg1)) (m' ((c.tc : Thread Cert.SampleRefIdeal.nD Cert.SampleRefIdeal.τ).loc Cert.SampleRefIdeal.main_arg10)) = _
      rw [e0, e1, e10]

/-- The projection's reference declares no semaphore and leaves its arguments alone. -/
theorem frame_proj_ref : Cert.quiescent_ProjRefIdeal := fun m ρ _ =>
  (θ_run (Cert.ProjRefIdeal.defs (F := Ideal)) _ _).mono (fun r h => ⟨fun c => (h c).2.2.2,
      Idealize.ShloMosaic.sem_eq_zero_of_no_sems (by decide) r.2⟩)
    (Cert.ProjRefIdeal.Value.run (F := Ideal) m ρ)

/-- On every device the projection kernel and its reference end with the same three results. -/
theorem proj_values : Cert.algebraic_ProjIdeal_ProjRefIdeal := by
  intro m g m' g' _ hag
  refine ⟨fun c => Cert.ProjRefIdeal.Read.val_main_v120 (F := Ideal) (Cert.ProjIdeal.Gen.A0 m c) (Cert.ProjIdeal.Gen.A1 m c),
    fun c => Cert.ProjRefIdeal.Read.val_main_v123 (F := Ideal) (Cert.ProjIdeal.Gen.A0 m c) (Cert.ProjIdeal.Gen.A1 m c),
    fun c => Cert.ProjRefIdeal.Read.val_main_v127 (F := Ideal) (Cert.ProjIdeal.Gen.A2 m c), ?_, ?_⟩
  · exact (θ_run (Cert.ProjIdeal.defs (F := Ideal)) _ _).mono (fun _ h c =>
      ⟨(h c).1.trans (Cert.ProjIdeal.Gen.p_val m c), (h c).2.1.trans (Cert.ProjIdeal.Gen.kt_val m c),
       (h c).2.2.1.trans (Cert.ProjIdeal.Gen.wo_val m c), (h c).2.2.2⟩) (Cert.ProjIdeal.Value.run_blocks (F := Ideal) m g)
  · refine (θ_run (Cert.ProjRefIdeal.defs (F := Ideal)) _ _).mono (fun _ h c => ?_) (Cert.ProjRefIdeal.Value.run (F := Ideal) m' g')
    obtain ⟨e0, e1, e2⟩ := hag c
    obtain ⟨hp, hk, hw, hr⟩ := h c
    refine ⟨hp.trans ((Cert.ProjRefIdeal.Read.val_main_v120_eq m' c).trans ?_),
      hk.trans ((Cert.ProjRefIdeal.Read.val_main_v123_eq m' c).trans ?_),
      hw.trans ((Cert.ProjRefIdeal.Read.val_main_v127_eq _).trans ?_), hr⟩
    · rw [e0, e1]
    · rw [e0, e1]
    · rw [e2]

/-- The output projection's reference declares no semaphore and leaves its arguments alone. -/
theorem frame_out_ref : Cert.quiescent_OutRefIdeal := fun m ρ _ =>
  (θ_run (Cert.OutRefIdeal.defs (F := Ideal)) _ _).mono (fun r h => ⟨fun c => (h c).2,
      Idealize.ShloMosaic.sem_eq_zero_of_no_sems (by decide) r.2⟩)
    (Cert.OutRefIdeal.Value.run (F := Ideal) m ρ)

/-- On every device the output projection of the running requests and its reference end with the same result. -/
theorem out_values : Cert.algebraic_OutIdeal_OutRefIdeal := by
  intro m g m' g' _ hag
  refine ⟨fun c => Cert.OutRefIdeal.Read.val_main_v17 (F := Ideal) (Cert.OutIdeal.Gen.A0 m c) (Cert.OutIdeal.Gen.A1 m c)
    (Cert.OutIdeal.Gen.A2 m c) (Cert.OutIdeal.Gen.A3 m c), ?_, ?_⟩
  · exact (θ_run (Cert.OutIdeal.defs (F := Ideal)) _ _).mono (fun _ h c =>
      ⟨(h c).1.trans (Cert.OutIdeal.Gen.out_val m c), (h c).2⟩) (Cert.OutIdeal.Value.run_blocks (F := Ideal) m g)
  · refine (θ_run (Cert.OutRefIdeal.defs (F := Ideal)) _ _).mono (fun _ h c => ?_) (Cert.OutRefIdeal.Value.run (F := Ideal) m' g')
    obtain ⟨e0, e1, e2, e3⟩ := hag c
    refine ⟨(h c).1.trans ((Cert.OutRefIdeal.Read.val_main_v17_eq _ _ _ _).trans ?_), (h c).2⟩
    rw [e0, e1, e2, e3]

/-- The first norm's reference declares no semaphore and leaves its arguments alone. -/
theorem frame_norm_ref : Cert.quiescent_NormRefIdeal := fun m ρ _ =>
  (θ_run (Cert.NormRefIdeal.defs (F := Ideal)) _ _).mono (fun r h => ⟨fun c => (h c).2.2,
      Idealize.ShloMosaic.sem_eq_zero_of_no_sems (by decide) r.2⟩)
    (Cert.NormRefIdeal.Value.run (F := Ideal) m ρ)

/-- On every device the first norm and its reference end with the same rows and gate columns. -/
theorem norm_values : Cert.algebraic_NormIdeal_NormRefIdeal := by
  intro m g m' g' _ hag
  refine ⟨fun c => Cert.NormRefIdeal.Read.val_main_v22 (F := Ideal) (Cert.NormIdeal.Gen.A0 m c) (Cert.NormIdeal.Gen.A1 m c)
      (Cert.NormIdeal.Gen.A2 m c) (Cert.NormIdeal.Gen.A3 m c),
    fun c => Cert.NormRefIdeal.Read.val_main_v21 (F := Ideal) (Cert.NormIdeal.Gen.A0 m c) (Cert.NormIdeal.Gen.A1 m c)
      (Cert.NormIdeal.Gen.A2 m c) (Cert.NormIdeal.Gen.A3 m c) (Cert.NormIdeal.Gen.A4 m c), ?_, ?_⟩
  · exact (θ_run (Cert.NormIdeal.defs (F := Ideal)) _ _).mono (fun _ h c =>
      ⟨(h c).1.trans (Cert.NormIdeal.Gen.xn_val m c), (h c).2.1.trans (Cert.NormIdeal.Gen.gate_val m c), (h c).2.2⟩)
      (Cert.NormIdeal.Value.run_blocks (F := Ideal) m g)
  · refine (θ_run (Cert.NormRefIdeal.defs (F := Ideal)) _ _).mono (fun _ h c => ?_) (Cert.NormRefIdeal.Value.run (F := Ideal) m' g')
    obtain ⟨e0, e1, e2, e3, e4⟩ := hag c
    refine ⟨(h c).1.trans ((Cert.NormRefIdeal.Read.val_main_v22_eq _ _ _ _).trans ?_),
      (h c).2.1.trans ((Cert.NormRefIdeal.Read.val_main_v21_eq m' c).trans ?_), (h c).2.2⟩
    · rw [e0, e1, e2, e3]
    · rw [e0, e1, e2, e3, e4]

theorem claim : Cert.Claim := ⟨Cert.Sample.Gen.facts, Cert.SampleIdeal.Gen.facts, Cert.SampleRefIdeal.Gen.facts,
  Cert.Proj.Gen.facts, Cert.ProjIdeal.Gen.facts, Cert.ProjRefIdeal.Gen.facts,
  Cert.Out.Gen.facts, Cert.OutIdeal.Gen.facts, Cert.OutRefIdeal.Gen.facts,
  Cert.Norm.Gen.facts, Cert.NormIdeal.Gen.facts, Cert.NormRefIdeal.Gen.facts, Cert.Pre_forget_open.Gen.facts,
  fun m ρ _ => Cert.Sample.Gen.frame m ρ,
  fun m ρ _ => Cert.SampleIdeal.Gen.frame m ρ,
  fun m ρ _ => Cert.SampleIdeal.Gen.frame m ρ,
  frame_ref,
  fun m ρ _ => frame_ref m ρ trivial,
  fun m ρ _ => Cert.Proj.Gen.frame m ρ,
  fun m ρ _ => Cert.ProjIdeal.Gen.frame m ρ,
  frame_proj_ref,
  fun m ρ _ => Cert.Out.Gen.frame m ρ,
  fun m ρ _ => Cert.OutIdeal.Gen.frame m ρ,
  frame_out_ref,
  fun m ρ _ => Cert.Norm.Gen.frame m ρ,
  fun m ρ _ => Cert.NormIdeal.Gen.frame m ρ,
  frame_norm_ref,
  IdealRules.named_const.statement Cert.SampleIdeal.κ "log2e" .f32 0x3FB8AA3B#32 (((Real.log 2)⁻¹ : ℝ) : EReal) rfl,
  values,
  trivial,
  proj_values,
  trivial,
  out_values,
  trivial,
  norm_values⟩

end Cert.Proof

end
